-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Tokens (m : (ℓ : Loc Cert.Tokens.nD Cert.Tokens.τ Cert.Tokens.sig) → Buf (Elt Bits) ℓ) : Prop :=
  True

def Pre_TokensIdeal (m : (ℓ : Loc Cert.TokensIdeal.nD Cert.TokensIdeal.τ Cert.TokensIdeal.sig) → Buf (Elt Ideal) ℓ) : Prop :=
  True

def Pre_TokensReferenceIdeal (m : (ℓ : Loc Cert.TokensReferenceIdeal.nD Cert.TokensReferenceIdeal.τ Cert.TokensReferenceIdeal.sig) → Buf (Elt Ideal) ℓ) : Prop :=
  True

def Pre_Gradient (m : (ℓ : Loc Cert.Gradient.nD Cert.Gradient.τ Cert.Gradient.sig) → Buf (Elt Bits) ℓ) : Prop :=
  True

def Pre_GradientIdeal (m : (ℓ : Loc Cert.GradientIdeal.nD Cert.GradientIdeal.τ Cert.GradientIdeal.sig) → Buf (Elt Ideal) ℓ) : Prop :=
  True

def Pre_GradientReferenceIdeal (m : (ℓ : Loc Cert.GradientReferenceIdeal.nD Cert.GradientReferenceIdeal.τ Cert.GradientReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Tokens [hTokens : Cert.Tokens.Facts] : Prop :=
  ∀ (m : (ℓ : Loc Cert.Tokens.nD Cert.Tokens.τ Cert.Tokens.sig) → Buf (Elt Bits) ℓ) (g : Dev Cert.Tokens.nD → PrngReg), Pre_Tokens m →
    θ_run (Cert.Tokens.defs (F := Bits)) (onTc (τ := Cert.Tokens.τ) (Cert.Tokens.main (F := Bits))) ⟨m, fun _ => 0, g⟩ (fun r => (∀ c : Dev Cert.Tokens.nD,
      r.2.mem ((c.tc : Thread Cert.Tokens.nD Cert.Tokens.τ).loc Cert.Tokens.main_arg0) = m ((c.tc : Thread Cert.Tokens.nD Cert.Tokens.τ).loc Cert.Tokens.main_arg0)
      ∧ r.2.mem ((c.tc : Thread Cert.Tokens.nD Cert.Tokens.τ).loc Cert.Tokens.main_arg1) = m ((c.tc : Thread Cert.Tokens.nD Cert.Tokens.τ).loc Cert.Tokens.main_arg1))
      ∧ r.2.sem = fun _ => 0)

def quiescent_TokensIdeal [hTokensIdeal : Cert.TokensIdeal.Facts] : Prop :=
  ∀ (m : (ℓ : Loc Cert.TokensIdeal.nD Cert.TokensIdeal.τ Cert.TokensIdeal.sig) → Buf (Elt Ideal) ℓ) (g : Dev Cert.TokensIdeal.nD → PrngReg), Pre_TokensIdeal m →
    θ_run (Cert.TokensIdeal.defs (F := Ideal)) (onTc (τ := Cert.TokensIdeal.τ) (Cert.TokensIdeal.main (F := Ideal))) ⟨m, fun _ => 0, g⟩ (fun r => (∀ c : Dev Cert.TokensIdeal.nD,
      r.2.mem ((c.tc : Thread Cert.TokensIdeal.nD Cert.TokensIdeal.τ).loc Cert.TokensIdeal.main_arg0) = m ((c.tc : Thread Cert.TokensIdeal.nD Cert.TokensIdeal.τ).loc Cert.TokensIdeal.main_arg0)
      ∧ r.2.mem ((c.tc : Thread Cert.TokensIdeal.nD Cert.TokensIdeal.τ).loc Cert.TokensIdeal.main_arg1) = m ((c.tc : Thread Cert.TokensIdeal.nD Cert.TokensIdeal.τ).loc Cert.TokensIdeal.main_arg1))
      ∧ r.2.sem = fun _ => 0)

def quiescent_TokensReferenceIdeal [hTokensReferenceIdeal : Cert.TokensReferenceIdeal.Facts] : Prop :=
  ∀ (m : (ℓ : Loc Cert.TokensReferenceIdeal.nD Cert.TokensReferenceIdeal.τ Cert.TokensReferenceIdeal.sig) → Buf (Elt Ideal) ℓ) (g : Dev Cert.TokensReferenceIdeal.nD → PrngReg), Pre_TokensReferenceIdeal m →
    θ_run (Cert.TokensReferenceIdeal.defs (F := Ideal)) (onTc (τ := Cert.TokensReferenceIdeal.τ) (Cert.TokensReferenceIdeal.main (F := Ideal))) ⟨m, fun _ => 0, g⟩ (fun r => (∀ c : Dev Cert.TokensReferenceIdeal.nD,
      r.2.mem ((c.tc : Thread Cert.TokensReferenceIdeal.nD Cert.TokensReferenceIdeal.τ).loc Cert.TokensReferenceIdeal.main_arg0) = m ((c.tc : Thread Cert.TokensReferenceIdeal.nD Cert.TokensReferenceIdeal.τ).loc Cert.TokensReferenceIdeal.main_arg0)
      ∧ r.2.mem ((c.tc : Thread Cert.TokensReferenceIdeal.nD Cert.TokensReferenceIdeal.τ).loc Cert.TokensReferenceIdeal.main_arg1) = m ((c.tc : Thread Cert.TokensReferenceIdeal.nD Cert.TokensReferenceIdeal.τ).loc Cert.TokensReferenceIdeal.main_arg1))
      ∧ r.2.sem = fun _ => 0)

def quiescent_Gradient [hGradient : Cert.Gradient.Facts] : Prop :=
  ∀ (m : (ℓ : Loc Cert.Gradient.nD Cert.Gradient.τ Cert.Gradient.sig) → Buf (Elt Bits) ℓ) (g : Dev Cert.Gradient.nD → PrngReg), Pre_Gradient m →
    θ_run (Cert.Gradient.defs (F := Bits)) (onTc (τ := Cert.Gradient.τ) (Cert.Gradient.main (F := Bits))) ⟨m, fun _ => 0, g⟩ (fun r => (∀ c : Dev Cert.Gradient.nD,
      r.2.mem ((c.tc : Thread Cert.Gradient.nD Cert.Gradient.τ).loc Cert.Gradient.main_arg0) = m ((c.tc : Thread Cert.Gradient.nD Cert.Gradient.τ).loc Cert.Gradient.main_arg0)
      ∧ r.2.mem ((c.tc : Thread Cert.Gradient.nD Cert.Gradient.τ).loc Cert.Gradient.main_arg1) = m ((c.tc : Thread Cert.Gradient.nD Cert.Gradient.τ).loc Cert.Gradient.main_arg1)
      ∧ r.2.mem ((c.tc : Thread Cert.Gradient.nD Cert.Gradient.τ).loc Cert.Gradient.main_arg2) = m ((c.tc : Thread Cert.Gradient.nD Cert.Gradient.τ).loc Cert.Gradient.main_arg2)
      ∧ r.2.mem ((c.tc : Thread Cert.Gradient.nD Cert.Gradient.τ).loc Cert.Gradient.main_arg3) = m ((c.tc : Thread Cert.Gradient.nD Cert.Gradient.τ).loc Cert.Gradient.main_arg3)
      ∧ r.2.mem ((c.tc : Thread Cert.Gradient.nD Cert.Gradient.τ).loc Cert.Gradient.main_arg4) = m ((c.tc : Thread Cert.Gradient.nD Cert.Gradient.τ).loc Cert.Gradient.main_arg4)
      ∧ r.2.mem ((c.tc : Thread Cert.Gradient.nD Cert.Gradient.τ).loc Cert.Gradient.main_arg5) = m ((c.tc : Thread Cert.Gradient.nD Cert.Gradient.τ).loc Cert.Gradient.main_arg5))
      ∧ r.2.sem = fun _ => 0)

def quiescent_GradientIdeal [hGradientIdeal : Cert.GradientIdeal.Facts] : Prop :=
  ∀ (m : (ℓ : Loc Cert.GradientIdeal.nD Cert.GradientIdeal.τ Cert.GradientIdeal.sig) → Buf (Elt Ideal) ℓ) (g : Dev Cert.GradientIdeal.nD → PrngReg), Pre_GradientIdeal m →
    θ_run (Cert.GradientIdeal.defs (F := Ideal)) (onTc (τ := Cert.GradientIdeal.τ) (Cert.GradientIdeal.main (F := Ideal))) ⟨m, fun _ => 0, g⟩ (fun r => (∀ c : Dev Cert.GradientIdeal.nD,
      r.2.mem ((c.tc : Thread Cert.GradientIdeal.nD Cert.GradientIdeal.τ).loc Cert.GradientIdeal.main_arg0) = m ((c.tc : Thread Cert.GradientIdeal.nD Cert.GradientIdeal.τ).loc Cert.GradientIdeal.main_arg0)
      ∧ r.2.mem ((c.tc : Thread Cert.GradientIdeal.nD Cert.GradientIdeal.τ).loc Cert.GradientIdeal.main_arg1) = m ((c.tc : Thread Cert.GradientIdeal.nD Cert.GradientIdeal.τ).loc Cert.GradientIdeal.main_arg1)
      ∧ r.2.mem ((c.tc : Thread Cert.GradientIdeal.nD Cert.GradientIdeal.τ).loc Cert.GradientIdeal.main_arg2) = m ((c.tc : Thread Cert.GradientIdeal.nD Cert.GradientIdeal.τ).loc Cert.GradientIdeal.main_arg2)
      ∧ r.2.mem ((c.tc : Thread Cert.GradientIdeal.nD Cert.GradientIdeal.τ).loc Cert.GradientIdeal.main_arg3) = m ((c.tc : Thread Cert.GradientIdeal.nD Cert.GradientIdeal.τ).loc Cert.GradientIdeal.main_arg3)
      ∧ r.2.mem ((c.tc : Thread Cert.GradientIdeal.nD Cert.GradientIdeal.τ).loc Cert.GradientIdeal.main_arg4) = m ((c.tc : Thread Cert.GradientIdeal.nD Cert.GradientIdeal.τ).loc Cert.GradientIdeal.main_arg4)
      ∧ r.2.mem ((c.tc : Thread Cert.GradientIdeal.nD Cert.GradientIdeal.τ).loc Cert.GradientIdeal.main_arg5) = m ((c.tc : Thread Cert.GradientIdeal.nD Cert.GradientIdeal.τ).loc Cert.GradientIdeal.main_arg5))
      ∧ r.2.sem = fun _ => 0)

def quiescent_GradientReferenceIdeal [hGradientReferenceIdeal : Cert.GradientReferenceIdeal.Facts] : Prop :=
  ∀ (m : (ℓ : Loc Cert.GradientReferenceIdeal.nD Cert.GradientReferenceIdeal.τ Cert.GradientReferenceIdeal.sig) → Buf (Elt Ideal) ℓ) (g : Dev Cert.GradientReferenceIdeal.nD → PrngReg), Pre_GradientReferenceIdeal m →
    θ_run (Cert.GradientReferenceIdeal.defs (F := Ideal)) (onTc (τ := Cert.GradientReferenceIdeal.τ) (Cert.GradientReferenceIdeal.main (F := Ideal))) ⟨m, fun _ => 0, g⟩ (fun r => (∀ c : Dev Cert.GradientReferenceIdeal.nD,
      r.2.mem ((c.tc : Thread Cert.GradientReferenceIdeal.nD Cert.GradientReferenceIdeal.τ).loc Cert.GradientReferenceIdeal.main_arg0) = m ((c.tc : Thread Cert.GradientReferenceIdeal.nD Cert.GradientReferenceIdeal.τ).loc Cert.GradientReferenceIdeal.main_arg0)
      ∧ r.2.mem ((c.tc : Thread Cert.GradientReferenceIdeal.nD Cert.GradientReferenceIdeal.τ).loc Cert.GradientReferenceIdeal.main_arg1) = m ((c.tc : Thread Cert.GradientReferenceIdeal.nD Cert.GradientReferenceIdeal.τ).loc Cert.GradientReferenceIdeal.main_arg1)
      ∧ r.2.mem ((c.tc : Thread Cert.GradientReferenceIdeal.nD Cert.GradientReferenceIdeal.τ).loc Cert.GradientReferenceIdeal.main_arg2) = m ((c.tc : Thread Cert.GradientReferenceIdeal.nD Cert.GradientReferenceIdeal.τ).loc Cert.GradientReferenceIdeal.main_arg2)
      ∧ r.2.mem ((c.tc : Thread Cert.GradientReferenceIdeal.nD Cert.GradientReferenceIdeal.τ).loc Cert.GradientReferenceIdeal.main_arg3) = m ((c.tc : Thread Cert.GradientReferenceIdeal.nD Cert.GradientReferenceIdeal.τ).loc Cert.GradientReferenceIdeal.main_arg3)
      ∧ r.2.mem ((c.tc : Thread Cert.GradientReferenceIdeal.nD Cert.GradientReferenceIdeal.τ).loc Cert.GradientReferenceIdeal.main_arg4) = m ((c.tc : Thread Cert.GradientReferenceIdeal.nD Cert.GradientReferenceIdeal.τ).loc Cert.GradientReferenceIdeal.main_arg4)
      ∧ r.2.mem ((c.tc : Thread Cert.GradientReferenceIdeal.nD Cert.GradientReferenceIdeal.τ).loc Cert.GradientReferenceIdeal.main_arg5) = m ((c.tc : Thread Cert.GradientReferenceIdeal.nD Cert.GradientReferenceIdeal.τ).loc Cert.GradientReferenceIdeal.main_arg5))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v8_3)) (v4 : (c : Dev Cert.KernelIdeal.nD) → Buf (Elt Ideal) ((c.tc : Thread Cert.KernelIdeal.nD Cert.KernelIdeal.τ).loc Cert.KernelIdeal.main_v8_4)) (v5 : (c : Dev Cert.KernelIdeal.nD) → Buf (Elt Ideal) ((c.tc : Thread Cert.KernelIdeal.nD Cert.KernelIdeal.τ).loc Cert.KernelIdeal.main_v8_5)) (v6 : (c : Dev Cert.KernelIdeal.nD) → Buf (Elt Ideal) ((c.tc : Thread Cert.KernelIdeal.nD Cert.KernelIdeal.τ).loc Cert.KernelIdeal.main_v8_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v8_3) = v3 c
          ∧ r.2.mem ((c.tc : Thread Cert.KernelIdeal.nD Cert.KernelIdeal.τ).loc Cert.KernelIdeal.main_v8_4) = v4 c
          ∧ r.2.mem ((c.tc : Thread Cert.KernelIdeal.nD Cert.KernelIdeal.τ).loc Cert.KernelIdeal.main_v8_5) = v5 c
          ∧ r.2.mem ((c.tc : Thread Cert.KernelIdeal.nD Cert.KernelIdeal.τ).loc Cert.KernelIdeal.main_v8_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6_0) = v0 c
          ∧ r.2.mem ((c.tc : Thread Cert.ReferenceIdeal.nD Cert.ReferenceIdeal.τ).loc Cert.ReferenceIdeal.main_v6_1) = v1 c
          ∧ r.2.mem ((c.tc : Thread Cert.ReferenceIdeal.nD Cert.ReferenceIdeal.τ).loc Cert.ReferenceIdeal.main_v6_2) = v2 c
          ∧ r.2.mem ((c.tc : Thread Cert.ReferenceIdeal.nD Cert.ReferenceIdeal.τ).loc Cert.ReferenceIdeal.main_v6_3) = v3 c
          ∧ r.2.mem ((c.tc : Thread Cert.ReferenceIdeal.nD Cert.ReferenceIdeal.τ).loc Cert.ReferenceIdeal.main_v6_4) = v4 c
          ∧ r.2.mem ((c.tc : Thread Cert.ReferenceIdeal.nD Cert.ReferenceIdeal.τ).loc Cert.ReferenceIdeal.main_v6_5) = v5 c
          ∧ r.2.mem ((c.tc : Thread Cert.ReferenceIdeal.nD Cert.ReferenceIdeal.τ).loc Cert.ReferenceIdeal.main_v6_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Tokens_TokensIdeal : Prop :=
  True

def algebraic_TokensIdeal_TokensReferenceIdeal [hTokensIdeal : Cert.TokensIdeal.Facts] [hTokensReferenceIdeal : Cert.TokensReferenceIdeal.Facts] : Prop :=
  ∀ (m : (ℓ : Loc Cert.TokensIdeal.nD Cert.TokensIdeal.τ Cert.TokensIdeal.sig) → Buf (Elt Ideal) ℓ) (g : Dev Cert.TokensIdeal.nD → PrngReg)
    (m' : (ℓ : Loc Cert.TokensReferenceIdeal.nD Cert.TokensReferenceIdeal.τ Cert.TokensReferenceIdeal.sig) → Buf (Elt Ideal) ℓ) (g' : Dev Cert.TokensReferenceIdeal.nD → PrngReg), Pre_TokensIdeal m →
    (∀ c : Dev Cert.TokensIdeal.nD,
      m' ((c.tc : Thread Cert.TokensReferenceIdeal.nD Cert.TokensReferenceIdeal.τ).loc Cert.TokensReferenceIdeal.main_arg0) = m ((c.tc : Thread Cert.TokensIdeal.nD Cert.TokensIdeal.τ).loc Cert.TokensIdeal.main_arg0)
      ∧ m' ((c.tc : Thread Cert.TokensReferenceIdeal.nD Cert.TokensReferenceIdeal.τ).loc Cert.TokensReferenceIdeal.main_arg1) = m ((c.tc : Thread Cert.TokensIdeal.nD Cert.TokensIdeal.τ).loc Cert.TokensIdeal.main_arg1)) →
    ∃ (v0 : (c : Dev Cert.TokensIdeal.nD) → Buf (Elt Ideal) ((c.tc : Thread Cert.TokensIdeal.nD Cert.TokensIdeal.τ).loc Cert.TokensIdeal.main_v1_4)) (v1 : (c : Dev Cert.TokensIdeal.nD) → Buf (Elt Ideal) ((c.tc : Thread Cert.TokensIdeal.nD Cert.TokensIdeal.τ).loc Cert.TokensIdeal.main_v1_5)),
      θ_run (Cert.TokensIdeal.defs (F := Ideal)) (onTc (τ := Cert.TokensIdeal.τ) (Cert.TokensIdeal.main (F := Ideal))) ⟨m, fun _ => 0, g⟩ (fun r => ∀ c : Dev Cert.TokensIdeal.nD,
          r.2.mem ((c.tc : Thread Cert.TokensIdeal.nD Cert.TokensIdeal.τ).loc Cert.TokensIdeal.main_v1_4) = v0 c
          ∧ r.2.mem ((c.tc : Thread Cert.TokensIdeal.nD Cert.TokensIdeal.τ).loc Cert.TokensIdeal.main_v1_5) = v1 c
          ∧ r.2.mem ((c.tc : Thread Cert.TokensIdeal.nD Cert.TokensIdeal.τ).loc Cert.TokensIdeal.main_arg0) = m ((c.tc : Thread Cert.TokensIdeal.nD Cert.TokensIdeal.τ).loc Cert.TokensIdeal.main_arg0)
          ∧ r.2.mem ((c.tc : Thread Cert.TokensIdeal.nD Cert.TokensIdeal.τ).loc Cert.TokensIdeal.main_arg1) = m ((c.tc : Thread Cert.TokensIdeal.nD Cert.TokensIdeal.τ).loc Cert.TokensIdeal.main_arg1))
      ∧ θ_run (Cert.TokensReferenceIdeal.defs (F := Ideal)) (onTc (τ := Cert.TokensReferenceIdeal.τ) (Cert.TokensReferenceIdeal.main (F := Ideal))) ⟨m', fun _ => 0, g'⟩ (fun r => ∀ c : Dev Cert.TokensReferenceIdeal.nD,
          r.2.mem ((c.tc : Thread Cert.TokensReferenceIdeal.nD Cert.TokensReferenceIdeal.τ).loc Cert.TokensReferenceIdeal.main_v1_0) = v0 c
          ∧ r.2.mem ((c.tc : Thread Cert.TokensReferenceIdeal.nD Cert.TokensReferenceIdeal.τ).loc Cert.TokensReferenceIdeal.main_v1_1) = v1 c
          ∧ r.2.mem ((c.tc : Thread Cert.TokensReferenceIdeal.nD Cert.TokensReferenceIdeal.τ).loc Cert.TokensReferenceIdeal.main_arg0) = m' ((c.tc : Thread Cert.TokensReferenceIdeal.nD Cert.TokensReferenceIdeal.τ).loc Cert.TokensReferenceIdeal.main_arg0)
          ∧ r.2.mem ((c.tc : Thread Cert.TokensReferenceIdeal.nD Cert.TokensReferenceIdeal.τ).loc Cert.TokensReferenceIdeal.main_arg1) = m' ((c.tc : Thread Cert.TokensReferenceIdeal.nD Cert.TokensReferenceIdeal.τ).loc Cert.TokensReferenceIdeal.main_arg1))

def preserves_Gradient_GradientIdeal : Prop :=
  True

def algebraic_GradientIdeal_GradientReferenceIdeal [hGradientIdeal : Cert.GradientIdeal.Facts] [hGradientReferenceIdeal : Cert.GradientReferenceIdeal.Facts] : Prop :=
  ∀ (m : (ℓ : Loc Cert.GradientIdeal.nD Cert.GradientIdeal.τ Cert.GradientIdeal.sig) → Buf (Elt Ideal) ℓ) (g : Dev Cert.GradientIdeal.nD → PrngReg)
    (m' : (ℓ : Loc Cert.GradientReferenceIdeal.nD Cert.GradientReferenceIdeal.τ Cert.GradientReferenceIdeal.sig) → Buf (Elt Ideal) ℓ) (g' : Dev Cert.GradientReferenceIdeal.nD → PrngReg), Pre_GradientIdeal m →
    (∀ c : Dev Cert.GradientIdeal.nD,
      m' ((c.tc : Thread Cert.GradientReferenceIdeal.nD Cert.GradientReferenceIdeal.τ).loc Cert.GradientReferenceIdeal.main_arg0) = m ((c.tc : Thread Cert.GradientIdeal.nD Cert.GradientIdeal.τ).loc Cert.GradientIdeal.main_arg0)
      ∧ m' ((c.tc : Thread Cert.GradientReferenceIdeal.nD Cert.GradientReferenceIdeal.τ).loc Cert.GradientReferenceIdeal.main_arg1) = m ((c.tc : Thread Cert.GradientIdeal.nD Cert.GradientIdeal.τ).loc Cert.GradientIdeal.main_arg1)
      ∧ m' ((c.tc : Thread Cert.GradientReferenceIdeal.nD Cert.GradientReferenceIdeal.τ).loc Cert.GradientReferenceIdeal.main_arg2) = m ((c.tc : Thread Cert.GradientIdeal.nD Cert.GradientIdeal.τ).loc Cert.GradientIdeal.main_arg2)
      ∧ m' ((c.tc : Thread Cert.GradientReferenceIdeal.nD Cert.GradientReferenceIdeal.τ).loc Cert.GradientReferenceIdeal.main_arg3) = m ((c.tc : Thread Cert.GradientIdeal.nD Cert.GradientIdeal.τ).loc Cert.GradientIdeal.main_arg3)
      ∧ m' ((c.tc : Thread Cert.GradientReferenceIdeal.nD Cert.GradientReferenceIdeal.τ).loc Cert.GradientReferenceIdeal.main_arg4) = m ((c.tc : Thread Cert.GradientIdeal.nD Cert.GradientIdeal.τ).loc Cert.GradientIdeal.main_arg4)
      ∧ m' ((c.tc : Thread Cert.GradientReferenceIdeal.nD Cert.GradientReferenceIdeal.τ).loc Cert.GradientReferenceIdeal.main_arg5) = m ((c.tc : Thread Cert.GradientIdeal.nD Cert.GradientIdeal.τ).loc Cert.GradientIdeal.main_arg5)) →
    ∃ (v0 : (c : Dev Cert.GradientIdeal.nD) → Buf (Elt Ideal) ((c.tc : Thread Cert.GradientIdeal.nD Cert.GradientIdeal.τ).loc Cert.GradientIdeal.main_v8_0)),
      θ_run (Cert.GradientIdeal.defs (F := Ideal)) (onTc (τ := Cert.GradientIdeal.τ) (Cert.GradientIdeal.main (F := Ideal))) ⟨m, fun _ => 0, g⟩ (fun r => ∀ c : Dev Cert.GradientIdeal.nD,
          r.2.mem ((c.tc : Thread Cert.GradientIdeal.nD Cert.GradientIdeal.τ).loc Cert.GradientIdeal.main_v8_0) = v0 c
          ∧ r.2.mem ((c.tc : Thread Cert.GradientIdeal.nD Cert.GradientIdeal.τ).loc Cert.GradientIdeal.main_arg0) = m ((c.tc : Thread Cert.GradientIdeal.nD Cert.GradientIdeal.τ).loc Cert.GradientIdeal.main_arg0)
          ∧ r.2.mem ((c.tc : Thread Cert.GradientIdeal.nD Cert.GradientIdeal.τ).loc Cert.GradientIdeal.main_arg1) = m ((c.tc : Thread Cert.GradientIdeal.nD Cert.GradientIdeal.τ).loc Cert.GradientIdeal.main_arg1)
          ∧ r.2.mem ((c.tc : Thread Cert.GradientIdeal.nD Cert.GradientIdeal.τ).loc Cert.GradientIdeal.main_arg2) = m ((c.tc : Thread Cert.GradientIdeal.nD Cert.GradientIdeal.τ).loc Cert.GradientIdeal.main_arg2)
          ∧ r.2.mem ((c.tc : Thread Cert.GradientIdeal.nD Cert.GradientIdeal.τ).loc Cert.GradientIdeal.main_arg3) = m ((c.tc : Thread Cert.GradientIdeal.nD Cert.GradientIdeal.τ).loc Cert.GradientIdeal.main_arg3)
          ∧ r.2.mem ((c.tc : Thread Cert.GradientIdeal.nD Cert.GradientIdeal.τ).loc Cert.GradientIdeal.main_arg4) = m ((c.tc : Thread Cert.GradientIdeal.nD Cert.GradientIdeal.τ).loc Cert.GradientIdeal.main_arg4)
          ∧ r.2.mem ((c.tc : Thread Cert.GradientIdeal.nD Cert.GradientIdeal.τ).loc Cert.GradientIdeal.main_arg5) = m ((c.tc : Thread Cert.GradientIdeal.nD Cert.GradientIdeal.τ).loc Cert.GradientIdeal.main_arg5))
      ∧ θ_run (Cert.GradientReferenceIdeal.defs (F := Ideal)) (onTc (τ := Cert.GradientReferenceIdeal.τ) (Cert.GradientReferenceIdeal.main (F := Ideal))) ⟨m', fun _ => 0, g'⟩ (fun r => ∀ c : Dev Cert.GradientReferenceIdeal.nD,
          r.2.mem ((c.tc : Thread Cert.GradientReferenceIdeal.nD Cert.GradientReferenceIdeal.τ).loc Cert.GradientReferenceIdeal.main_v7) = v0 c
          ∧ r.2.mem ((c.tc : Thread Cert.GradientReferenceIdeal.nD Cert.GradientReferenceIdeal.τ).loc Cert.GradientReferenceIdeal.main_arg0) = m' ((c.tc : Thread Cert.GradientReferenceIdeal.nD Cert.GradientReferenceIdeal.τ).loc Cert.GradientReferenceIdeal.main_arg0)
          ∧ r.2.mem ((c.tc : Thread Cert.GradientReferenceIdeal.nD Cert.GradientReferenceIdeal.τ).loc Cert.GradientReferenceIdeal.main_arg1) = m' ((c.tc : Thread Cert.GradientReferenceIdeal.nD Cert.GradientReferenceIdeal.τ).loc Cert.GradientReferenceIdeal.main_arg1)
          ∧ r.2.mem ((c.tc : Thread Cert.GradientReferenceIdeal.nD Cert.GradientReferenceIdeal.τ).loc Cert.GradientReferenceIdeal.main_arg2) = m' ((c.tc : Thread Cert.GradientReferenceIdeal.nD Cert.GradientReferenceIdeal.τ).loc Cert.GradientReferenceIdeal.main_arg2)
          ∧ r.2.mem ((c.tc : Thread Cert.GradientReferenceIdeal.nD Cert.GradientReferenceIdeal.τ).loc Cert.GradientReferenceIdeal.main_arg3) = m' ((c.tc : Thread Cert.GradientReferenceIdeal.nD Cert.GradientReferenceIdeal.τ).loc Cert.GradientReferenceIdeal.main_arg3)
          ∧ r.2.mem ((c.tc : Thread Cert.GradientReferenceIdeal.nD Cert.GradientReferenceIdeal.τ).loc Cert.GradientReferenceIdeal.main_arg4) = m' ((c.tc : Thread Cert.GradientReferenceIdeal.nD Cert.GradientReferenceIdeal.τ).loc Cert.GradientReferenceIdeal.main_arg4)
          ∧ r.2.mem ((c.tc : Thread Cert.GradientReferenceIdeal.nD Cert.GradientReferenceIdeal.τ).loc Cert.GradientReferenceIdeal.main_arg5) = m' ((c.tc : Thread Cert.GradientReferenceIdeal.nD Cert.GradientReferenceIdeal.τ).loc Cert.GradientReferenceIdeal.main_arg5))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)) →
    ∃ (v0 : (c : Dev Cert.NormIdeal.nD) → Buf (Elt Ideal) ((c.tc : Thread Cert.NormIdeal.nD Cert.NormIdeal.τ).loc Cert.NormIdeal.main_v2)) (v1 : (c : Dev Cert.NormIdeal.nD) → Buf (Elt Ideal) ((c.tc : Thread Cert.NormIdeal.nD Cert.NormIdeal.τ).loc Cert.NormIdeal.main_v4)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v2) = v0 c
          ∧ r.2.mem ((c.tc : Thread Cert.NormIdeal.nD Cert.NormIdeal.τ).loc Cert.NormIdeal.main_v4) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v4) = v0 c
          ∧ r.2.mem ((c.tc : Thread Cert.NormReferenceIdeal.nD Cert.NormReferenceIdeal.τ).loc Cert.NormReferenceIdeal.main_v6) = v1 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0))

def Claim : Prop :=
  ∃ (hKernel : Cert.Kernel.Facts) (hKernelIdeal : Cert.KernelIdeal.Facts) (hReferenceIdeal : Cert.ReferenceIdeal.Facts) (hTokens : Cert.Tokens.Facts) (hTokensIdeal : Cert.TokensIdeal.Facts) (hTokensReferenceIdeal : Cert.TokensReferenceIdeal.Facts) (hGradient : Cert.Gradient.Facts) (hGradientIdeal : Cert.GradientIdeal.Facts) (hGradientReferenceIdeal : Cert.GradientReferenceIdeal.Facts) (hNorm : Cert.Norm.Facts) (hNormIdeal : Cert.NormIdeal.Facts) (hNormReferenceIdeal : Cert.NormReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Tokens (hTokens := hTokens)
    ∧ quiescent_TokensIdeal (hTokensIdeal := hTokensIdeal)
    ∧ quiescent_TokensReferenceIdeal (hTokensReferenceIdeal := hTokensReferenceIdeal)
    ∧ quiescent_Gradient (hGradient := hGradient)
    ∧ quiescent_GradientIdeal (hGradientIdeal := hGradientIdeal)
    ∧ quiescent_GradientReferenceIdeal (hGradientReferenceIdeal := hGradientReferenceIdeal)
    ∧ quiescent_Norm (hNorm := hNorm)
    ∧ quiescent_NormIdeal (hNormIdeal := hNormIdeal)
    ∧ quiescent_NormReferenceIdeal (hNormReferenceIdeal := hNormReferenceIdeal)
    ∧ preserves_Kernel_KernelIdeal
    ∧ algebraic_KernelIdeal_ReferenceIdeal (hKernelIdeal := hKernelIdeal) (hReferenceIdeal := hReferenceIdeal)
    ∧ preserves_Tokens_TokensIdeal
    ∧ algebraic_TokensIdeal_TokensReferenceIdeal (hTokensIdeal := hTokensIdeal) (hTokensReferenceIdeal := hTokensReferenceIdeal)
    ∧ preserves_Gradient_GradientIdeal
    ∧ algebraic_GradientIdeal_GradientReferenceIdeal (hGradientIdeal := hGradientIdeal) (hGradientReferenceIdeal := hGradientReferenceIdeal)
    ∧ preserves_Norm_NormIdeal
    ∧ algebraic_NormIdeal_NormReferenceIdeal (hNormIdeal := hNormIdeal) (hNormReferenceIdeal := hNormReferenceIdeal)
-- ==== Kernel.lean ====
abbrev S3x8192x2048 : Shape := ⟨3, ![3, 8192, 2048]⟩
abbrev S3x1x256x8192 : Shape := ⟨4, ![3, 1, 256, 8192]⟩
abbrev S2048x2048 : Shape := ⟨2, ![2048, 2048]⟩
abbrev S1x256x2048 : Shape := ⟨3, ![1, 256, 2048]⟩
abbrev S1x256 : Shape := ⟨2, ![1, 256]⟩
abbrev S24576x2048 : Shape := ⟨2, ![24576, 2048]⟩
abbrev S3x256x8192 : Shape := ⟨3, ![3, 256, 8192]⟩
abbrev S256x2048 : Shape := ⟨2, ![256, 2048]⟩
abbrev S2048x256 : Shape := ⟨2, ![2048, 256]⟩
abbrev S256x1 : Shape := ⟨2, ![256, 1]⟩
abbrev S256x128 : Shape := ⟨2, ![256, 128]⟩
abbrev S24x1x1024 : Shape := ⟨3, ![24, 1, 1024]⟩
abbrev S1x1 : Shape := ⟨2, ![1, 1]⟩
abbrev S1024x2048 : Shape := ⟨2, ![1024, 2048]⟩
abbrev S512x2048 : Shape := ⟨2, ![512, 2048]⟩
abbrev S1x256x1024 : Shape := ⟨3, ![1, 256, 1024]⟩
abbrev S1x1x1024 : Shape := ⟨3, ![1, 1, 1024]⟩
abbrev S2048x512 : Shape := ⟨2, ![2048, 512]⟩
abbrev S8x128 : Shape := ⟨2, ![8, 128]⟩
abbrev S32x2048 : Shape := ⟨2, ![32, 2048]⟩
abbrev S32 : Shape := ⟨1, ![32]⟩
abbrev S32x1 : Shape := ⟨2, ![32, 1]⟩
abbrev S32x128 : Shape := ⟨2, ![32, 128]⟩
abbrev S128x128 : Shape := ⟨2, ![128, 128]⟩
abbrev S1x128 : Shape := ⟨2, ![1, 128]⟩
abbrev S128 : Shape := ⟨1, ![128]⟩
abbrev S1x512 : Shape := ⟨2, ![1, 512]⟩
abbrev S1x1x512 : Shape := ⟨3, ![1, 1, 512]⟩
abbrev S256x512 : Shape := ⟨2, ![256, 512]⟩
abbrev S1x256x512 : Shape := ⟨3, ![1, 256, 512]⟩
abbrev S32x8x128 : Shape := ⟨3, ![32, 8, 128]⟩
abbrev S1x8x128 : Shape := ⟨3, ![1, 8, 128]⟩
abbrev S1 : Shape := ⟨1, ![1]⟩
abbrev S1x1x1 : Shape := ⟨3, ![1, 1, 1]⟩

abbrev nBuf : Space → Nat
  | .hbm => 20
  | .vmem => 25
  | .smem => 1
  | _ => 0

abbrev bufTy : (tb : Table) → Fin (tcTables nBuf tb) → BufTy
  | .hbm, ⟨0, _⟩ => ⟨S3x8192x2048, .bf16⟩
  | .hbm, ⟨1, _⟩ => ⟨S3x1x256x8192, .bf16⟩
  | .hbm, ⟨2, _⟩ => ⟨S2048x2048, .f32⟩
  | .hbm, ⟨3, _⟩ => ⟨S1x256x2048, .bf16⟩
  | .hbm, ⟨4, _⟩ => ⟨S1x256, .f32⟩
  | .hbm, ⟨5, _⟩ => ⟨S24576x2048, .bf16⟩
  | .hbm, ⟨6, _⟩ => ⟨S3x256x8192, .bf16⟩
  | .hbm, ⟨7, _⟩ => ⟨S2048x2048, .bf16⟩
  | .hbm, ⟨8, _⟩ => ⟨S256x2048, .bf16⟩
  | .hbm, ⟨9, _⟩ => ⟨S256x2048, .bf16⟩
  | .hbm, ⟨10, _⟩ => ⟨S2048x256, .bf16⟩
  | .hbm, ⟨11, _⟩ => ⟨S256x1, .f32⟩
  | .hbm, ⟨12, _⟩ => ⟨S256x128, .f32⟩
  | .hbm, ⟨13, _⟩ => ⟨S24576x2048, .i8⟩
  | .hbm, ⟨14, _⟩ => ⟨S24x1x1024, .f32⟩
  | .hbm, ⟨15, _⟩ => ⟨S24x1x1024, .f32⟩
  | .hbm, ⟨16, _⟩ => ⟨S3x256x8192, .f32⟩
  | .hbm, ⟨17, _⟩ => ⟨S2048x2048, .f32⟩
  | .hbm, ⟨18, _⟩ => ⟨S256x2048, .f32⟩
  | .hbm, ⟨19, _⟩ => ⟨S1x1, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1x256x1024, .bf16⟩
  | .local _ .vmem, ⟨5, _⟩ => ⟨S1x256x1024, .bf16⟩
  | .local _ .vmem, ⟨6, _⟩ => ⟨S2048x2048, .bf16⟩
  | .local _ .vmem, ⟨7, _⟩ => ⟨S256x2048, .bf16⟩
  | .local _ .vmem, ⟨8, _⟩ => ⟨S2048x256, .bf16⟩
  | .local _ .vmem, ⟨9, _⟩ => ⟨S256x128, .f32⟩
  | .local _ .vmem, ⟨10, _⟩ => ⟨S1024x2048, .i8⟩
  | .local _ .vmem, ⟨11, _⟩ => ⟨S1024x2048, .i8⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x256x1024, .f32⟩
  | .local _ .vmem, ⟨17, _⟩ => ⟨S1x256x1024, .f32⟩
  | .local _ .vmem, ⟨18, _⟩ => ⟨S2048x2048, .f32⟩
  | .local _ .vmem, ⟨19, _⟩ => ⟨S256x2048, .f32⟩
  | .local _ .vmem, ⟨20, _⟩ => ⟨S512x2048, .f32⟩
  | .local _ .vmem, ⟨21, _⟩ => ⟨S512x2048, .f32⟩
  | .local _ .vmem, ⟨22, _⟩ => ⟨S512x2048, .bf16⟩
  | .local _ .vmem, ⟨23, _⟩ => ⟨S2048x512, .bf16⟩
  | .local _ .vmem, ⟨24, _⟩ => ⟨S8x128, .f32⟩
  | .local _ .smem, ⟨0, _⟩ => ⟨S1x1, .f32⟩
  | _, _ => ⟨S3x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev main_v8_4 : Ref sig .tc := ⟨.hbm, 17, rfl⟩
abbrev main_v8_5 : Ref sig .tc := ⟨.hbm, 18, rfl⟩
abbrev main_v8_6 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_stg13_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨1, ![24], ![false]⟩

def k0_cond2 (i : grid0.Coords) : BitVec 1 :=
  let arg0 : BitVec 32 := BitVec.ofNat 32 (i 0).val
  let c23_i32 : BitVec 32 := 23#32
  let v2129 : BitVec 1 := Scalar.cmpi .eq arg0 c23_i32
  let v2130 : BitVec 32 := Scalar.extui v2129
  let c0_i32_464 : BitVec 32 := 0#32
  let v2131 : BitVec 1 := Scalar.cmpi .ne v2130 c0_i32_464
  v2131

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c2_i32_0 : BitVec 32 := 2#32
  let v1 : BitVec 32 := Scalar.addi v0 c2_i32_0
  let c47_i32 : BitVec 32 := 47#32
  let v2 : BitVec 32 := Scalar.minsi v1 c47_i32
  let c0_i32 : BitVec 32 := 0#32
  let c0_i32_1 : BitVec 32 := 0#32
  ![v2.toNat, c0_i32.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x2048 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S2048x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .smem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S3x8192x2048 : Shape := ⟨3, ![3, 8192, 2048]⟩
abbrev S3x1x256x8192 : Shape := ⟨4, ![3, 1, 256, 8192]⟩
abbrev S2048x2048 : Shape := ⟨2, ![2048, 2048]⟩
abbrev S1x256x2048 : Shape := ⟨3, ![1, 256, 2048]⟩
abbrev S1x256 : Shape := ⟨2, ![1, 256]⟩
abbrev S24576x2048 : Shape := ⟨2, ![24576, 2048]⟩
abbrev S3x256x8192 : Shape := ⟨3, ![3, 256, 8192]⟩
abbrev S256x3x8192 : Shape := ⟨3, ![256, 3, 8192]⟩
abbrev S256x24576 : Shape := ⟨2, ![256, 24576]⟩
abbrev S256x2048 : Shape := ⟨2, ![256, 2048]⟩
abbrev S256x1 : Shape := ⟨2, ![256, 1]⟩
abbrev S24x1x1024 : Shape := ⟨3, ![24, 1, 1024]⟩
abbrev S1x1 : Shape := ⟨2, ![1, 1]⟩
abbrev S24576 : Shape := ⟨1, ![24576]⟩
abbrev S24576x1 : Shape := ⟨2, ![24576, 1]⟩
abbrev S1x24576 : Shape := ⟨2, ![1, 24576]⟩
abbrev S3 : Shape := ⟨1, ![3]⟩
abbrev S3x1x1 : Shape := ⟨3, ![3, 1, 1]⟩

abbrev nBuf : Space → Nat
  | .hbm => 18
  | .vmem => 12
  | .smem => 0
  | _ => 0

abbrev bufTy : (tb : Table) → Fin (tcTables nBuf tb) → BufTy
  | .hbm, ⟨0, _⟩ => ⟨S3x8192x2048, .bf16⟩
  | .hbm, ⟨1, _⟩ => ⟨S3x1x256x8192, .bf16⟩
  | .hbm, ⟨2, _⟩ => ⟨S2048x2048, .f32⟩
  | .hbm, ⟨3, _⟩ => ⟨S1x256x2048, .bf16⟩
  | .hbm, ⟨4, _⟩ => ⟨S1x256, .f32⟩
  | .hbm, ⟨5, _⟩ => ⟨S24576x2048, .bf16⟩
  | .hbm, ⟨6, _⟩ => ⟨S3x256x8192, .bf16⟩
  | .hbm, ⟨7, _⟩ => ⟨S256x3x8192, .bf16⟩
  | .hbm, ⟨8, _⟩ => ⟨S256x24576, .bf16⟩
  | .hbm, ⟨9, _⟩ => ⟨S256x2048, .bf16⟩
  | .hbm, ⟨10, _⟩ => ⟨S256x1, .f32⟩
  | .hbm, ⟨11, _⟩ => ⟨S24576x2048, .i8⟩
  | .hbm, ⟨12, _⟩ => ⟨S24x1x1024, .f32⟩
  | .hbm, ⟨13, _⟩ => ⟨S24x1x1024, .f32⟩
  | .hbm, ⟨14, _⟩ => ⟨S3x256x8192, .f32⟩
  | .hbm, ⟨15, _⟩ => ⟨S2048x2048, .f32⟩
  | .hbm, ⟨16, _⟩ => ⟨S256x2048, .f32⟩
  | .hbm, ⟨17, _⟩ => ⟨S1x1, .f32⟩
  | .local _ .vmem, ⟨0, _⟩ => ⟨S24576x2048, .bf16⟩
  | .local _ .vmem, ⟨1, _⟩ => ⟨S256x24576, .bf16⟩
  | .local _ .vmem, ⟨2, _⟩ => ⟨S2048x2048, .f32⟩
  | .local _ .vmem, ⟨3, _⟩ => ⟨S256x2048, .bf16⟩
  | .local _ .vmem, ⟨4, _⟩ => ⟨S256x1, .f32⟩
  | .local _ .vmem, ⟨5, _⟩ => ⟨S24576x2048, .i8⟩
  | .local _ .vmem, ⟨6, _⟩ => ⟨S24x1x1024, .f32⟩
  | .local _ .vmem, ⟨7, _⟩ => ⟨S24x1x1024, .f32⟩
  | .local _ .vmem, ⟨8, _⟩ => ⟨S3x256x8192, .f32⟩
  | .local _ .vmem, ⟨9, _⟩ => ⟨S2048x2048, .f32⟩
  | .local _ .vmem, ⟨10, _⟩ => ⟨S256x2048, .f32⟩
  | .local _ .vmem, ⟨11, _⟩ => ⟨S1x1, .f32⟩
  | _, _ => ⟨S3x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev main_v6_4 : Ref sig .tc := ⟨.hbm, 15, rfl⟩
abbrev main_v6_5 : Ref sig .tc := ⟨.hbm, 16, rfl⟩
abbrev main_v6_6 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S24576x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x24576 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24576x2048 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S24x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x256x8192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2048x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S256x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Tokens.lean ====
abbrev S2048x2048 : Shape := ⟨2, ![2048, 2048]⟩
abbrev S1x256x2048 : Shape := ⟨3, ![1, 256, 2048]⟩
abbrev S256x2048 : Shape := ⟨2, ![256, 2048]⟩
abbrev S1x256 : Shape := ⟨2, ![1, 256]⟩
abbrev S256x128 : Shape := ⟨2, ![256, 128]⟩
abbrev S2048x256 : Shape := ⟨2, ![2048, 256]⟩
abbrev S256x256 : Shape := ⟨2, ![256, 256]⟩
abbrev S256 : Shape := ⟨1, ![256]⟩
abbrev S256x1 : Shape := ⟨2, ![256, 1]⟩
abbrev S128x256 : Shape := ⟨2, ![128, 256]⟩

abbrev nBuf : Space → Nat
  | .hbm => 12
  | .vmem => 18
  | .smem => 0
  | _ => 0

abbrev bufTy : (tb : Table) → Fin (tcTables nBuf tb) → BufTy
  | .hbm, ⟨0, _⟩ => ⟨S2048x2048, .f32⟩
  | .hbm, ⟨1, _⟩ => ⟨S1x256x2048, .bf16⟩
  | .hbm, ⟨2, _⟩ => ⟨S256x2048, .bf16⟩
  | .hbm, ⟨3, _⟩ => ⟨S2048x2048, .bf16⟩
  | .hbm, ⟨4, _⟩ => ⟨S2048x2048, .bf16⟩
  | .hbm, ⟨5, _⟩ => ⟨S2048x2048, .bf16⟩
  | .hbm, ⟨6, _⟩ => ⟨S2048x2048, .f32⟩
  | .hbm, ⟨7, _⟩ => ⟨S256x2048, .i8⟩
  | .hbm, ⟨8, _⟩ => ⟨S1x256, .f32⟩
  | .hbm, ⟨9, _⟩ => ⟨S256x128, .f32⟩
  | .hbm, ⟨10, _⟩ => ⟨S256x2048, .bf16⟩
  | .hbm, ⟨11, _⟩ => ⟨S2048x256, .bf16⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S2048x2048, .f32⟩
  | .local _ .vmem, ⟨10, _⟩ => ⟨S256x2048, .i8⟩
  | .local _ .vmem, ⟨11, _⟩ => ⟨S1x256, .f32⟩
  | .local _ .vmem, ⟨12, _⟩ => ⟨S256x128, .f32⟩
  | .local _ .vmem, ⟨13, _⟩ => ⟨S256x2048, .bf16⟩
  | .local _ .vmem, ⟨14, _⟩ => ⟨S2048x256, .bf16⟩
  | .local _ .vmem, ⟨15, _⟩ => ⟨S2048x2048, .bf16⟩
  | .local _ .vmem, ⟨16, _⟩ => ⟨S2048x2048, .bf16⟩
  | .local _ .vmem, ⟨17, _⟩ => ⟨S2048x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v1_4 : Ref sig .tc := ⟨.hbm, 7, rfl⟩
abbrev main_v1_5 : Ref sig .tc := ⟨.hbm, 8, rfl⟩
abbrev main_v1_6 : Ref sig .tc := ⟨.hbm, 9, rfl⟩
abbrev main_v1_7 : Ref sig .tc := ⟨.hbm, 10, rfl⟩
abbrev main_v1_8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let c256_i32 : BitVec 32 := 256#32
  let v0 : BitVec 32 := Scalar.muli arg0 c256_i32
  let v9 : Index := Scalar.indexCast v0
  let c0_1 : Index := 0#32
  ![v9.toNat, 0]
@[reducible] def k0_t1_loop (i : grid0.Coords) : Scf.Loop 32 :=
  let c0_i32 : BitVec 32 := 0#32
  let arg0 : BitVec 32 := BitVec.ofNat 32 (i 0).val
  let c1_i32 : BitVec 32 := 1#32
  let v24 : BitVec 32 := Scalar.addi arg0 c1_i32
  let v25 : BitVec 32 := Scalar.subi v24 c0_i32
  let c1_i32_11 : BitVec 32 := 1#32
  let v27 : BitVec 32 := Scalar.divsi v25 c1_i32_11
  let v28 : BitVec 32 := Scalar.muli v27 c1_i32_11
  let v29 : BitVec 32 := Scalar.addi c0_i32 v28
  let c1_i32_12 : BitVec 32 := 1#32
  ⟨c0_i32, v29, c1_i32_12⟩
def k0_off2 (i : grid0.Coords) : Fin 2 → Nat :=
  let arg0 : BitVec 32 := BitVec.ofNat 32 (i 0).val
  let c256_i32 : BitVec 32 := 256#32
  let v0 : BitVec 32 := Scalar.muli arg0 c256_i32
  let v36 : Index := Scalar.indexCast v0
  let c0_16 : Index := 0#32
  ![v36.toNat, 0]
def k0_off3 (i : grid0.Coords) (k0_t1 : Fin (k0_t1_loop i).trips) : Fin 2 → Nat :=
  let c0_i32 : BitVec 32 := 0#32
  let c1_i32_12 : BitVec 32 := 1#32
  let arg15 : BitVec 32 := Scf.iv c0_i32 c1_i32_12 k0_t1
  let c256_i32_15 : BitVec 32 := 256#32
  let v35 : BitVec 32 := Scalar.muli arg15 c256_i32_15
  let v38 : Index := Scalar.indexCast v35
  let c0_17 : Index := 0#32
  ![v38.toNat, 0]
def k0_off4 (i : grid0.Coords) (k0_t1 : Fin (k0_t1_loop i).trips) : Fin 2 → Nat :=
  let arg0 : BitVec 32 := BitVec.ofNat 32 (i 0).val
  let c256_i32 : BitVec 32 := 256#32
  let v0 : BitVec 32 := Scalar.muli arg0 c256_i32
  let v41 : Index := Scalar.indexCast v0
  let c0_i32 : BitVec 32 := 0#32
  let c1_i32_12 : BitVec 32 := 1#32
  let arg15 : BitVec 32 := Scf.iv c0_i32 c1_i32_12 k0_t1
  let c256_i32_15 : BitVec 32 := 256#32
  let v35 : BitVec 32 := Scalar.muli arg15 c256_i32_15
  let v42 : Index := Scalar.indexCast v35
  ![v41.toNat, v42.toNat]
def k0_off5 (i : grid0.Coords) (k0_t1 : Fin (k0_t1_loop i).trips) : Fin 2 → Nat :=
  let c0_i32 : BitVec 32 := 0#32
  let c1_i32_12 : BitVec 32 := 1#32
  let arg15 : BitVec 32 := Scf.iv c0_i32 c1_i32_12 k0_t1
  let c256_i32_15 : BitVec 32 := 256#32
  let v35 : BitVec 32 := Scalar.muli arg15 c256_i32_15
  let v114 : Index := Scalar.indexCast v35
  let arg0 : BitVec 32 := BitVec.ofNat 32 (i 0).val
  let c256_i32 : BitVec 32 := 256#32
  let v0 : BitVec 32 := Scalar.muli arg0 c256_i32
  let v115 : Index := Scalar.indexCast v0
  ![v114.toNat, v115.toNat]
@[reducible] def k0_t2_loop (i : grid0.Coords) : Scf.Loop 32 :=
  let c0_i32 : BitVec 32 := 0#32
  let arg0 : BitVec 32 := BitVec.ofNat 32 (i 0).val
  let c1_i32 : BitVec 32 := 1#32
  let v24 : BitVec 32 := Scalar.addi arg0 c1_i32
  let v25 : BitVec 32 := Scalar.subi v24 c0_i32
  let c1_i32_11 : BitVec 32 := 1#32
  let v27 : BitVec 32 := Scalar.divsi v25 c1_i32_11
  let v28 : BitVec 32 := Scalar.muli v27 c1_i32_11
  let v29 : BitVec 32 := Scalar.addi c0_i32 v28
  let v26 : BitVec 32 := Scalar.addi c0_i32 v25
  let c1_i32_13 : BitVec 32 := 1#32
  ⟨v29, v26, c1_i32_13⟩
def k0_off6 (i : grid0.Coords) : Fin 2 → Nat :=
  let arg0 : BitVec 32 := BitVec.ofNat 32 (i 0).val
  let c256_i32 : BitVec 32 := 256#32
  let v0 : BitVec 32 := Scalar.muli arg0 c256_i32
  let v36 : Index := Scalar.indexCast v0
  let c0_16 : Index := 0#32
  ![v36.toNat, 0]
def k0_off7 (i : grid0.Coords) (k0_t2 : Fin (k0_t2_loop i).trips) : Fin 2 → Nat :=
  let c0_i32 : BitVec 32 := 0#32
  let arg0 : BitVec 32 := BitVec.ofNat 32 (i 0).val
  let c1_i32 : BitVec 32 := 1#32
  let v24 : BitVec 32 := Scalar.addi arg0 c1_i32
  let v25 : BitVec 32 := Scalar.subi v24 c0_i32
  let c1_i32_11 : BitVec 32 := 1#32
  let v27 : BitVec 32 := Scalar.divsi v25 c1_i32_11
  let v28 : BitVec 32 := Scalar.muli v27 c1_i32_11
  let v29 : BitVec 32 := Scalar.addi c0_i32 v28
  let c1_i32_13 : BitVec 32 := 1#32
  let arg15 : BitVec 32 := Scf.iv v29 c1_i32_13 k0_t2
  let c256_i32_15 : BitVec 32 := 256#32
  let v35 : BitVec 32 := Scalar.muli arg15 c256_i32_15
  let v38 : Index := Scalar.indexCast v35
  let c0_17 : Index := 0#32
  ![v38.toNat, 0]
def k0_off8 (i : grid0.Coords) (k0_t2 : Fin (k0_t2_loop i).trips) : Fin 2 → Nat :=
  let arg0 : BitVec 32 := BitVec.ofNat 32 (i 0).val
  let c256_i32 : BitVec 32 := 256#32
  let v0 : BitVec 32 := Scalar.muli arg0 c256_i32
  let v41 : Index := Scalar.indexCast v0
  let c0_i32 : BitVec 32 := 0#32
  let c1_i32 : BitVec 32 := 1#32
  let v24 : BitVec 32 := Scalar.addi arg0 c1_i32
  let v25 : BitVec 32 := Scalar.subi v24 c0_i32
  let c1_i32_11 : BitVec 32 := 1#32
  let v27 : BitVec 32 := Scalar.divsi v25 c1_i32_11
  let v28 : BitVec 32 := Scalar.muli v27 c1_i32_11
  let v29 : BitVec 32 := Scalar.addi c0_i32 v28
  let c1_i32_13 : BitVec 32 := 1#32
  let arg15 : BitVec 32 := Scf.iv v29 c1_i32_13 k0_t2
  let c256_i32_15 : BitVec 32 := 256#32
  let v35 : BitVec 32 := Scalar.muli arg15 c256_i32_15
  let v42 : Index := Scalar.indexCast v35
  ![v41.toNat, v42.toNat]
def k0_off9 (i : grid0.Coords) (k0_t2 : Fin (k0_t2_loop i).trips) : Fin 2 → Nat :=
  let c0_i32 : BitVec 32 := 0#32
  let arg0 : BitVec 32 := BitVec.ofNat 32 (i 0).val
  let c1_i32 : BitVec 32 := 1#32
  let v24 : BitVec 32 := Scalar.addi arg0 c1_i32
  let v25 : BitVec 32 := Scalar.subi v24 c0_i32
  let c1_i32_11 : BitVec 32 := 1#32
  let v27 : BitVec 32 := Scalar.divsi v25 c1_i32_11
  let v28 : BitVec 32 := Scalar.muli v27 c1_i32_11
  let v29 : BitVec 32 := Scalar.addi c0_i32 v28
  let c1_i32_13 : BitVec 32 := 1#32
  let arg15 : BitVec 32 := Scf.iv v29 c1_i32_13 k0_t2
  let c256_i32_15 : BitVec 32 := 256#32
  let v35 : BitVec 32 := Scalar.muli arg15 c256_i32_15
  let v114 : Index := Scalar.indexCast v35
  let c256_i32 : BitVec 32 := 256#32
  let v0 : BitVec 32 := Scalar.muli arg0 c256_i32
  let v115 : Index := Scalar.indexCast v0
  ![v114.toNat, v115.toNat]
def k0_cond1 (i : grid0.Coords) : BitVec 1 :=
  let arg0 : BitVec 32 := BitVec.ofNat 32 (i 0).val
  let c7_i32 : BitVec 32 := 7#32
  let v32 : BitVec 1 := Scalar.cmpi .eq arg0 c7_i32
  let v33 : BitVec 32 := Scalar.extui v32
  let c0_i32_14 : BitVec 32 := 0#32
  let v34 : BitVec 1 := Scalar.cmpi .ne v33 c0_i32_14
  v34

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x2048 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== TokensReferenceIdeal.lean ====
abbrev S2048x2048 : Shape := ⟨2, ![2048, 2048]⟩
abbrev S1x256x2048 : Shape := ⟨3, ![1, 256, 2048]⟩
abbrev S256x2048 : Shape := ⟨2, ![256, 2048]⟩
abbrev S1x256 : Shape := ⟨2, ![1, 256]⟩
abbrev S256 : Shape := ⟨1, ![256]⟩
abbrev S256x1 : Shape := ⟨2, ![256, 1]⟩

abbrev nBuf : Space → Nat
  | .hbm => 5
  | .vmem => 4
  | .smem => 0
  | _ => 0

abbrev bufTy : (tb : Table) → Fin (tcTables nBuf tb) → BufTy
  | .hbm, ⟨0, _⟩ => ⟨S2048x2048, .f32⟩
  | .hbm, ⟨1, _⟩ => ⟨S1x256x2048, .bf16⟩
  | .hbm, ⟨2, _⟩ => ⟨S256x2048, .bf16⟩
  | .hbm, ⟨3, _⟩ => ⟨S256x2048, .i8⟩
  | .hbm, ⟨4, _⟩ => ⟨S1x256, .f32⟩
  | .local _ .vmem, ⟨0, _⟩ => ⟨S2048x2048, .f32⟩
  | .local _ .vmem, ⟨1, _⟩ => ⟨S256x2048, .bf16⟩
  | .local _ .vmem, ⟨2, _⟩ => ⟨S256x2048, .i8⟩
  | .local _ .vmem, ⟨3, _⟩ => ⟨S1x256, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S2048x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2048 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Gradient.lean ====
abbrev S2048x2048 : Shape := ⟨2, ![2048, 2048]⟩
abbrev S256x2048 : Shape := ⟨2, ![256, 2048]⟩
abbrev S1x256x2048 : Shape := ⟨3, ![1, 256, 2048]⟩
abbrev S2048x16 : Shape := ⟨2, ![2048, 16]⟩
abbrev S2048x256 : Shape := ⟨2, ![2048, 256]⟩
abbrev S256x256 : Shape := ⟨2, ![256, 256]⟩
abbrev S256x16 : Shape := ⟨2, ![256, 16]⟩
abbrev S256x512 : Shape := ⟨2, ![256, 512]⟩
abbrev S256x128 : Shape := ⟨2, ![256, 128]⟩
abbrev S128x256 : Shape := ⟨2, ![128, 256]⟩
abbrev S256x1 : Shape := ⟨2, ![256, 1]⟩
abbrev S512x2048 : Shape := ⟨2, ![512, 2048]⟩

abbrev nBuf : Space → Nat
  | .hbm => 21
  | .vmem => 27
  | .smem => 0
  | _ => 0

abbrev bufTy : (tb : Table) → Fin (tcTables nBuf tb) → BufTy
  | .hbm, ⟨0, _⟩ => ⟨S2048x2048, .f32⟩
  | .hbm, ⟨1, _⟩ => ⟨S256x2048, .f32⟩
  | .hbm, ⟨2, _⟩ => ⟨S1x256x2048, .bf16⟩
  | .hbm, ⟨3, _⟩ => ⟨S2048x2048, .i8⟩
  | .hbm, ⟨4, _⟩ => ⟨S2048x16, .f32⟩
  | .hbm, ⟨5, _⟩ => ⟨S2048x2048, .f32⟩
  | .hbm, ⟨6, _⟩ => ⟨S256x2048, .bf16⟩
  | .hbm, ⟨7, _⟩ => ⟨S2048x2048, .bf16⟩
  | .hbm, ⟨8, _⟩ => ⟨S2048x2048, .f32⟩
  | .hbm, ⟨9, _⟩ => ⟨S2048x2048, .f32⟩
  | .hbm, ⟨10, _⟩ => ⟨S2048x2048, .bf16⟩
  | .hbm, ⟨11, _⟩ => ⟨S2048x2048, .f32⟩
  | .hbm, ⟨12, _⟩ => ⟨S2048x2048, .f32⟩
  | .hbm, ⟨13, _⟩ => ⟨S2048x2048, .bf16⟩
  | .hbm, ⟨14, _⟩ => ⟨S2048x2048, .f32⟩
  | .hbm, ⟨15, _⟩ => ⟨S2048x2048, .bf16⟩
  | .hbm, ⟨16, _⟩ => ⟨S2048x2048, .bf16⟩
  | .hbm, ⟨17, _⟩ => ⟨S2048x2048, .bf16⟩
  | .hbm, ⟨18, _⟩ => ⟨S2048x2048, .bf16⟩
  | .hbm, ⟨19, _⟩ => ⟨S2048x2048, .bf16⟩
  | .hbm, ⟨20, _⟩ => ⟨S2048x2048, .bf16⟩
  | .local _ .vmem, ⟨0, _⟩ => ⟨S2048x256, .f32⟩
  | .local _ .vmem, ⟨1, _⟩ => ⟨S2048x256, .f32⟩
  | .local _ .vmem, ⟨2, _⟩ => ⟨S256x2048, .f32⟩
  | .local _ .vmem, ⟨3, _⟩ => ⟨S256x256, .bf16⟩
  | .local _ .vmem, ⟨4, _⟩ => ⟨S256x256, .bf16⟩
  | .local _ .vmem, ⟨5, _⟩ => ⟨S256x2048, .i8⟩
  | .local _ .vmem, ⟨6, _⟩ => ⟨S256x2048, .i8⟩
  | .local _ .vmem, ⟨7, _⟩ => ⟨S256x16, .f32⟩
  | .local _ .vmem, ⟨8, _⟩ => ⟨S256x16, .f32⟩
  | .local _ .vmem, ⟨9, _⟩ => ⟨S2048x2048, .bf16⟩
  | .local _ .vmem, ⟨10, _⟩ => ⟨S2048x2048, .bf16⟩
  | .local _ .vmem, ⟨11, _⟩ => ⟨S2048x2048, .bf16⟩
  | .local _ .vmem, ⟨12, _⟩ => ⟨S256x2048, .f32⟩
  | .local _ .vmem, ⟨13, _⟩ => ⟨S256x2048, .f32⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | .local _ .vmem, ⟨18, _⟩ => ⟨S256x2048, .bf16⟩
  | .local _ .vmem, ⟨19, _⟩ => ⟨S256x2048, .bf16⟩
  | .local _ .vmem, ⟨20, _⟩ => ⟨S256x2048, .bf16⟩
  | .local _ .vmem, ⟨21, _⟩ => ⟨S256x2048, .bf16⟩
  | .local _ .vmem, ⟨22, _⟩ => ⟨S256x2048, .bf16⟩
  | .local _ .vmem, ⟨23, _⟩ => ⟨S256x2048, .bf16⟩
  | .local _ .vmem, ⟨24, _⟩ => ⟨S256x2048, .bf16⟩
  | .local _ .vmem, ⟨25, _⟩ => ⟨S256x2048, .bf16⟩
  | .local _ .vmem, ⟨26, _⟩ => ⟨S256x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v8_3 : Ref sig .tc := ⟨.hbm, 17, rfl⟩
abbrev main_v8_4 : Ref sig .tc := ⟨.hbm, 18, rfl⟩
abbrev main_v8_5 : Ref sig .tc := ⟨.hbm, 19, rfl⟩
abbrev main_v8_6 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c4_i32 : BitVec 32 := 4#32
  let v435 : BitVec 32 := Scalar.addi c0_i32 c4_i32
  let c1_i32 : BitVec 32 := 1#32
  ⟨c0_i32, v435, c1_i32⟩
def k0_off1 (k0_t1 : Fin k0_t1_loop.trips) : Fin 2 → Nat :=
  let c0_i32 : BitVec 32 := 0#32
  let c1_i32 : BitVec 32 := 1#32
  let arg17 : BitVec 32 := Scf.iv c0_i32 c1_i32 k0_t1
  let c512_i32 : BitVec 32 := 512#32
  let v436 : BitVec 32 := Scalar.muli arg17 c512_i32
  let v439 : Index := Scalar.indexCast v436
  let c0_277 : Index := 0#32
  ![v439.toNat, 0]
def k0_off2 (k0_t1 : Fin k0_t1_loop.trips) : Fin 2 → Nat :=
  let c0_323 : Index := 0#32
  let c0_i32 : BitVec 32 := 0#32
  let c1_i32 : BitVec 32 := 1#32
  let arg17 : BitVec 32 := Scf.iv c0_i32 c1_i32 k0_t1
  let c512_i32 : BitVec 32 := 512#32
  let v436 : BitVec 32 := Scalar.muli arg17 c512_i32
  let v509 : Index := Scalar.indexCast v436
  ![0, v509.toNat]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== GradientReferenceIdeal.lean ====
abbrev S2048x2048 : Shape := ⟨2, ![2048, 2048]⟩
abbrev S256x2048 : Shape := ⟨2, ![256, 2048]⟩
abbrev S1x256x2048 : Shape := ⟨3, ![1, 256, 2048]⟩
abbrev S2048x16 : Shape := ⟨2, ![2048, 16]⟩
abbrev S2048x256 : Shape := ⟨2, ![2048, 256]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S256x2048, .f32⟩
  | .hbm, ⟨2, _⟩ => ⟨S1x256x2048, .bf16⟩
  | .hbm, ⟨3, _⟩ => ⟨S2048x2048, .i8⟩
  | .hbm, ⟨4, _⟩ => ⟨S2048x16, .f32⟩
  | .hbm, ⟨5, _⟩ => ⟨S2048x2048, .f32⟩
  | .hbm, ⟨6, _⟩ => ⟨S256x2048, .bf16⟩
  | .hbm, ⟨7, _⟩ => ⟨S2048x256, .bf16⟩
  | .hbm, ⟨8, _⟩ => ⟨S256x2048, .bf16⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩

abbrev nD : Nat := 1
abbrev τ : Topo := Topo.v7x

variable {F : FTy → Type} [FloatOps F]
-- ==== Norm.lean ====
abbrev S2048x2048 : Shape := ⟨2, ![2048, 2048]⟩
abbrev S1x1 : Shape := ⟨2, ![1, 1]⟩
abbrev S256x2048 : Shape := ⟨2, ![256, 2048]⟩
abbrev S2048x256 : Shape := ⟨2, ![2048, 256]⟩
abbrev S8x128 : Shape := ⟨2, ![8, 128]⟩
abbrev S256x128 : Shape := ⟨2, ![256, 128]⟩
abbrev S32x8x128 : Shape := ⟨3, ![32, 8, 128]⟩
abbrev S1x8x128 : Shape := ⟨3, ![1, 8, 128]⟩
abbrev S1 : Shape := ⟨1, ![1]⟩
abbrev S1x1x1 : Shape := ⟨3, ![1, 1, 1]⟩
abbrev S_ : Shape := ⟨0, ![]⟩

abbrev nBuf : Space → Nat
  | .hbm => 11
  | .vmem => 11
  | .smem => 1
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S2048x2048, .bf16⟩
  | .hbm, ⟨3, _⟩ => ⟨S2048x2048, .bf16⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S2048x256, .f32⟩
  | .local _ .vmem, ⟨3, _⟩ => ⟨S2048x256, .f32⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S8x128, .f32⟩
  | .local _ .smem, ⟨0, _⟩ => ⟨S1x1, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v56 : BitVec 1 := Scalar.cmpi .eq arg0 c7_i32
  let v57 : BitVec 32 := Scalar.extui v56
  let c0_i32_14 : BitVec 32 := 0#32
  let v58 : BitVec 1 := Scalar.cmpi .ne v57 c0_i32_14
  v58

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .smem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormReferenceIdeal.lean ====
abbrev S2048x2048 : Shape := ⟨2, ![2048, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.GradFrame.lean ====
module

public import proofs.«01_k».proof.Proof.Gen.Gradient.Frame.Runs
public import Idealize.ShloMosaic.Lib.Claim

/-
  The frame of the `t1` call, of which only the gradient is read. The body is run once; of its seven outputs only the
  gradient's stores are named, the six others hold something. So the call runs to the end, its inputs are kept, and the
  gradient's array is the one that the named stores make, step by step.
-/

@[expose] public section

set_option maxRecDepth 16384

noncomputable section

namespace Cert.Gradient.Hand

open Cert.Gradient Cert.Gradient.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- The run's proof term is large.
set_option maxHeartbeats 4000000 in
/-- What the body stores into the gradient's block, as a list of pieces, together with the proof that the body runs from
    the inputs at their contents and the outputs and the scratch at anything: the inputs are as they were, the gradient's
    block holds the pieces, and the six other outputs and the scratch hold something. -/
noncomputable def kernelRun0 (c : Dev nD) (i : grid0.Coords) (arg1 : Memref sig .tc .vmem S2048x256 .f32) (harg1 : arg1.IsWhole) (arg2 : Memref sig .tc .vmem S256x2048 .f32) (harg2 : arg2.IsWhole) (arg3 : Memref sig .tc .vmem S256x256 .bf16) (harg3 : arg3.IsWhole) (arg4 : Memref sig .tc .vmem S256x2048 .i8) (harg4 : arg4.IsWhole) (arg5 : Memref sig .tc .vmem S256x16 .f32) (harg5 : arg5.IsWhole) (arg6 : Memref sig .tc .vmem S2048x2048 .bf16) (harg6 : arg6.IsWhole) (arg7 : Memref sig .tc .vmem S2048x2048 .bf16) (harg7 : arg7.IsWhole) (arg8 : Memref sig .tc .vmem S2048x2048 .bf16) (harg8 : arg8.IsWhole) (arg9 : Memref sig .tc .vmem S256x2048 .f32) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x512 .f32) (harg16 : arg16.IsWhole)
    (x0 : Vec F S2048x256 .f32) (x1 : Vec F S256x2048 .f32) (x2 : Vec F S256x256 .bf16) (x3 : Vec F S256x2048 .i8) (x4 : Vec F S256x16 .f32) (x5 : Vec F S2048x2048 .bf16) (x6 : Vec F S2048x2048 .bf16) (x7 : Vec F S2048x2048 .bf16) :
    { L8 : List (View.Piece (Elt F) S256x2048 .f32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_t1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun E K => ?run⟩
  case run =>
    simp only [cc0_t1_eq_skeleton]; unfold cc0_t1_skel
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    iexists _, _; isplitr; swap; · iexact HS0
    ipureintro; rfl

/-- The run's 16 stores cover the gradient's block. -/
theorem cover0_8 (c : Dev nD) (i : grid0.Coords) (arg1 : Memref sig .tc .vmem S2048x256 .f32) (harg1 : arg1.IsWhole) (arg2 : Memref sig .tc .vmem S256x2048 .f32) (harg2 : arg2.IsWhole) (arg3 : Memref sig .tc .vmem S256x256 .bf16) (harg3 : arg3.IsWhole) (arg4 : Memref sig .tc .vmem S256x2048 .i8) (harg4 : arg4.IsWhole) (arg5 : Memref sig .tc .vmem S256x16 .f32) (harg5 : arg5.IsWhole) (arg6 : Memref sig .tc .vmem S2048x2048 .bf16) (harg6 : arg6.IsWhole) (arg7 : Memref sig .tc .vmem S2048x2048 .bf16) (harg7 : arg7.IsWhole) (arg8 : Memref sig .tc .vmem S2048x2048 .bf16) (harg8 : arg8.IsWhole) (arg9 : Memref sig .tc .vmem S256x2048 .f32) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x512 .f32) (harg16 : arg16.IsWhole)
    (x0 : Vec F S2048x256 .f32) (x1 : Vec F S256x2048 .f32) (x2 : Vec F S256x256 .bf16) (x3 : Vec F S256x2048 .i8) (x4 : Vec F S256x16 .f32) (x5 : Vec F S2048x2048 .bf16) (x6 : Vec F S2048x2048 .bf16) (x7 : Vec F S2048x2048 .bf16) (y : S256x2048.Idx) :
    ∃ pc ∈ (kernelRun0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7).1, y ∈ pc.1.set :=
  View.cover_of_tiledL (kernelRun0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7).1 S256x128.size (by sl_kernel_rfl) y

/-- What the run leaves in the gradient's block: its pieces, read back. -/
def out0_8 (c : Dev nD) (i : grid0.Coords) (arg1 : Memref sig .tc .vmem S2048x256 .f32) (harg1 : arg1.IsWhole) (arg2 : Memref sig .tc .vmem S256x2048 .f32) (harg2 : arg2.IsWhole) (arg3 : Memref sig .tc .vmem S256x256 .bf16) (harg3 : arg3.IsWhole) (arg4 : Memref sig .tc .vmem S256x2048 .i8) (harg4 : arg4.IsWhole) (arg5 : Memref sig .tc .vmem S256x16 .f32) (harg5 : arg5.IsWhole) (arg6 : Memref sig .tc .vmem S2048x2048 .bf16) (harg6 : arg6.IsWhole) (arg7 : Memref sig .tc .vmem S2048x2048 .bf16) (harg7 : arg7.IsWhole) (arg8 : Memref sig .tc .vmem S2048x2048 .bf16) (harg8 : arg8.IsWhole) (arg9 : Memref sig .tc .vmem S256x2048 .f32) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x512 .f32) (harg16 : arg16.IsWhole)
    (x0 : Vec F S2048x256 .f32) (x1 : Vec F S256x2048 .f32) (x2 : Vec F S256x256 .bf16) (x3 : Vec F S256x2048 .i8) (x4 : Vec F S256x16 .f32) (x5 : Vec F S2048x2048 .bf16) (x6 : Vec F S2048x2048 .bf16) (x7 : Vec F S2048x2048 .bf16) : Vec F S256x2048 .f32 :=
  VO0_8.read (Elt F) (VO0_8.writes (Elt F) VO0_8.junk (kernelRun0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7).1)

/-- What step `t` leaves in the gradient's block. -/
def outAt (c : Dev nD) (t : Fin cfg0.N) : Vec F S256x2048 .f32 :=
  out0_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (iblk m c 0 t) (iblk m c 1 t) (iblk m c 2 t) (iblk m c 3 t) (iblk m c 4 t) (iblk m c 5 t) (iblk m c 6 t) (iblk m c 7 t)

/-- The windows of which nothing is said: the six outputs other than the gradient. -/
def forgets0 : Fin 15 → Bool := fun w => decide (9 ≤ w.val)

/-- The data of the call: each array as the call finds it, each input's block kept by the step, the gradient's block at
    what the step stores, the other outputs at nothing in particular. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
    | ⟨9, _⟩ => Pipeline.Dat.unnamed (cfg := cfg0) 9 t
    | ⟨10, _⟩ => Pipeline.Dat.unnamed (cfg := cfg0) 10 t
    | ⟨11, _⟩ => Pipeline.Dat.unnamed (cfg := cfg0) 11 t
    | ⟨12, _⟩ => Pipeline.Dat.unnamed (cfg := cfg0) 12 t
    | ⟨13, _⟩ => Pipeline.Dat.unnamed (cfg := cfg0) 13 t
    | ⟨14, _⟩ => Pipeline.Dat.unnamed (cfg := cfg0) 14 t
  Φ _ := Pipeline.ΦA spec0 c
  q _ := fullShare
  owed _ := 0

/-- The data's arrays are those the call finds. -/
theorem A_eq (c : Dev nD) (w : Fin cfg0.W) : (dats m 0 c).A w = V m c (Pipeline.arrRef spec0 w) := by
  dsimp only [dats]

/-- A step keeps input 0's block. -/
theorem after0_0 (c : Dev nD) (t : Fin cfg0.N) : (dats m 0 c).after 0 t = iblk m c 0 t := by dsimp only [dats]
/-- A step keeps input 1's block. -/
theorem after0_1 (c : Dev nD) (t : Fin cfg0.N) : (dats m 0 c).after 1 t = iblk m c 1 t := by dsimp only [dats]
/-- A step keeps input 2's block. -/
theorem after0_2 (c : Dev nD) (t : Fin cfg0.N) : (dats m 0 c).after 2 t = iblk m c 2 t := by dsimp only [dats]
/-- A step keeps input 3's block. -/
theorem after0_3 (c : Dev nD) (t : Fin cfg0.N) : (dats m 0 c).after 3 t = iblk m c 3 t := by dsimp only [dats]
/-- A step keeps input 4's block. -/
theorem after0_4 (c : Dev nD) (t : Fin cfg0.N) : (dats m 0 c).after 4 t = iblk m c 4 t := by dsimp only [dats]
/-- A step keeps input 5's block. -/
theorem after0_5 (c : Dev nD) (t : Fin cfg0.N) : (dats m 0 c).after 5 t = iblk m c 5 t := by dsimp only [dats]
/-- A step keeps input 6's block. -/
theorem after0_6 (c : Dev nD) (t : Fin cfg0.N) : (dats m 0 c).after 6 t = iblk m c 6 t := by dsimp only [dats]
/-- A step keeps input 7's block. -/
theorem after0_7 (c : Dev nD) (t : Fin cfg0.N) : (dats m 0 c).after 7 t = iblk m c 7 t := by dsimp only [dats]
/-- A step leaves the gradient's block as its stores make it. -/
theorem after0_8 (c : Dev nD) (t : Fin cfg0.N) : (dats m 0 c).after 8 t = outAt m c t := by dsimp only [dats]
/-- A step finds input 0's block. -/
theorem before0_0 (c : Dev nD) (t : Fin cfg0.N) (d) : (dats m 0 c).before 0 t d = iblk m c 0 t :=
  before0_0_of m (dats m 0 c) (A_eq m c 0) (after0_0 m c) t d
/-- A step finds input 1's block. -/
theorem before0_1 (c : Dev nD) (t : Fin cfg0.N) (d) : (dats m 0 c).before 1 t d = iblk m c 1 t :=
  before0_1_of m (dats m 0 c) (A_eq m c 1) (after0_1 m c) t d
/-- A step finds input 2's block. -/
theorem before0_2 (c : Dev nD) (t : Fin cfg0.N) (d) : (dats m 0 c).before 2 t d = iblk m c 2 t :=
  before0_2_of m (dats m 0 c) (A_eq m c 2) (after0_2 m c) t d
/-- A step finds input 3's block. -/
theorem before0_3 (c : Dev nD) (t : Fin cfg0.N) (d) : (dats m 0 c).before 3 t d = iblk m c 3 t :=
  before0_3_of m (dats m 0 c) (A_eq m c 3) (after0_3 m c) t d
/-- A step finds input 4's block. -/
theorem before0_4 (c : Dev nD) (t : Fin cfg0.N) (d) : (dats m 0 c).before 4 t d = iblk m c 4 t :=
  before0_4_of m (dats m 0 c) (A_eq m c 4) (after0_4 m c) t d
/-- A step finds input 5's block. -/
theorem before0_5 (c : Dev nD) (t : Fin cfg0.N) (d) : (dats m 0 c).before 5 t d = iblk m c 5 t :=
  before0_5_of m (dats m 0 c) (A_eq m c 5) (after0_5 m c) t d
/-- A step finds input 6's block. -/
theorem before0_6 (c : Dev nD) (t : Fin cfg0.N) (d) : (dats m 0 c).before 6 t d = iblk m c 6 t :=
  before0_6_of m (dats m 0 c) (A_eq m c 6) (after0_6 m c) t d
/-- A step finds input 7's block. -/
theorem before0_7 (c : Dev nD) (t : Fin cfg0.N) (d) : (dats m 0 c).before 7 t d = iblk m c 7 t :=
  before0_7_of m (dats m 0 c) (A_eq m c 7) (after0_7 m c) t d

/-- What the body is called with at step `t`. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d))

/-- What the body returns at step `t`. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d))

set_option maxHeartbeats 1600000 in
/-- The body at a step: the run applies to the blocks the step finds, and its stores are what the data names. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  unfold outAt
  unfold out0_8; (try dsimp only)
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((kernelRun0 c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [HS0]; · iexact HS0
  iintro ⟨H0, H1, H2, H3, H4, H5, H6, H7, ⟨%e8, H8⟩, H9, H10, H11, H12, H13, H14, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (cover0_8 c _ _ _ _ _ _ _ _ _ _ _ _ _ _ _ _ _ _ _ _ _ _ _ _ _ _ _ _ _ _ _ _ _ _ _ _ _ _ _ _ _)
  isplitl [H9]; · iexact H9
  isplitl [H10]; · iexact H10
  isplitl [H11]; · iexact H11
  isplitl [H12]; · iexact H12
  isplitl [H13]; · iexact H13
  iexact H14

/-- The body the launch looks up at a step is the body. -/
theorem defs₀_row (t : Fin cfg0.N) :
    defs₀ (F := F) .tc cfg0.body (cfg0.bodyArgs t (cfg0.slots t)) = bodyAt0 t := by
  unfold defs₀; rw [Defs.onTc_tc]

/-- The body meets its obligation at every step, with the six other outputs unspoken of. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The kernel runs to the end; every input array is kept, the gradient's array is what the data computes, and every
    semaphore ends at zero. -/
theorem run_main_quiescent : θ_run defs (onTc (τ := τ) (main (F := F))) (s₀ m ρ)
    (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

variable {m}

/-- Argument 0 is kept. -/
theorem kept0 {r : PUnit × MemSt nD τ sig (Elt F)}
    (h : Pipeline.RDat.FramePost (cfgs 0) (fun c => (dats (F := F) m 0 c).toRForget forgets0) (V m) r) (c : Dev nD) :
    r.2.mem ((c : Thread nD τ).loc main_arg0) = m ((c : Thread nD τ).loc main_arg0) :=
  (Pipeline.RDat.FramePost.arr_in h c 0 rfl).trans ((A_eq m c 0).trans (V_main_arg0 m c))

/-- Argument 1 is kept. -/
theorem kept1 {r : PUnit × MemSt nD τ sig (Elt F)}
    (h : Pipeline.RDat.FramePost (cfgs 0) (fun c => (dats (F := F) m 0 c).toRForget forgets0) (V m) r) (c : Dev nD) :
    r.2.mem ((c : Thread nD τ).loc main_arg1) = m ((c : Thread nD τ).loc main_arg1) :=
  (Pipeline.RDat.FramePost.arr_in h c 1 rfl).trans ((A_eq m c 1).trans (V_main_arg1 m c))

/-- Argument 2 is kept. -/
theorem kept2 {r : PUnit × MemSt nD τ sig (Elt F)}
    (h : Pipeline.RDat.FramePost (cfgs 0) (fun c => (dats (F := F) m 0 c).toRForget forgets0) (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- Argument 3 is kept. -/
theorem kept3 {r : PUnit × MemSt nD τ sig (Elt F)}
    (h : Pipeline.RDat.FramePost (cfgs 0) (fun c => (dats (F := F) m 0 c).toRForget forgets0) (V m) r) (c : Dev nD) :
    r.2.mem ((c : Thread nD τ).loc main_arg3) = m ((c : Thread nD τ).loc main_arg3) :=
  (Pipeline.RDat.FramePost.arr_in h c 3 rfl).trans ((A_eq m c 3).trans (V_main_arg3 m c))

/-- Argument 4 is kept. -/
theorem kept4 {r : PUnit × MemSt nD τ sig (Elt F)}
    (h : Pipeline.RDat.FramePost (cfgs 0) (fun c => (dats (F := F) m 0 c).toRForget forgets0) (V m) r) (c : Dev nD) :
    r.2.mem ((c : Thread nD τ).loc main_arg4) = m ((c : Thread nD τ).loc main_arg4) :=
  (Pipeline.RDat.FramePost.arr_in h c 4 rfl).trans ((A_eq m c 4).trans (V_main_arg4 m c))

/-- Argument 5 is kept. -/
theorem kept5 {r : PUnit × MemSt nD τ sig (Elt F)}
    (h : Pipeline.RDat.FramePost (cfgs 0) (fun c => (dats (F := F) m 0 c).toRForget forgets0) (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- The gradient's array after the run. -/
theorem array8 {r : PUnit × MemSt nD τ sig (Elt F)}
    (h : Pipeline.RDat.FramePost (cfgs 0) (fun c => (dats (F := F) m 0 c).toRForget forgets0) (V m) r) (c : Dev nD) :
    r.2.mem ((c : Thread nD τ).loc main_v8_0) = (dats m 0 c).arrAt 8 (cfgs 0).N :=
  ((dats m 0 c).toRForget_arrAt_iff (w := 8) rfl (cfgs 0).N _).mp ((h c).1 8)

variable (m)

/-- The kernel runs to the end, every argument is kept, and every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨kept0 h.1 c, kept1 h.1 c, kept2 h.1 c, kept3 h.1 c, kept4 h.1 c, kept5 h.1 c⟩, h.2⟩)
    (run_main_quiescent m ρ)

end Cert.Gradient.Hand

end
-- ==== Proof.GradIdealFrame.lean ====
module

public import proofs.«01_k».proof.Proof.Gen.GradientIdeal.Frame.Runs
public import Idealize.ShloMosaic.Lib.Claim

/-
  The frame of the `t1` call, of which only the gradient is read. The body is run once; of its seven outputs only the
  gradient's stores are named, the six others hold something. So the call runs to the end, its inputs are kept, and the
  gradient's array is the one that the named stores make, step by step.
-/

@[expose] public section

set_option maxRecDepth 16384

noncomputable section

namespace Cert.GradientIdeal.Hand

open Cert.GradientIdeal Cert.GradientIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- The run's proof term is large.
set_option maxHeartbeats 4000000 in
/-- What the body stores into the gradient's block, as a list of pieces, together with the proof that the body runs from
    the inputs at their contents and the outputs and the scratch at anything: the inputs are as they were, the gradient's
    block holds the pieces, and the six other outputs and the scratch hold something. -/
noncomputable def kernelRun0 (c : Dev nD) (i : grid0.Coords) (arg1 : Memref sig .tc .vmem S2048x256 .f32) (harg1 : arg1.IsWhole) (arg2 : Memref sig .tc .vmem S256x2048 .f32) (harg2 : arg2.IsWhole) (arg3 : Memref sig .tc .vmem S256x256 .bf16) (harg3 : arg3.IsWhole) (arg4 : Memref sig .tc .vmem S256x2048 .i8) (harg4 : arg4.IsWhole) (arg5 : Memref sig .tc .vmem S256x16 .f32) (harg5 : arg5.IsWhole) (arg6 : Memref sig .tc .vmem S2048x2048 .bf16) (harg6 : arg6.IsWhole) (arg7 : Memref sig .tc .vmem S2048x2048 .bf16) (harg7 : arg7.IsWhole) (arg8 : Memref sig .tc .vmem S2048x2048 .bf16) (harg8 : arg8.IsWhole) (arg9 : Memref sig .tc .vmem S256x2048 .f32) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x512 .f32) (harg16 : arg16.IsWhole)
    (x0 : Vec F S2048x256 .f32) (x1 : Vec F S256x2048 .f32) (x2 : Vec F S256x256 .bf16) (x3 : Vec F S256x2048 .i8) (x4 : Vec F S256x16 .f32) (x5 : Vec F S2048x2048 .bf16) (x6 : Vec F S2048x2048 .bf16) (x7 : Vec F S2048x2048 .bf16) :
    { L8 : List (View.Piece (Elt F) S256x2048 .f32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_t1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun E K => ?run⟩
  case run =>
    simp only [cc0_t1_eq_skeleton]; unfold cc0_t1_skel
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    iexists _, _; isplitr; swap; · iexact HS0
    ipureintro; rfl

/-- The run's 16 stores cover the gradient's block. -/
theorem cover0_8 (c : Dev nD) (i : grid0.Coords) (arg1 : Memref sig .tc .vmem S2048x256 .f32) (harg1 : arg1.IsWhole) (arg2 : Memref sig .tc .vmem S256x2048 .f32) (harg2 : arg2.IsWhole) (arg3 : Memref sig .tc .vmem S256x256 .bf16) (harg3 : arg3.IsWhole) (arg4 : Memref sig .tc .vmem S256x2048 .i8) (harg4 : arg4.IsWhole) (arg5 : Memref sig .tc .vmem S256x16 .f32) (harg5 : arg5.IsWhole) (arg6 : Memref sig .tc .vmem S2048x2048 .bf16) (harg6 : arg6.IsWhole) (arg7 : Memref sig .tc .vmem S2048x2048 .bf16) (harg7 : arg7.IsWhole) (arg8 : Memref sig .tc .vmem S2048x2048 .bf16) (harg8 : arg8.IsWhole) (arg9 : Memref sig .tc .vmem S256x2048 .f32) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x512 .f32) (harg16 : arg16.IsWhole)
    (x0 : Vec F S2048x256 .f32) (x1 : Vec F S256x2048 .f32) (x2 : Vec F S256x256 .bf16) (x3 : Vec F S256x2048 .i8) (x4 : Vec F S256x16 .f32) (x5 : Vec F S2048x2048 .bf16) (x6 : Vec F S2048x2048 .bf16) (x7 : Vec F S2048x2048 .bf16) (y : S256x2048.Idx) :
    ∃ pc ∈ (kernelRun0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7).1, y ∈ pc.1.set :=
  View.cover_of_tiledL (kernelRun0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7).1 S256x128.size (by sl_kernel_rfl) y

/-- What the run leaves in the gradient's block: its pieces, read back. -/
def out0_8 (c : Dev nD) (i : grid0.Coords) (arg1 : Memref sig .tc .vmem S2048x256 .f32) (harg1 : arg1.IsWhole) (arg2 : Memref sig .tc .vmem S256x2048 .f32) (harg2 : arg2.IsWhole) (arg3 : Memref sig .tc .vmem S256x256 .bf16) (harg3 : arg3.IsWhole) (arg4 : Memref sig .tc .vmem S256x2048 .i8) (harg4 : arg4.IsWhole) (arg5 : Memref sig .tc .vmem S256x16 .f32) (harg5 : arg5.IsWhole) (arg6 : Memref sig .tc .vmem S2048x2048 .bf16) (harg6 : arg6.IsWhole) (arg7 : Memref sig .tc .vmem S2048x2048 .bf16) (harg7 : arg7.IsWhole) (arg8 : Memref sig .tc .vmem S2048x2048 .bf16) (harg8 : arg8.IsWhole) (arg9 : Memref sig .tc .vmem S256x2048 .f32) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .bf16) (harg13 : arg13.IsWhole) (arg14 : Memref sig .tc .vmem S256x2048 .bf16) (harg14 : arg14.IsWhole) (arg15 : Memref sig .tc .vmem S256x2048 .bf16) (harg15 : arg15.IsWhole) (arg16 : Memref sig .tc .vmem S256x512 .f32) (harg16 : arg16.IsWhole)
    (x0 : Vec F S2048x256 .f32) (x1 : Vec F S256x2048 .f32) (x2 : Vec F S256x256 .bf16) (x3 : Vec F S256x2048 .i8) (x4 : Vec F S256x16 .f32) (x5 : Vec F S2048x2048 .bf16) (x6 : Vec F S2048x2048 .bf16) (x7 : Vec F S2048x2048 .bf16) : Vec F S256x2048 .f32 :=
  VO0_8.read (Elt F) (VO0_8.writes (Elt F) VO0_8.junk (kernelRun0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7).1)

/-- What step `t` leaves in the gradient's block. -/
def outAt (c : Dev nD) (t : Fin cfg0.N) : Vec F S256x2048 .f32 :=
  out0_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (iblk m c 0 t) (iblk m c 1 t) (iblk m c 2 t) (iblk m c 3 t) (iblk m c 4 t) (iblk m c 5 t) (iblk m c 6 t) (iblk m c 7 t)

/-- The windows of which nothing is said: the six outputs other than the gradient. -/
def forgets0 : Fin 15 → Bool := fun w => decide (9 ≤ w.val)

/-- The data of the call: each array as the call finds it, each input's block kept by the step, the gradient's block at
    what the step stores, the other outputs at nothing in particular. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
    | ⟨9, _⟩ => Pipeline.Dat.unnamed (cfg := cfg0) 9 t
    | ⟨10, _⟩ => Pipeline.Dat.unnamed (cfg := cfg0) 10 t
    | ⟨11, _⟩ => Pipeline.Dat.unnamed (cfg := cfg0) 11 t
    | ⟨12, _⟩ => Pipeline.Dat.unnamed (cfg := cfg0) 12 t
    | ⟨13, _⟩ => Pipeline.Dat.unnamed (cfg := cfg0) 13 t
    | ⟨14, _⟩ => Pipeline.Dat.unnamed (cfg := cfg0) 14 t
  Φ _ := Pipeline.ΦA spec0 c
  q _ := fullShare
  owed _ := 0

/-- The data's arrays are those the call finds. -/
theorem A_eq (c : Dev nD) (w : Fin cfg0.W) : (dats m 0 c).A w = V m c (Pipeline.arrRef spec0 w) := by
  dsimp only [dats]

/-- A step keeps input 0's block. -/
theorem after0_0 (c : Dev nD) (t : Fin cfg0.N) : (dats m 0 c).after 0 t = iblk m c 0 t := by dsimp only [dats]
/-- A step keeps input 1's block. -/
theorem after0_1 (c : Dev nD) (t : Fin cfg0.N) : (dats m 0 c).after 1 t = iblk m c 1 t := by dsimp only [dats]
/-- A step keeps input 2's block. -/
theorem after0_2 (c : Dev nD) (t : Fin cfg0.N) : (dats m 0 c).after 2 t = iblk m c 2 t := by dsimp only [dats]
/-- A step keeps input 3's block. -/
theorem after0_3 (c : Dev nD) (t : Fin cfg0.N) : (dats m 0 c).after 3 t = iblk m c 3 t := by dsimp only [dats]
/-- A step keeps input 4's block. -/
theorem after0_4 (c : Dev nD) (t : Fin cfg0.N) : (dats m 0 c).after 4 t = iblk m c 4 t := by dsimp only [dats]
/-- A step keeps input 5's block. -/
theorem after0_5 (c : Dev nD) (t : Fin cfg0.N) : (dats m 0 c).after 5 t = iblk m c 5 t := by dsimp only [dats]
/-- A step keeps input 6's block. -/
theorem after0_6 (c : Dev nD) (t : Fin cfg0.N) : (dats m 0 c).after 6 t = iblk m c 6 t := by dsimp only [dats]
/-- A step keeps input 7's block. -/
theorem after0_7 (c : Dev nD) (t : Fin cfg0.N) : (dats m 0 c).after 7 t = iblk m c 7 t := by dsimp only [dats]
/-- A step leaves the gradient's block as its stores make it. -/
theorem after0_8 (c : Dev nD) (t : Fin cfg0.N) : (dats m 0 c).after 8 t = outAt m c t := by dsimp only [dats]
/-- A step finds input 0's block. -/
theorem before0_0 (c : Dev nD) (t : Fin cfg0.N) (d) : (dats m 0 c).before 0 t d = iblk m c 0 t :=
  before0_0_of m (dats m 0 c) (A_eq m c 0) (after0_0 m c) t d
/-- A step finds input 1's block. -/
theorem before0_1 (c : Dev nD) (t : Fin cfg0.N) (d) : (dats m 0 c).before 1 t d = iblk m c 1 t :=
  before0_1_of m (dats m 0 c) (A_eq m c 1) (after0_1 m c) t d
/-- A step finds input 2's block. -/
theorem before0_2 (c : Dev nD) (t : Fin cfg0.N) (d) : (dats m 0 c).before 2 t d = iblk m c 2 t :=
  before0_2_of m (dats m 0 c) (A_eq m c 2) (after0_2 m c) t d
/-- A step finds input 3's block. -/
theorem before0_3 (c : Dev nD) (t : Fin cfg0.N) (d) : (dats m 0 c).before 3 t d = iblk m c 3 t :=
  before0_3_of m (dats m 0 c) (A_eq m c 3) (after0_3 m c) t d
/-- A step finds input 4's block. -/
theorem before0_4 (c : Dev nD) (t : Fin cfg0.N) (d) : (dats m 0 c).before 4 t d = iblk m c 4 t :=
  before0_4_of m (dats m 0 c) (A_eq m c 4) (after0_4 m c) t d
/-- A step finds input 5's block. -/
theorem before0_5 (c : Dev nD) (t : Fin cfg0.N) (d) : (dats m 0 c).before 5 t d = iblk m c 5 t :=
  before0_5_of m (dats m 0 c) (A_eq m c 5) (after0_5 m c) t d
/-- A step finds input 6's block. -/
theorem before0_6 (c : Dev nD) (t : Fin cfg0.N) (d) : (dats m 0 c).before 6 t d = iblk m c 6 t :=
  before0_6_of m (dats m 0 c) (A_eq m c 6) (after0_6 m c) t d
/-- A step finds input 7's block. -/
theorem before0_7 (c : Dev nD) (t : Fin cfg0.N) (d) : (dats m 0 c).before 7 t d = iblk m c 7 t :=
  before0_7_of m (dats m 0 c) (A_eq m c 7) (after0_7 m c) t d

/-- What the body is called with at step `t`. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d))

/-- What the body returns at step `t`. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d))

set_option maxHeartbeats 1600000 in
/-- The body at a step: the run applies to the blocks the step finds, and its stores are what the data names. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  unfold outAt
  unfold out0_8; (try dsimp only)
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((kernelRun0 c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [HS0]; · iexact HS0
  iintro ⟨H0, H1, H2, H3, H4, H5, H6, H7, ⟨%e8, H8⟩, H9, H10, H11, H12, H13, H14, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_of_cover _ _ _ _ _ (cover0_8 c _ _ _ _ _ _ _ _ _ _ _ _ _ _ _ _ _ _ _ _ _ _ _ _ _ _ _ _ _ _ _ _ _ _ _ _ _ _ _ _ _)
  isplitl [H9]; · iexact H9
  isplitl [H10]; · iexact H10
  isplitl [H11]; · iexact H11
  isplitl [H12]; · iexact H12
  isplitl [H13]; · iexact H13
  iexact H14

/-- The body the launch looks up at a step is the body. -/
theorem defs₀_row (t : Fin cfg0.N) :
    defs₀ (F := F) .tc cfg0.body (cfg0.bodyArgs t (cfg0.slots t)) = bodyAt0 t := by
  unfold defs₀; rw [Defs.onTc_tc]

/-- The body meets its obligation at every step, with the six other outputs unspoken of. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The kernel runs to the end; every input array is kept, the gradient's array is what the data computes, and every
    semaphore ends at zero. -/
theorem run_main_quiescent : θ_run defs (onTc (τ := τ) (main (F := F))) (s₀ m ρ)
    (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

variable {m}

/-- Argument 0 is kept. -/
theorem kept0 {r : PUnit × MemSt nD τ sig (Elt F)}
    (h : Pipeline.RDat.FramePost (cfgs 0) (fun c => (dats (F := F) m 0 c).toRForget forgets0) (V m) r) (c : Dev nD) :
    r.2.mem ((c : Thread nD τ).loc main_arg0) = m ((c : Thread nD τ).loc main_arg0) :=
  (Pipeline.RDat.FramePost.arr_in h c 0 rfl).trans ((A_eq m c 0).trans (V_main_arg0 m c))

/-- Argument 1 is kept. -/
theorem kept1 {r : PUnit × MemSt nD τ sig (Elt F)}
    (h : Pipeline.RDat.FramePost (cfgs 0) (fun c => (dats (F := F) m 0 c).toRForget forgets0) (V m) r) (c : Dev nD) :
    r.2.mem ((c : Thread nD τ).loc main_arg1) = m ((c : Thread nD τ).loc main_arg1) :=
  (Pipeline.RDat.FramePost.arr_in h c 1 rfl).trans ((A_eq m c 1).trans (V_main_arg1 m c))

/-- Argument 2 is kept. -/
theorem kept2 {r : PUnit × MemSt nD τ sig (Elt F)}
    (h : Pipeline.RDat.FramePost (cfgs 0) (fun c => (dats (F := F) m 0 c).toRForget forgets0) (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- Argument 3 is kept. -/
theorem kept3 {r : PUnit × MemSt nD τ sig (Elt F)}
    (h : Pipeline.RDat.FramePost (cfgs 0) (fun c => (dats (F := F) m 0 c).toRForget forgets0) (V m) r) (c : Dev nD) :
    r.2.mem ((c : Thread nD τ).loc main_arg3) = m ((c : Thread nD τ).loc main_arg3) :=
  (Pipeline.RDat.FramePost.arr_in h c 3 rfl).trans ((A_eq m c 3).trans (V_main_arg3 m c))

/-- Argument 4 is kept. -/
theorem kept4 {r : PUnit × MemSt nD τ sig (Elt F)}
    (h : Pipeline.RDat.FramePost (cfgs 0) (fun c => (dats (F := F) m 0 c).toRForget forgets0) (V m) r) (c : Dev nD) :
    r.2.mem ((c : Thread nD τ).loc main_arg4) = m ((c : Thread nD τ).loc main_arg4) :=
  (Pipeline.RDat.FramePost.arr_in h c 4 rfl).trans ((A_eq m c 4).trans (V_main_arg4 m c))

/-- Argument 5 is kept. -/
theorem kept5 {r : PUnit × MemSt nD τ sig (Elt F)}
    (h : Pipeline.RDat.FramePost (cfgs 0) (fun c => (dats (F := F) m 0 c).toRForget forgets0) (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- The gradient's array after the run. -/
theorem array8 {r : PUnit × MemSt nD τ sig (Elt F)}
    (h : Pipeline.RDat.FramePost (cfgs 0) (fun c => (dats (F := F) m 0 c).toRForget forgets0) (V m) r) (c : Dev nD) :
    r.2.mem ((c : Thread nD τ).loc main_v8_0) = (dats m 0 c).arrAt 8 (cfgs 0).N :=
  ((dats m 0 c).toRForget_arrAt_iff (w := 8) rfl (cfgs 0).N _).mp ((h c).1 8)

variable (m)

/-- The kernel runs to the end, every argument is kept, and every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨kept0 h.1 c, kept1 h.1 c, kept2 h.1 c, kept3 h.1 c, kept4 h.1 c, kept5 h.1 c⟩, h.2⟩)
    (run_main_quiescent m ρ)

end Cert.GradientIdeal.Hand

end
-- ==== Proof.Grad.lean ====
module

public import proofs.«01_k».proof.Proof.GradIdealFrame
public import proofs.«01_k».proof.Proof.Gen.GradientReferenceIdeal.Run
public import Idealize.ShloMosaic.Lib.Pipeline.ValueKit
public import Idealize.ShloMosaic.Lib.Pipeline.ReadBack

/-
  The gradient. The kernel walks 8 blocks of 256 rows and writes each block in 16 tiles of 128 columns; every tile holds,
  at a row `i` and a column `j`, the sum over the tokens of activation times row sum, plus the other sum's transpose, times
  the constant. The reference is the same formula on the whole arrays, with the factors of the last product swapped.
-/

set_option maxRecDepth 16384

@[expose] public section

noncomputable section

namespace Cert.Spec

open Idealize.ShloMosaic

/-- The gradient, from the two sums and the activations. -/
def gradArr (G : (⟨2, ![2048, 2048]⟩ : Shape).Idx → EReal) (P : (⟨2, ![256, 2048]⟩ : Shape).Idx → EReal)
    (X : (⟨3, ![1, 256, 2048]⟩ : Shape).Idx → EReal) : (⟨2, ![2048, 2048]⟩ : Shape).Idx → EReal :=
  fun i => ((∑ b : Fin 256, X (ix3 0 b (i 0)) * P (ix2 b (i 1))) + G (ix2 (i 1) (i 0)))
    * FloatOps.ofBits (F := Ideal) .f32 0x35800000#32

end Cert.Spec

namespace Cert.GradientIdeal.Hand

open Cert.GradientIdeal Cert.GradientIdeal.Gen
open Idealize.ShloMosaic Idealize.ShloMosaic.TcCoe Idealize.ShloMosaic.Tactic
open Idealize.ShloMosaic.Pipeline (Dat Cfg Window)
open Idealize.SL.Sem

variable (m : (ℓ : Loc nD τ sig) → Buf (Elt Ideal) ℓ)

/-- Which block of its array each window used here holds at step `t`. -/
theorem idx : ∀ t : Fin cfg0.N, win0_0.index t = ![0, t.val] ∧ win0_1.index t = ![0, 0]
    ∧ win0_2.index t = ![0, t.val] ∧ win0_8.index t = ![t.val, 0] ∧ t.val < 8 :=
  (by decide +kernel : ∀ t : Fin grid0.N, _)

/-- There are 8 steps. -/
theorem tlt (t : Fin cfg0.N) : t.val < 8 := (idx t).2.2.2.2

/-- The gradient sum. -/
abbrev aG (c : Dev nD) : Vec Ideal S2048x2048 .f32 := m ((c : Thread nD τ).loc main_arg0)
/-- The code-side sum. -/
abbrev aP (c : Dev nD) : Vec Ideal S256x2048 .f32 := m ((c : Thread nD τ).loc main_arg1)
/-- The activations. -/
abbrev aX (c : Dev nD) : Vec Ideal S1x256x2048 .bf16 := m ((c : Thread nD τ).loc main_arg2)

/-- The first window holds a block of columns of the gradient sum. -/
theorem blk0 (c : Dev nD) (t : Fin cfg0.N) (j : Fin 2048) (i : Fin 256) (r : Fin 2048) (hr : r.val = 256 * t.val + i.val) :
    (iblk m c 0 t : Vec Ideal S2048x256 .f32) (ix2 j i) = aG m c (ix2 j r) := by
  have ht := tlt t
  blk_simp [iblk, V, idx t]
  entry_read
  pointwise []
  blk_ext [idx t]

/-- The second window holds the code-side sum. -/
theorem blk1 (c : Dev nD) (t : Fin cfg0.N) (b : Fin 256) (j : Fin 2048) :
    (iblk m c 1 t : Vec Ideal S256x2048 .f32) (ix2 b j) = aP m c (ix2 b j) := by
  blk_simp [iblk, V, idx t]
  entry_read
  pointwise []
  blk_ext [idx t]

/-- The third window holds a block of columns of the activations. -/
theorem blk2 (c : Dev nD) (t : Fin cfg0.N) (b i : Fin 256) (r : Fin 2048) (hr : r.val = 256 * t.val + i.val) :
    (iblk m c 2 t : Vec Ideal S256x256 .bf16) (ix2 b i) = aX m c (ix3 0 b r) := by
  have ht := tlt t
  blk_simp [iblk, V, idx t]
  entry_read
  pointwise []
  blk_ext [idx t]

section
variable (G : Vec Ideal S2048x256 .f32) (P : Vec Ideal S256x2048 .f32) (X : Vec Ideal S256x256 .bf16)

/-- A block of the gradient, from the step's blocks. -/
def gradBlk : Vec Ideal S256x2048 .f32 := fun y =>
  ((∑ b : Fin 256, X (ix2 b (y 0)) * P (ix2 b (y 1))) + G (ix2 (y 1) (y 0))) * FloatOps.ofBits (F := Ideal) .f32 0x35800000#32

/-- A block of the gradient is that part of the gradient whose arguments its own are. -/
theorem gradBlk_eq (g : Vec Ideal S2048x2048 .f32) (p : Vec Ideal S256x2048 .f32) (x : Vec Ideal S1x256x2048 .bf16)
    (a : Fin 256) (b r : Fin 2048) (hx : ∀ k : Fin 256, X (ix2 k a) = x (ix3 0 k r))
    (hp : ∀ k : Fin 256, P (ix2 k b) = p (ix2 k b)) (hg : G (ix2 b a) = g (ix2 b r)) :
    gradBlk G P X (ix2 a b) = Spec.gradArr g p x (ix2 r b) := by
  show ((∑ k : Fin 256, X (ix2 k a) * P (ix2 k b)) + G (ix2 b a)) * _ = _
  simp only [hx, hp, hg]
  rfl

/-- One tile's arithmetic at an index. -/
theorem pay17_point (v3 : Vec Ideal S256x128 .f32) (v6 : Vec Ideal S128x256 .f32) (i : Fin 256) (j : Fin 128) :
    k0_pay17 X v3 v6 (ix2 i j)
      = ((∑ b : Fin 256, X (ix2 b i) * v3 (ix2 b j)) + v6 (ix2 j i)) * FloatOps.ofBits (F := Ideal) .f32 0x35800000#32 := by
  pointwise [k0_pay17, k0_pay16]
  try rfl

/-- A store of a tile puts a tile of the block. -/
theorem grad_piece (n : ℕ) (h : ∀ a, (![0, n] : Fin 2 → ℕ) a + (![256, 128] : Fin 2 → ℕ) a ≤ S256x2048.size a)
    (h' : ∀ a, (![n, 0] : Fin 2 → ℕ) a + (![128, 256] : Fin 2 → ℕ) a ≤ S2048x256.size a) (x : S256x128.Idx) :
    k0_pay17 X (View.ld P (Rect.unit ![0, n] ![256, 128] h)) (View.ld G (Rect.unit ![n, 0] ![128, 256] h')) x
      = gradBlk G P X ((Rect.unit (s := S256x2048) ![0, n] ![256, 128] h).emb x) := by
  obtain ⟨i, j, rfl⟩ : ∃ (i : Fin 256) (j : Fin 128), x = ix2 i j := ⟨x 0, x 1, eq_ix2 x⟩
  have hn : n + 128 ≤ 2048 := h 1
  have e : (Rect.unit (s := S256x2048) ![0, n] ![256, 128] h).emb (ix2 i j)
      = (ix2 i (⟨n + j.val, by omega⟩ : Fin 2048) : S256x2048.Idx) := by
    funext k
    refine Fin.ext ?_
    match k with
    | ⟨0, _⟩ => show 0 + 1 * i.val = i.val; omega
    | ⟨1, _⟩ => show n + 1 * j.val = n + j.val; omega
  rw [e]
  refine (pay17_point X _ _ i j).trans ?_
  have hp : ∀ b : Fin 256, View.ld P (Rect.unit ![0, n] ![256, 128] h) (ix2 b j)
      = P (ix2 b (⟨n + j.val, by omega⟩ : Fin 2048)) := fun b => by
    rw [View.ld_apply]
    refine congrArg P (funext fun k => Fin.ext ?_)
    match k with
    | ⟨0, _⟩ => show 0 + 1 * b.val = b.val; omega
    | ⟨1, _⟩ => show n + 1 * j.val = n + j.val; omega
  have hg : View.ld G (Rect.unit ![n, 0] ![128, 256] h') (ix2 j i) = G (ix2 (⟨n + j.val, by omega⟩ : Fin 2048) i) := by
    rw [View.ld_apply]
    refine congrArg G (funext fun k => Fin.ext ?_)
    match k with
    | ⟨0, _⟩ => show n + 1 * j.val = n + j.val; omega
    | ⟨1, _⟩ => show 0 + 1 * i.val = i.val; omega
  simp only [hp, hg]
  rfl

/-- The 16 stores of a step's block, the last first. -/
def gp : List (View.Piece (Elt Ideal) S256x2048 .f32) :=
  [⟨Rect.unit ![0, 1920] ![256, 128] inb_S256x2048_S256x128_0_1920, k0_pay17 X (View.ld P (Rect.unit ![0, 1920] ![256, 128] inb_S256x2048_S256x128_0_1920))
     (View.ld G (Rect.unit ![1920, 0] ![128, 256] inb_S2048x256_S128x256_1920_0))⟩,
   ⟨Rect.unit ![0, 1792] ![256, 128] inb_S256x2048_S256x128_0_1792, k0_pay17 X (View.ld P (Rect.unit ![0, 1792] ![256, 128] inb_S256x2048_S256x128_0_1792))
     (View.ld G (Rect.unit ![1792, 0] ![128, 256] inb_S2048x256_S128x256_1792_0))⟩,
   ⟨Rect.unit ![0, 1664] ![256, 128] inb_S256x2048_S256x128_0_1664, k0_pay17 X (View.ld P (Rect.unit ![0, 1664] ![256, 128] inb_S256x2048_S256x128_0_1664))
     (View.ld G (Rect.unit ![1664, 0] ![128, 256] inb_S2048x256_S128x256_1664_0))⟩,
   ⟨Rect.unit ![0, 1536] ![256, 128] inb_S256x2048_S256x128_0_1536, k0_pay17 X (View.ld P (Rect.unit ![0, 1536] ![256, 128] inb_S256x2048_S256x128_0_1536))
     (View.ld G (Rect.unit ![1536, 0] ![128, 256] inb_S2048x256_S128x256_1536_0))⟩,
   ⟨Rect.unit ![0, 1408] ![256, 128] inb_S256x2048_S256x128_0_1408, k0_pay17 X (View.ld P (Rect.unit ![0, 1408] ![256, 128] inb_S256x2048_S256x128_0_1408))
     (View.ld G (Rect.unit ![1408, 0] ![128, 256] inb_S2048x256_S128x256_1408_0))⟩,
   ⟨Rect.unit ![0, 1280] ![256, 128] inb_S256x2048_S256x128_0_1280, k0_pay17 X (View.ld P (Rect.unit ![0, 1280] ![256, 128] inb_S256x2048_S256x128_0_1280))
     (View.ld G (Rect.unit ![1280, 0] ![128, 256] inb_S2048x256_S128x256_1280_0))⟩,
   ⟨Rect.unit ![0, 1152] ![256, 128] inb_S256x2048_S256x128_0_1152, k0_pay17 X (View.ld P (Rect.unit ![0, 1152] ![256, 128] inb_S256x2048_S256x128_0_1152))
     (View.ld G (Rect.unit ![1152, 0] ![128, 256] inb_S2048x256_S128x256_1152_0))⟩,
   ⟨Rect.unit ![0, 1024] ![256, 128] inb_S256x2048_S256x128_0_1024, k0_pay17 X (View.ld P (Rect.unit ![0, 1024] ![256, 128] inb_S256x2048_S256x128_0_1024))
     (View.ld G (Rect.unit ![1024, 0] ![128, 256] inb_S2048x256_S128x256_1024_0))⟩,
   ⟨Rect.unit ![0, 896] ![256, 128] inb_S256x2048_S256x128_0_896, k0_pay17 X (View.ld P (Rect.unit ![0, 896] ![256, 128] inb_S256x2048_S256x128_0_896))
     (View.ld G (Rect.unit ![896, 0] ![128, 256] inb_S2048x256_S128x256_896_0))⟩,
   ⟨Rect.unit ![0, 768] ![256, 128] inb_S256x2048_S256x128_0_768, k0_pay17 X (View.ld P (Rect.unit ![0, 768] ![256, 128] inb_S256x2048_S256x128_0_768))
     (View.ld G (Rect.unit ![768, 0] ![128, 256] inb_S2048x256_S128x256_768_0))⟩,
   ⟨Rect.unit ![0, 640] ![256, 128] inb_S256x2048_S256x128_0_640, k0_pay17 X (View.ld P (Rect.unit ![0, 640] ![256, 128] inb_S256x2048_S256x128_0_640))
     (View.ld G (Rect.unit ![640, 0] ![128, 256] inb_S2048x256_S128x256_640_0))⟩,
   ⟨Rect.unit ![0, 512] ![256, 128] inb_S256x2048_S256x128_0_512, k0_pay17 X (View.ld P (Rect.unit ![0, 512] ![256, 128] inb_S256x2048_S256x128_0_512))
     (View.ld G (Rect.unit ![512, 0] ![128, 256] inb_S2048x256_S128x256_512_0))⟩,
   ⟨Rect.unit ![0, 384] ![256, 128] inb_S256x2048_S256x128_0_384, k0_pay17 X (View.ld P (Rect.unit ![0, 384] ![256, 128] inb_S256x2048_S256x128_0_384))
     (View.ld G (Rect.unit ![384, 0] ![128, 256] inb_S2048x256_S128x256_384_0))⟩,
   ⟨Rect.unit ![0, 256] ![256, 128] inb_S256x2048_S256x128_0_256, k0_pay17 X (View.ld P (Rect.unit ![0, 256] ![256, 128] inb_S256x2048_S256x128_0_256))
     (View.ld G (Rect.unit ![256, 0] ![128, 256] inb_S2048x256_S128x256_256_0))⟩,
   ⟨Rect.unit ![0, 128] ![256, 128] inb_S256x2048_S256x128_0_128, k0_pay17 X (View.ld P (Rect.unit ![0, 128] ![256, 128] inb_S256x2048_S256x128_0_128))
     (View.ld G (Rect.unit ![128, 0] ![128, 256] inb_S2048x256_S128x256_128_0))⟩,
   ⟨Rect.unit ![0, 0] ![256, 128] inb_S256x2048_S256x128_0_0, k0_pay17 X (View.ld P (Rect.unit ![0, 0] ![256, 128] inb_S256x2048_S256x128_0_0))
     (View.ld G (Rect.unit ![0, 0] ![128, 256] inb_S2048x256_S128x256_0_0))⟩]

/-- Each of the 16 stores puts a tile of the block. -/
theorem gp_pieces : ∀ p ∈ gp G P X, ∀ x : p.1.shape.Idx, p.2 x = gradBlk G P X (p.1.emb x) := by
  intro p hp
  simp only [gp, List.mem_cons, List.not_mem_nil, or_false] at hp
  rcases hp with rfl | rfl | rfl | rfl | rfl | rfl | rfl | rfl | rfl | rfl | rfl | rfl | rfl | rfl | rfl | rfl
  all_goals exact fun x => grad_piece G P X _ _ _ x

/-- The 16 stores cover the block. -/
theorem gp_cover (y : S256x2048.Idx) : ∃ p ∈ gp G P X, y ∈ p.1.set :=
  View.cover_of_tiled _ ![256, 128] (by rfl) y

end

set_option maxHeartbeats 2000000 in
/-- What a step leaves in the gradient's block. -/
theorem grad_step (c : Dev nD) (t : Fin cfg0.N) (y) :
    outAt m c t y = gradBlk (iblk m c 0 t) (iblk m c 1 t) (iblk m c 2 t) y := by
  have e : outAt m c t = View.canon (gp (iblk m c 0 t) (iblk m c 1 t) (iblk m c 2 t)) := by
    unfold outAt out0_8
    frame_out
    rfl
  rw [e]
  exact View.canon_apply_of_pieces (gradBlk _ _ _) (gp _ _ _) (gp_pieces _ _ _) y (gp_cover _ _ _ y)

/-- The array of the gradient. -/
theorem grad_array (c : Dev nD) :
    (dats m 0 c).arrAt 8 (cfgs 0).N = Spec.gradArr (aG m c) (aP m c) (aX m c) := by
  refine (dats m 0 c).arrAt_eq_of_covers 8 _ (by decide +kernel) fun t _ y => ?_
  have ht := tlt t
  obtain ⟨a, b, rfl⟩ : ∃ (a : Fin 256) (b : Fin 2048), y = ix2 a b := ⟨y 0, y 1, eq_ix2 y⟩
  blk_simp
  rw [after0_8]
  refine (grad_step m c t _).trans ?_
  have e0 : ∀ k : Fin 256, (iblk m c 2 t : Vec Ideal S256x256 .bf16) (ix2 k a) = aX m c (ix3 0 k ⟨256 * t.val + a.val, by omega⟩) :=
    fun k => blk2 m c t k a _ rfl
  have e1 : (iblk m c 0 t : Vec Ideal S2048x256 .f32) (ix2 b a) = aG m c (ix2 b ⟨256 * t.val + a.val, by omega⟩) :=
    blk0 m c t b a _ rfl
  have e2 : ∀ k : Fin 256, (iblk m c 1 t : Vec Ideal S256x2048 .f32) (ix2 k b) = aP m c (ix2 k b) := fun k => blk1 m c t k b
  have e : gradBlk (iblk m c 0 t) (iblk m c 1 t) (iblk m c 2 t) (ix2 a b)
      = Spec.gradArr (aG m c) (aP m c) (aX m c) (ix2 (⟨256 * t.val + a.val, by omega⟩ : Fin 2048) b) :=
    gradBlk_eq _ _ _ _ _ _ a b _ e0 e2 e1
  refine Eq.trans ?_ (e.trans (congrArg (Spec.gradArr (aG m c) (aP m c) (aX m c)) (funext fun k => Fin.ext ?_)))
  · rfl
  · match k with
    | ⟨0, _⟩ => blk_simp [idx t]; exact (congrArg (· + a.val) (Nat.mul_comm _ _))
    | ⟨1, _⟩ => blk_simp [idx t]

/-- The kernel runs to the end, its result is the stated function of its arguments, and the arguments are kept. -/
theorem run_results (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v8_0) = Spec.gradArr (aG m c) (aP m c) (aX m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  θ_run_mono (run_main_quiescent m ρ) fun r h c =>
    ⟨(array8 h.1 c).trans (grad_array m c), kept0 h.1 c, kept1 h.1 c, kept2 h.1 c, kept3 h.1 c, kept4 h.1 c, kept5 h.1 c⟩

end Cert.GradientIdeal.Hand

namespace Cert.GradientReferenceIdeal.Hand

open Cert.GradientReferenceIdeal Cert.GradientReferenceIdeal.Gen
open Idealize.ShloMosaic Idealize.ShloMosaic.TcCoe Idealize.ShloMosaic.Tactic
open Idealize.SL.Sem

/-- The reference's formula at an index. -/
theorem ref_value (G : Vec Ideal S2048x2048 .f32) (P : Vec Ideal S256x2048 .f32) (X : Vec Ideal S1x256x2048 .bf16) :
    mulf (broadcastInDim S2048x2048 ![] bcast_S_S2048x2048 (constant (F := Ideal) S_ .f32 0x35800000#32)) (addf (Host.dotGeneral (φ₁ := .bf16) (φ₂ := .bf16) dot_S2048x256_S256x2048_S2048x2048_1_0_0_1_n_n none (transpose (α := Elt Ideal .bf16) S2048x256 [1, 0] (shapeCast (α := Elt Ideal .bf16) _ X shapeCasts_S1x256x2048_S256x2048) transposes_S256x2048_S2048x256_1_0) (truncf .bf16 P bitsLt_bf16_f32)) (transpose S2048x2048 [1, 0] G transposes_S2048x2048_S2048x2048_1_0))
      = Spec.gradArr G P X := by
  funext i
  obtain ⟨a, b, rfl⟩ : ∃ a b : Fin 2048, i = ix2 a b := ⟨i 0, i 1, eq_ix2 i⟩
  pointwise []
  exact mul_comm _ _

/-- The reference runs to the end, its result is the same function of its arguments, and the arguments are kept. -/
theorem run_results (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v7) = Spec.gradArr (m ((c : Thread nD τ).loc main_arg0))
        (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  θ_run_mono (Value.run (F := Ideal) m ρ) fun r h c =>
    ⟨(h c).1.trans (ref_value _ _ _), (h c).2⟩

/-- The frame of the reference: the arguments are kept, and there are no counters. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5))
      ∧ r.2.sem = fun _ => 0 :=
  θ_run_mono (run_results m ρ) fun _ h => ⟨fun c => (h c).2, funext fun x => nomatch x⟩

end Cert.GradientReferenceIdeal.Hand

end
-- ==== Proof.Math.lean ====
module

public import Idealize.ShloMosaic.PureOps.Ideal
public import Idealize.ShloMosaic.Lib.Pipeline.ValueKit

/-
  The arithmetic of one row of rotated weights, and re-blocked sums, over the extended reals. No program is mentioned here.
-/

@[expose] public section

noncomputable section

namespace Cert.RowMath

open Idealize.ShloMosaic

/-- The scale of a row: a seventh of the largest magnitude in it, or one for a row of zeros. -/
def scl (v : Fin 2048 → EReal) : EReal :=
  if Finset.fold max (Ideal.ofBits FTy.f32 4286578688#32) (fun x => FloatOps.absf (F := Ideal) (φ := .f32) (v x)) Finset.univ = 0
  then 1
  else Ideal.div
    (Finset.fold max (Ideal.ofBits FTy.f32 4286578688#32) (fun x => FloatOps.absf (F := Ideal) (φ := .f32) (v x)) Finset.univ)
    (Ideal.ofBits FTy.f32 1088421888#32)

/-- The code of a row's element: the quotient by the scale, rounded to an integer and clipped to [-7, 7]. -/
def cod (v : Fin 2048 → EReal) (l : Fin 2048) : EReal :=
  min (Ideal.ofBits FTy.f32 1088421888#32)
    (max (Ideal.ofBits FTy.f32 3235905536#32) (Ideal.liftRound Ideal.roundHalfEven (Ideal.div (v l) (scl v))))

/-- The squared error of a row's codes. -/
def sqerr (v : Fin 2048 → EReal) : EReal :=
  ∑ l : Fin 2048, (v l - scl v * cod v l) * (v l - scl v * cod v l)

/-- The residual of a token with codes `q`, scale `s` and target `y` on a row of weights. -/
def resid (v q : Fin 2048 → EReal) (s y : EReal) : EReal := (∑ k : Fin 2048, q k * cod v k) * s * scl v - y

/-- A sum over 2048 elements, lane by lane: 16 slices of 128. -/
theorem _root_.Fin.sum_lanes16 (f : Fin 2048 → EReal) :
    (∑ b : Fin 128, (f ⟨b, by omega⟩ + f ⟨128 + b, by omega⟩ + f ⟨256 + b, by omega⟩ + f ⟨384 + b, by omega⟩
      + f ⟨512 + b, by omega⟩ + f ⟨640 + b, by omega⟩ + f ⟨768 + b, by omega⟩ + f ⟨896 + b, by omega⟩
      + f ⟨1024 + b, by omega⟩ + f ⟨1152 + b, by omega⟩ + f ⟨1280 + b, by omega⟩ + f ⟨1408 + b, by omega⟩
      + f ⟨1536 + b, by omega⟩ + f ⟨1664 + b, by omega⟩ + f ⟨1792 + b, by omega⟩ + f ⟨1920 + b, by omega⟩))
      = ∑ l : Fin 2048, f l := by
  have h : ∑ l : Fin 2048, f l = ∑ q : Fin 16, ∑ b : Fin 128, f ⟨128 * q.val + b.val, by omega⟩ := by
    rw [← Fintype.sum_prod_type' (f := fun (q : Fin 16) (b : Fin 128) => f ⟨128 * q.val + b.val, by omega⟩)]
    refine (Fintype.sum_equiv (finProdFinEquiv (m := 16) (n := 128)) _ _ fun p => ?_).symm
    refine congrArg f (Fin.ext ?_)
    simp [finProdFinEquiv]; omega
  rw [h, Finset.sum_comm]
  refine Finset.sum_congr rfl fun b _ => ?_
  simp only [Fin.sum_univ_castSucc, Finset.univ_eq_empty, Finset.sum_empty, zero_add]
  rw [show f ⟨b.val, by omega⟩ = f ⟨128 * 0 + b.val, by omega⟩ from congrArg f (Fin.ext (by simp))]
  rfl

/-- A sum over 1024 elements as the sum of its halves. -/
theorem sum_halves (f : Fin 1024 → EReal) :
    (∑ i : Fin 512, f ⟨i.val, by omega⟩) + (∑ i : Fin 512, f ⟨512 + i.val, by omega⟩) = ∑ j : Fin 1024, f j :=
  (Fin.sum_univ_add (a := 512) (b := 512) f).symm

/-- A sum over 256 tokens and 512 rows, folded to 8 sublanes and 128 lanes. -/
theorem sum_tile8 (f : Fin 256 → Fin 512 → EReal) :
    (∑ b : Fin 8, ∑ l : Fin 128, ∑ x : Fin 32,
      (f ⟨x.val * 8 + b.val, by omega⟩ ⟨l.val, by omega⟩ + f ⟨x.val * 8 + b.val, by omega⟩ ⟨128 + l.val, by omega⟩
        + f ⟨x.val * 8 + b.val, by omega⟩ ⟨256 + l.val, by omega⟩ + f ⟨x.val * 8 + b.val, by omega⟩ ⟨384 + l.val, by omega⟩))
      = ∑ t : Fin 256, ∑ i : Fin 512, f t i := by
  have h1 : ∀ g : Fin 512 → EReal, ∑ i : Fin 512, g i
      = ∑ l : Fin 128, (g ⟨l.val, by omega⟩ + g ⟨128 + l.val, by omega⟩ + g ⟨256 + l.val, by omega⟩ + g ⟨384 + l.val, by omega⟩) := by
    intro g
    have h : ∑ i : Fin 512, g i = ∑ q : Fin 4, ∑ b : Fin 128, g ⟨128 * q.val + b.val, by omega⟩ := by
      rw [← Fintype.sum_prod_type' (f := fun (q : Fin 4) (b : Fin 128) => g ⟨128 * q.val + b.val, by omega⟩)]
      refine (Fintype.sum_equiv (finProdFinEquiv (m := 4) (n := 128)) _ _ fun p => ?_).symm
      refine congrArg g (Fin.ext ?_)
      simp [finProdFinEquiv]; omega
    rw [h, Finset.sum_comm]
    refine Finset.sum_congr rfl fun b _ => ?_
    simp only [Fin.sum_univ_castSucc, Finset.univ_eq_empty, Finset.sum_empty, zero_add]
    rw [show g ⟨b.val, by omega⟩ = g ⟨128 * 0 + b.val, by omega⟩ from congrArg g (Fin.ext (by simp))]
    rfl
  have h2 : ∀ g : Fin 256 → EReal, ∑ t : Fin 256, g t
      = ∑ b : Fin 8, ∑ x : Fin 32, g ⟨x.val * 8 + b.val, by omega⟩ := by
    intro g
    rw [Finset.sum_comm, ← Fintype.sum_prod_type' (f := fun (x : Fin 32) (b : Fin 8) => g ⟨x.val * 8 + b.val, by omega⟩)]
    refine (Fintype.sum_equiv (finProdFinEquiv (m := 32) (n := 8)) _ _ fun p => ?_).symm
    refine congrArg g (Fin.ext ?_)
    simp [finProdFinEquiv]; omega
  rw [h2 (fun t => ∑ i : Fin 512, f t i)]
  refine Finset.sum_congr rfl fun b _ => ?_
  rw [Finset.sum_comm]
  refine Finset.sum_congr rfl fun x _ => ?_
  rw [h1]

/-- A sum over 24576 rows, as 24 blocks of 1024. -/
theorem sum_blocks (f : Fin 24576 → EReal) :
    (∑ t : Fin 24, ∑ j : Fin 1024, f ⟨1024 * t.val + j.val, by omega⟩) = ∑ r : Fin 24576, f r := by
  rw [← Fintype.sum_prod_type' (f := fun (t : Fin 24) (j : Fin 1024) => f ⟨1024 * t.val + j.val, by omega⟩)]
  refine Fintype.sum_equiv (finProdFinEquiv (m := 24) (n := 1024)) _ _ fun p => ?_
  refine congrArg f (Fin.ext ?_)
  simp [finProdFinEquiv]; omega

/-- A sum over 24576 rows, as 3 layers of 8192. -/
theorem sum_layers (f : Fin 24576 → EReal) :
    (∑ h : Fin 3, ∑ n : Fin 8192, f ⟨8192 * h.val + n.val, by omega⟩) = ∑ r : Fin 24576, f r := by
  rw [← Fintype.sum_prod_type' (f := fun (t : Fin 3) (j : Fin 8192) => f ⟨8192 * t.val + j.val, by omega⟩)]
  refine Fintype.sum_equiv (finProdFinEquiv (m := 3) (n := 8192)) _ _ fun p => ?_
  refine congrArg f (Fin.ext ?_)
  simp [finProdFinEquiv]; omega

/-- The sum over block `t` of 1024 rows; zero where there is no such block. -/
def blkSum (f : Fin 24576 → EReal) (t : ℕ) : EReal :=
  if h : t < 24 then ∑ j : Fin 1024, f ⟨1024 * t + j.val, by omega⟩ else 0

/-- The 24 blocks make the whole sum. -/
theorem sum_blkSum (f : Fin 24576 → EReal) : ∑ t ∈ Finset.range 24, blkSum f t = ∑ r : Fin 24576, f r := by
  rw [Finset.sum_range, ← sum_blocks]
  refine Finset.sum_congr rfl fun t _ => ?_
  rw [blkSum, dif_pos t.isLt]

/-- A sum that starts at block 0 and adds a block per step is the sum of the blocks so far. -/
theorem acc_blkSum (N : ℕ) (f : Fin 24576 → EReal) (g : (n : ℕ) → n < N → EReal)
    (h0 : ∀ h, g 0 h = blkSum f 0)
    (hs : ∀ n (h : n + 1 < N), g (n + 1) h = g n (Nat.lt_of_succ_lt h) + blkSum f (n + 1)) :
    ∀ n (h : n < N), g n h = ∑ t ∈ Finset.range (n + 1), blkSum f t := by
  intro n
  induction n with
  | zero => intro h; rw [h0 h]; simp
  | succ n ih => intro h; rw [hs n h, ih, Finset.sum_range_succ _ (n + 1)]

end Cert.RowMath

end
-- ==== Proof.Norm.lean ====
module

public import proofs.«01_k».proof.Proof.Gen.NormIdeal.Frame
public import proofs.«01_k».proof.Proof.Gen.NormReferenceIdeal.Run
public import Idealize.ShloMosaic.Lib.Pipeline.ValueKit
public import Idealize.ShloMosaic.Lib.Pipeline.ReadBack
public import proofs.«01_k».proof.Proof.Math

/-
  The norm of the skew part. The kernel walks 8 blocks of 256 rows and adds the squares of `w - wᵀ` to an accumulator of
  8 by 128 lanes; the last step sums the lanes. The host takes the root and divides. The reference sums all squares at once.
-/

set_option maxRecDepth 16384

@[expose] public section

noncomputable section

namespace Cert.Spec

open Idealize.ShloMosaic

/-- The square of an element of `w - wᵀ`. -/
def skewSq (W : (⟨2, ![2048, 2048]⟩ : Shape).Idx → EReal) (r l : Fin 2048) : EReal :=
  (W (ix2 r l) - W (ix2 l r)) * (W (ix2 r l) - W (ix2 l r))

/-- The sum of all these squares. -/
def skewSum (W : (⟨2, ![2048, 2048]⟩ : Shape).Idx → EReal) : EReal := ∑ r : Fin 2048, ∑ l : Fin 2048, skewSq W r l

/-- The norm. -/
def naArr (W : (⟨2, ![2048, 2048]⟩ : Shape).Idx → EReal) : FVec Ideal (⟨0, ![]⟩ : Shape) .f32 := Host.sqrt fun _ => skewSum W

/-- The bound that goes with it. -/
def amaxArr (W : (⟨2, ![2048, 2048]⟩ : Shape).Idx → EReal) : FVec Ideal (⟨0, ![]⟩ : Shape) .f32 :=
  Host.divf (constant (⟨0, ![]⟩ : Shape) .f32 0x3F000000#32) (addf (naArr W) (constant (⟨0, ![]⟩ : Shape) .f32 0x322BCC77#32))

/-- A sum over 256 rows and 2048 lanes, folded to 8 sublanes and 128 lanes. -/
theorem sum_fold8 (f : Fin 256 → Fin 2048 → EReal) :
    (∑ a : Fin 8, ∑ b : Fin 128, ∑ x : Fin 32,
      (f ⟨x.val * 8 + a.val, by omega⟩ ⟨b.val, by omega⟩ + f ⟨x.val * 8 + a.val, by omega⟩ ⟨128 + b.val, by omega⟩ + f ⟨x.val * 8 + a.val, by omega⟩ ⟨256 + b.val, by omega⟩ + f ⟨x.val * 8 + a.val, by omega⟩ ⟨384 + b.val, by omega⟩
        + f ⟨x.val * 8 + a.val, by omega⟩ ⟨512 + b.val, by omega⟩ + f ⟨x.val * 8 + a.val, by omega⟩ ⟨640 + b.val, by omega⟩ + f ⟨x.val * 8 + a.val, by omega⟩ ⟨768 + b.val, by omega⟩
        + f ⟨x.val * 8 + a.val, by omega⟩ ⟨896 + b.val, by omega⟩ + f ⟨x.val * 8 + a.val, by omega⟩ ⟨1024 + b.val, by omega⟩ + f ⟨x.val * 8 + a.val, by omega⟩ ⟨1152 + b.val, by omega⟩
        + f ⟨x.val * 8 + a.val, by omega⟩ ⟨1280 + b.val, by omega⟩ + f ⟨x.val * 8 + a.val, by omega⟩ ⟨1408 + b.val, by omega⟩ + f ⟨x.val * 8 + a.val, by omega⟩ ⟨1536 + b.val, by omega⟩
        + f ⟨x.val * 8 + a.val, by omega⟩ ⟨1664 + b.val, by omega⟩ + f ⟨x.val * 8 + a.val, by omega⟩ ⟨1792 + b.val, by omega⟩ + f ⟨x.val * 8 + a.val, by omega⟩ ⟨1920 + b.val, by omega⟩
       ))
      = ∑ t : Fin 256, ∑ l : Fin 2048, f t l := by
  have h2 : ∀ g : Fin 256 → EReal, ∑ t : Fin 256, g t = ∑ a : Fin 8, ∑ x : Fin 32, g ⟨x.val * 8 + a.val, by omega⟩ := by
    intro g
    rw [Finset.sum_comm, ← Fintype.sum_prod_type' (f := fun (x : Fin 32) (a : Fin 8) => g ⟨x.val * 8 + a.val, by omega⟩)]
    refine (Fintype.sum_equiv (finProdFinEquiv (m := 32) (n := 8)) _ _ fun p => ?_).symm
    refine congrArg g (Fin.ext ?_)
    simp [finProdFinEquiv]; omega
  rw [h2 (fun t => ∑ l : Fin 2048, f t l)]
  refine Finset.sum_congr rfl fun a _ => ?_
  rw [Finset.sum_comm]
  refine Finset.sum_congr rfl fun x _ => ?_
  exact Fin.sum_lanes16 (f ⟨x.val * 8 + a.val, by omega⟩)

/-- The sum over block `t` of 256 rows; zero where there is no such block. -/
def blk8 (f : Fin 2048 → EReal) (t : ℕ) : EReal :=
  if h : t < 8 then ∑ j : Fin 256, f ⟨256 * t + j.val, by omega⟩ else 0

/-- The 8 blocks make the whole sum. -/
theorem sum_blk8 (f : Fin 2048 → EReal) : ∑ t ∈ Finset.range 8, blk8 f t = ∑ r : Fin 2048, f r := by
  have e : (∑ t : Fin 8, ∑ j : Fin 256, f ⟨256 * t.val + j.val, by omega⟩) = ∑ r : Fin 2048, f r := by
    rw [← Fintype.sum_prod_type' (f := fun (t : Fin 8) (j : Fin 256) => f ⟨256 * t.val + j.val, by omega⟩)]
    refine Fintype.sum_equiv (finProdFinEquiv (m := 8) (n := 256)) _ _ fun p => ?_
    refine congrArg f (Fin.ext ?_)
    simp [finProdFinEquiv]; omega
  rw [Finset.sum_range, ← e]
  refine Finset.sum_congr rfl fun t _ => ?_
  rw [blk8, dif_pos t.isLt]

/-- A sum that starts at block 0 and adds a block per step is the sum of the blocks so far. -/
theorem acc_blk8 (N : ℕ) (f : Fin 2048 → EReal) (g : (n : ℕ) → n < N → EReal)
    (h0 : ∀ h, g 0 h = blk8 f 0)
    (hs : ∀ n (h : n + 1 < N), g (n + 1) h = g n (Nat.lt_of_succ_lt h) + blk8 f (n + 1)) :
    ∀ n (h : n < N), g n h = ∑ t ∈ Finset.range (n + 1), blk8 f t := by
  intro n
  induction n with
  | zero => intro h; rw [h0 h]; simp
  | succ n ih => intro h; rw [hs n h, ih, Finset.sum_range_succ _ (n + 1)]

end Cert.Spec

namespace Cert.NormIdeal.Hand

open Cert.NormIdeal Cert.NormIdeal.Gen
open Idealize.ShloMosaic Idealize.ShloMosaic.TcCoe Idealize.ShloMosaic.Tactic
open Idealize.ShloMosaic.Pipeline (Dat Cfg Window)
open Idealize.SL.Sem

variable (m : (ℓ : Loc nD τ sig) → Buf (Elt Ideal) ℓ)

/-- Which block of its array each window used here holds at step `t`. -/
theorem idx : ∀ t : Fin cfg0.N, win0_0.index t = ![t.val, 0] ∧ win0_1.index t = ![0, t.val]
    ∧ win0_5.index t = ![0, 0] ∧ t.val < 8 :=
  (by decide +kernel : ∀ t : Fin grid0.N, _)

/-- There are 8 steps. -/
theorem tlt (t : Fin cfg0.N) : t.val < 8 := (idx t).2.2.2

/-- The generator. -/
abbrev aW (c : Dev nD) : Vec Ideal S2048x2048 .f32 := m ((c : Thread nD τ).loc main_arg0)

/-- The first window holds a block of rows. -/
theorem blk0 (c : Dev nD) (t : Fin cfg0.N) (i : Fin 256) (l r : Fin 2048) (hr : r.val = 256 * t.val + i.val) :
    (iblk m c 0 t : Vec Ideal S256x2048 .f32) (ix2 i l) = aW m c (ix2 r l) := by
  have ht := tlt t
  blk_simp [iblk, V, idx t]
  pointwise []
  blk_ext [idx t]

/-- The second window holds a block of columns. -/
theorem blk1 (c : Dev nD) (t : Fin cfg0.N) (l : Fin 2048) (i : Fin 256) (r : Fin 2048) (hr : r.val = 256 * t.val + i.val) :
    (iblk m c 1 t : Vec Ideal S2048x256 .f32) (ix2 l i) = aW m c (ix2 l r) := by
  have ht := tlt t
  blk_simp [iblk, V, idx t]
  pointwise []
  blk_ext [idx t]

/-- The accumulator after a step, from the one before. -/
def accF (R : Vec Ideal S256x2048 .f32) (C : Vec Ideal S2048x256 .f32) (prev : Vec Ideal S8x128 .f32) : Vec Ideal S8x128 .f32 :=
  k0_pay1 prev (k0_pay9 R C) (k0_pay10 R C) (k0_pay11 R C)

set_option maxHeartbeats 2000000 in
/-- The accumulator after the first step. -/
theorem acc_A (c : Dev nD) (t : Fin cfg0.N) (h : t.val % 8 = 0) (h' : ¬ t.val % 8 = 7) (y) :
    (outsAt0 m c t.val t.isLt).2.2.2.2 y = accF (iblk m c 0 t) (iblk m c 1 t) (k0_pay3 (F := Ideal)) y := by
  rw [outsAt0_A m c t h h']
  frame_out
  rfl

set_option maxHeartbeats 2000000 in
/-- The accumulator after a middle step. -/
theorem acc_B (c : Dev nD) (t : Fin cfg0.N) (h : ¬ t.val % 8 = 0) (h' : ¬ t.val % 8 = 7) (y) :
    (outsAt0 m c t.val t.isLt).2.2.2.2 y = accF (iblk m c 0 t) (iblk m c 1 t)
      (outsAt0 m c (t.val - 1) (Nat.lt_of_le_of_lt (Nat.sub_le _ _) t.isLt)).2.2.2.2 y := by
  rw [outsAt0_B m c t h h']
  frame_out
  simp only [read_unread_whole]
  rfl

set_option maxHeartbeats 2000000 in
/-- The accumulator after the last step. -/
theorem acc_C (c : Dev nD) (t : Fin cfg0.N) (h : ¬ t.val % 8 = 0) (h' : t.val % 8 = 7) (y) :
    (outsAt0 m c t.val t.isLt).2.2.2.2 y = accF (iblk m c 0 t) (iblk m c 1 t)
      (outsAt0 m c (t.val - 1) (Nat.lt_of_le_of_lt (Nat.sub_le _ _) t.isLt)).2.2.2.2 y := by
  rw [outsAt0_C m c t h h']
  frame_out
  simp only [read_unread_whole]
  rfl

set_option maxHeartbeats 2000000 in
/-- The sum the last step stores. -/
theorem sum_C (c : Dev nD) (t : Fin cfg0.N) (h : ¬ t.val % 8 = 0) (h' : t.val % 8 = 7) (y) :
    (outsAt0 m c t.val t.isLt).2.2.2.1 y = k0_pay2 (accF (iblk m c 0 t) (iblk m c 1 t)
      (outsAt0 m c (t.val - 1) (Nat.lt_of_le_of_lt (Nat.sub_le _ _) t.isLt)).2.2.2.2) := by
  rw [outsAt0_C m c t h h']
  frame_out
  simp only [read_unread_whole]
  rfl

/-- A square of a step's block. -/
theorem sq_point (R : Vec Ideal S256x2048 .f32) (C : Vec Ideal S2048x256 .f32) (i : Fin 256) (l : Fin 2048) :
    k0_pay9 R C (ix2 i l) = (R (ix2 i l) - C (ix2 l i)) * (R (ix2 i l) - C (ix2 l i)) := by
  pointwise [k0_pay9, k0_pay4]

/-- The accumulator's form in terms of the block of squares alone. -/
def foldF (Q : Vec Ideal S256x2048 .f32) (prev : Vec Ideal S8x128 .f32) : Vec Ideal S8x128 .f32 :=
  addf (F := Ideal) (φ := .f32) prev (multiReduction .add [0] S8x128 (shapeCast S32x8x128 (addf (addf (addf (addf (addf (addf (addf (addf (addf (addf (addf (addf (addf (addf (addf (extractStridedSlice S256x128 ![0, 0] Q slices_S256x2048_o0_0_S256x128)
     (extractStridedSlice S256x128 ![0, 128] Q slices_S256x2048_o0_128_S256x128)) (extractStridedSlice S256x128 ![0, 256] Q slices_S256x2048_o0_256_S256x128))
     (extractStridedSlice S256x128 ![0, 384] Q slices_S256x2048_o0_384_S256x128)) (extractStridedSlice S256x128 ![0, 512] Q slices_S256x2048_o0_512_S256x128))
     (extractStridedSlice S256x128 ![0, 640] Q slices_S256x2048_o0_640_S256x128)) (extractStridedSlice S256x128 ![0, 768] Q slices_S256x2048_o0_768_S256x128))
     (extractStridedSlice S256x128 ![0, 896] Q slices_S256x2048_o0_896_S256x128)) (extractStridedSlice S256x128 ![0, 1024] Q slices_S256x2048_o0_1024_S256x128))
     (extractStridedSlice S256x128 ![0, 1152] Q slices_S256x2048_o0_1152_S256x128)) (extractStridedSlice S256x128 ![0, 1280] Q slices_S256x2048_o0_1280_S256x128))
     (extractStridedSlice S256x128 ![0, 1408] Q slices_S256x2048_o0_1408_S256x128)) (extractStridedSlice S256x128 ![0, 1536] Q slices_S256x2048_o0_1536_S256x128))
     (extractStridedSlice S256x128 ![0, 1664] Q slices_S256x2048_o0_1664_S256x128)) (extractStridedSlice S256x128 ![0, 1792] Q slices_S256x2048_o0_1792_S256x128))
     (extractStridedSlice S256x128 ![0, 1920] Q slices_S256x2048_o0_1920_S256x128)) shapeCasts_S256x128_S32x8x128) 0x00000000#32 reduces_S32x8x128_S8x128 (.inl rfl) rfl)

/-- The fold adds the sum of all squares of the block, over all lanes. -/
theorem foldF_sum (Q : Vec Ideal S256x2048 .f32) (prev : Vec Ideal S8x128 .f32) :
    (∑ a : Fin 8, ∑ b : Fin 128, foldF Q prev (ix2 a b))
      = (∑ a : Fin 8, ∑ b : Fin 128, prev (ix2 a b)) + ∑ i : Fin 256, ∑ l : Fin 2048, Q (ix2 i l) := by
  rw [← Spec.sum_fold8 (fun i l => Q (ix2 i l)), ← Finset.sum_add_distrib]
  refine Finset.sum_congr rfl fun a _ => ?_
  rw [← Finset.sum_add_distrib]
  refine Finset.sum_congr rfl fun b _ => ?_
  pointwise [foldF]

/-- The accumulator is that fold of the squares. -/
theorem accF_eq (R : Vec Ideal S256x2048 .f32) (C : Vec Ideal S2048x256 .f32) (prev : Vec Ideal S8x128 .f32) :
    accF R C prev = foldF (k0_pay9 R C) prev := by
  funext y
  obtain ⟨a, b, rfl⟩ : ∃ (a : Fin 8) (b : Fin 128), y = ix2 a b := ⟨y 0, y 1, eq_ix2 y⟩
  unfold accF k0_pay1 k0_pay10 k0_pay11
  generalize k0_pay9 R C = Q
  pointwise [foldF]

/-- The squares of a row, summed. -/
def rowSq (c : Dev nD) (r : Fin 2048) : EReal := ∑ l : Fin 2048, Spec.skewSq (aW m c) r l

/-- A step adds its block of rows. -/
theorem acc_add (c : Dev nD) (t : Fin cfg0.N) (prev : Vec Ideal S8x128 .f32) :
    (∑ a : Fin 8, ∑ b : Fin 128, accF (iblk m c 0 t) (iblk m c 1 t) prev (ix2 a b))
      = (∑ a : Fin 8, ∑ b : Fin 128, prev (ix2 a b)) + Spec.blk8 (rowSq m c) t.val := by
  have ht := tlt t
  rw [accF_eq, foldF_sum, Spec.blk8, dif_pos ht]
  refine congrArg (fun z => (∑ a : Fin 8, ∑ b : Fin 128, prev (ix2 a b)) + z) (Finset.sum_congr rfl fun i _ => ?_)
  refine Finset.sum_congr rfl fun l _ => ?_
  rw [sq_point, blk0 m c t i l ⟨256 * t.val + i.val, by omega⟩ rfl, blk1 m c t l i ⟨256 * t.val + i.val, by omega⟩ rfl]
  rfl

/-- The accumulator after step `n`, over all lanes. -/
theorem acc_sum (c : Dev nD) (n : ℕ) (h : n < cfg0.N) :
    (∑ a : Fin 8, ∑ b : Fin 128, (outsAt0 m c n h).2.2.2.2 (ix2 a b))
      = ∑ t ∈ Finset.range (n + 1), Spec.blk8 (rowSq m c) t := by
  refine Spec.acc_blk8 cfg0.N (rowSq m c) (fun n h => ∑ a : Fin 8, ∑ b : Fin 128, (outsAt0 m c n h).2.2.2.2 (ix2 a b)) ?_ ?_ n h
  · intro h0
    refine (Finset.sum_congr rfl fun a _ => Finset.sum_congr rfl fun b _ =>
      acc_A m c ⟨0, h0⟩ rfl (show ¬ 0 % 8 = 7 by decide) (ix2 a b)).trans ?_
    rw [acc_add]
    have e : ∀ (a : Fin 8) (b : Fin 128), (k0_pay3 (F := Ideal)) (ix2 a b) = 0 := by intro a b; pointwise [k0_pay3]
    simp only [e, Finset.sum_const_zero, zero_add]
  · intro n hn
    have ht : n + 1 < 8 := tlt ⟨n + 1, hn⟩
    have h0 : ¬ (n + 1) % 8 = 0 := by omega
    by_cases h' : (n + 1) % 8 = 7
    · refine (Finset.sum_congr rfl fun a _ => Finset.sum_congr rfl fun b _ =>
        acc_C m c ⟨n + 1, hn⟩ h0 h' (ix2 a b)).trans ?_
      rw [acc_add]
      rfl
    · refine (Finset.sum_congr rfl fun a _ => Finset.sum_congr rfl fun b _ =>
        acc_B m c ⟨n + 1, hn⟩ h0 h' (ix2 a b)).trans ?_
      rw [acc_add]
      rfl

/-- The array of the sum. -/
theorem sum_array (c : Dev nD) :
    (dats m 0 c).arrAt 5 (cfgs 0).N = (fun _ => Spec.skewSum (aW m c) : Vec Ideal S1x1 .f32) := by
  refine (dats m 0 c).arrAt_eq_of_covers 5 _ (by decide +kernel) fun t hf y => ?_
  have ht := (flush0_5 t).mp hf
  have ht' := tlt t
  blk_simp
  rw [after0_5]
  refine (sum_C m c t (by omega) ht y).trans ?_
  unfold k0_pay2
  pointwise []
  refine (Finset.sum_congr rfl fun a _ => Finset.sum_congr rfl fun b _ =>
    (acc_C m c t (by omega) ht (ix2 a b)).symm).trans ((acc_sum m c t.val t.isLt).trans ?_)
  rw [show t.val + 1 = 8 by omega, Spec.sum_blk8]
  rfl

/-- What the region leaves in the sum's array, as the host lines after it find it. -/
theorem exit_sum (c : Dev nD) :
    (Pipeline.withArrays (cfgs 0).spec c (V0 m c) fun w => (dats m 0 c).arrAt w (cfgs 0).N) (Proc.devRef .tc main_v0_3)
      = (fun _ => Spec.skewSum (aW m c) : Vec Ideal S1x1 .f32) :=
  (Pipeline.withArrays_arr_shared (cfgs 0).spec c (V0 m c) _
    ((dats m 0 c).arrAt_sharedIn launch₀0.sharedIn (V0 m c) (A_eq m c) (cfgs 0).N) 5).trans (sum_array m c)

/-- The root the host takes. -/
theorem tail_na (c : Dev nD) :
    Pipeline.afterTail₀ cfgs (dats m) 0 (V0 m) [hostOps1] c main_v2 = Spec.naArr (aW m c) := by
  show StableHlo.after hostOps1 (Pipeline.withArrays (cfgs 0).spec c (V0 m c) fun w => (dats m 0 c).arrAt w (cfgs 0).N) _ = _
  after_results
  rw [exit_sum]
  rfl

/-- The bound the host computes. -/
theorem tail_amax (c : Dev nD) :
    Pipeline.afterTail₀ cfgs (dats m) 0 (V0 m) [hostOps1] c main_v4 = Spec.amaxArr (aW m c) := by
  show StableHlo.after hostOps1 (Pipeline.withArrays (cfgs 0).spec c (V0 m c) fun w => (dats m 0 c).arrAt w (cfgs 0).N) _ = _
  after_results
  rw [exit_sum]
  rfl

/-- The kernel runs to the end, its results are the stated functions of its argument, and the argument is kept. -/
theorem run_results (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v2) = Spec.naArr (aW m c)
      ∧ r.2.mem ((c : Thread nD τ).loc main_v4) = Spec.amaxArr (aW m c)
      ∧ r.2.mem ((c : Thread nD τ).loc main_arg0) = m ((c : Thread nD τ).loc main_arg0) :=
  θ_run_mono (run_main m ρ) fun r h c =>
    ⟨((h c).2 main_v2 (Pipeline.mem_restRefs_of main_v2 (by decide) (by decide))).trans (tail_na m c),
     ((h c).2 main_v4 (Pipeline.mem_restRefs_of main_v4 (by decide) (by decide))).trans (tail_amax m c),
     ((h c).1 1).trans (((dats m 0 c).arrAt_in 1 rfl _).trans ((A_eq m c 1).trans (V_main_arg0 m c)))⟩

end Cert.NormIdeal.Hand

namespace Cert.NormReferenceIdeal.Hand

open Cert.NormReferenceIdeal Cert.NormReferenceIdeal.Gen
open Idealize.ShloMosaic Idealize.ShloMosaic.TcCoe Idealize.ShloMosaic.Tactic
open Idealize.SL.Sem

/-- The reference's sum. -/
theorem ref_sum (W : Vec Ideal S2048x2048 .f32) :
    Host.reduceAdd (mulf (subf W (transpose S2048x2048 [1, 0] W transposes_S2048x2048_S2048x2048_1_0)) (subf W (transpose S2048x2048 [1, 0] W transposes_S2048x2048_S2048x2048_1_0)))
      (constant (F := Ideal) S_ .f32 0x00000000#32) reducesTo_S2048x2048_S_d0_1 h_S_ = (fun _ => Spec.skewSum W : FVec Ideal S_ .f32) := by
  funext i
  pointwise []
  rfl

/-- The reference runs to the end, its results are the same functions of its argument, and the argument is kept. -/
theorem run_results (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v4) = Spec.naArr (m ((c : Thread nD τ).loc main_arg0))
      ∧ r.2.mem ((c : Thread nD τ).loc main_v6) = Spec.amaxArr (m ((c : Thread nD τ).loc main_arg0))
      ∧ r.2.mem ((c : Thread nD τ).loc main_arg0) = m ((c : Thread nD τ).loc main_arg0) :=
  θ_run_mono (Value.run (F := Ideal) m ρ) fun r h c =>
    ⟨(h c).1.trans (by rw [ref_sum]; rfl), (h c).2.1.trans (by rw [ref_sum]; rfl), (h c).2.2⟩

/-- The frame of the reference: the argument is kept, and there are no counters. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c : Thread nD τ).loc main_arg0) = m ((c : Thread nD τ).loc main_arg0)) ∧ r.2.sem = fun _ => 0 :=
  θ_run_mono (run_results m ρ) fun _ h => ⟨fun c => (h c).2.2, funext fun x => nomatch x⟩

end Cert.NormReferenceIdeal.Hand

end
-- ==== Proof.TokFrame.lean ====
module

public import proofs.«01_k».proof.Proof.Gen.Tokens.Frame
public import proofs.«01_k».proof.Proof.Gen.Tokens.Loops
public import Idealize.ShloMosaic.Lib.VecWindow
public import Idealize.ShloMosaic.Lib.Pipeline.DatRel
public import Idealize.ShloMosaic.Lib.Pipeline.ArrRel

/-
  The frame of the `prep` call, of which the codes of the tokens and their scales are read. Every step stores the high part of
  its 256 rows of `r` into a buffer that lives through the call; what is carried from step to step is that the rows of the
  steps before are there. At the last step the buffer is whole, and the codes and the scales are computed from it. The other
  outputs and the two other buffers hold something.
-/

@[expose] public section

set_option maxRecDepth 16384

noncomputable section

namespace Cert.Tokens.Hand

open Cert.Tokens Cert.Tokens.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

variable (m : (ℓ : Loc nD τ sig) → Buf (Elt F) ℓ) (ρ : Dev nD → PrngReg)

/-- A whole buffer with the step's 256 rows replaced by the high part of the step's block of `r`. -/
def put (i : grid0.Coords) (S : Vec F S2048x2048 .bf16) (x0 : Vec F S256x2048 .f32) : Vec F S2048x2048 .bf16 :=
  VecWindow.put S ![256 * (i 0).val, 0] S256x2048.size (k0_pay21 x0)

/-- The step's store into the buffer of the high parts leaves `put`. -/
theorem read_put (i : grid0.Coords) (arg1 : Memref sig .tc .vmem S256x2048 .f32) (harg1 : arg1.IsWhole)
    (arg12 : Memref sig .tc .vmem S2048x2048 .bf16) (harg12 : arg12.IsWhole) (x0 : Vec F S256x2048 .f32) (S : Vec F S2048x2048 .bf16) :
    arg12.view.read (Elt F) (arg12.view.writes (Elt F) (harg12.unread S)
      [⟨Rect.unit (k0_off1 i) S256x2048.size (k0_off1_inb i),
        k0_pay21 (arg1.view.readAt (Elt F) (Rect.unit (s := S256x2048) ![0, 0] S256x2048.size inb_S256x2048_S256x2048_0_0).toLoadRect (harg1.unread x0))⟩])
      = put i S x0 := by
  rw [View.read_writes_cons_put _ _ _ _ [] (k0_off1_eq i), View.writes_nil, harg12.read_unread]
  unfold put
  rw [View.readAt_full arg1.view _ inb_S256x2048_S256x2048_0_0, harg1.read_unread]

set_option maxHeartbeats 4000000 in
/-- The body at a step that is not the last, from the two inputs at their blocks, the buffer of the high parts at `S` and all else at
    anything: the inputs are as they were, the buffer of the high parts has the step's rows replaced. -/
theorem run_mid (c : Dev nD) (i : grid0.Coords) (arg1 : Memref sig .tc .vmem S256x2048 .f32) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S2048x2048 .f32) (harg6 : arg6.IsWhole) (arg7 : Memref sig .tc .vmem S256x2048 .i8) (harg7 : arg7.IsWhole) (arg8 : Memref sig .tc .vmem S1x256 .f32) (harg8 : arg8.IsWhole) (arg9 : Memref sig .tc .vmem S256x128 .f32) (harg9 : arg9.IsWhole) (arg10 : Memref sig .tc .vmem S256x2048 .bf16) (harg10 : arg10.IsWhole) (arg11 : Memref sig .tc .vmem S2048x256 .bf16) (harg11 : arg11.IsWhole) (arg12 : Memref sig .tc .vmem S2048x2048 .bf16) (harg12 : arg12.IsWhole) (arg13 : Memref sig .tc .vmem S2048x2048 .bf16) (harg13 : arg13.IsWhole) (arg14 : Memref sig .tc .vmem S2048x2048 .bf16) (harg14 : arg14.IsWhole)
    (x0 : Vec F S256x2048 .f32) (x1 : Vec F S256x2048 .bf16) (S : Vec F S2048x2048 .bf16) (hi : k0_cond1 i ≠ 1#1)
    (E : Set ℕ) (K : PUnit → sProp (MT nD τ sig Unit (Elt F) ℕ (UR sig nD τ) ℕ)) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare S ∗ (∃ d, owns (c : Thread nD τ) arg13 fullShare d) ∗ (∃ d, owns (c : Thread nD τ) arg14 fullShare d)
      ∗ (iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare (put i S x0) ∗ (∃ d, owns (c : Thread nD τ) arg13 fullShare d) ∗ (∃ d, owns (c : Thread nD τ) arg14 fullShare d)) -∗ K ⟨⟩))
    ⊢ wp frame (wpE (defs₀ (F := F)) Variants.none c none) E (cc0_prep i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_prep_eq_skeleton]; unfold cc0_prep_skel
  simp only [k0_part3_eq_skeleton]
  unfold owns
  iintro ⟨⟨%f0, %hf0, H1⟩, ⟨%f1, %hf1, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%fs, %hfs, H12⟩, ⟨%d13, %f13, -, H13⟩, ⟨%d14, %f14, -, H14⟩, Hk⟩
  obtain rfl := harg1.eq_unread hf0; obtain rfl := harg2.eq_unread hf1; obtain rfl := harg12.eq_unread hfs
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _; isplitr; swap; · iexact H12
    ipureintro; exact read_put i arg1 harg1 arg12 harg12 x0 S
  isplitl [H13]
  · iexists _, _; isplitr; swap; · iexact H13
    ipureintro; rfl
  iexists _, _; isplitr; swap; · iexact H14
  ipureintro; rfl

set_option maxHeartbeats 4000000 in
/-- The body at the last step: as at the others, and the blocks of the codes and of the scales hold what the tokens and the whole
    buffer of the high parts give. -/
theorem run_last (c : Dev nD) (i : grid0.Coords) (arg1 : Memref sig .tc .vmem S256x2048 .f32) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S2048x2048 .f32) (harg6 : arg6.IsWhole) (arg7 : Memref sig .tc .vmem S256x2048 .i8) (harg7 : arg7.IsWhole) (arg8 : Memref sig .tc .vmem S1x256 .f32) (harg8 : arg8.IsWhole) (arg9 : Memref sig .tc .vmem S256x128 .f32) (harg9 : arg9.IsWhole) (arg10 : Memref sig .tc .vmem S256x2048 .bf16) (harg10 : arg10.IsWhole) (arg11 : Memref sig .tc .vmem S2048x256 .bf16) (harg11 : arg11.IsWhole) (arg12 : Memref sig .tc .vmem S2048x2048 .bf16) (harg12 : arg12.IsWhole) (arg13 : Memref sig .tc .vmem S2048x2048 .bf16) (harg13 : arg13.IsWhole) (arg14 : Memref sig .tc .vmem S2048x2048 .bf16) (harg14 : arg14.IsWhole)
    (x0 : Vec F S256x2048 .f32) (x1 : Vec F S256x2048 .bf16) (S : Vec F S2048x2048 .bf16) (hi : k0_cond1 i = 1#1)
    (E : Set ℕ) (K : PUnit → sProp (MT nD τ sig Unit (Elt F) ℕ (UR sig nD τ) ℕ)) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare S ∗ (∃ d, owns (c : Thread nD τ) arg13 fullShare d) ∗ (∃ d, owns (c : Thread nD τ) arg14 fullShare d)
      ∗ (iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ owns (c : Thread nD τ) arg7 fullShare (k0_pay4 x1 (put i S x0)) ∗ owns (c : Thread nD τ) arg8 fullShare (k0_pay8 x1 (put i S x0)) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare (put i S x0) ∗ (∃ d, owns (c : Thread nD τ) arg13 fullShare d) ∗ (∃ d, owns (c : Thread nD τ) arg14 fullShare d)) -∗ K ⟨⟩))
    ⊢ wp frame (wpE (defs₀ (F := F)) Variants.none c none) E (cc0_prep i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_prep_eq_skeleton]; unfold cc0_prep_skel
  simp only [k0_part3_eq_skeleton]
  unfold owns
  iintro ⟨⟨%f0, %hf0, H1⟩, ⟨%f1, %hf1, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%fs, %hfs, H12⟩, ⟨%d13, %f13, -, H13⟩, ⟨%d14, %f14, -, H14⟩, Hk⟩
  obtain rfl := harg1.eq_unread hf0; obtain rfl := harg2.eq_unread hf1; obtain rfl := harg12.eq_unread hfs
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _; isplitr; swap; · iexact H7
    ipureintro; exact (View.read_writes_full arg7.view _ inb_S256x2048_S256x2048_0_0 _ []).trans (congrArg₂ k0_pay4 ((View.readAt_full arg2.view _ inb_S256x2048_S256x2048_0_0).trans (harg2.read_unread _)) ((View.readAt_full arg12.view _ inb_S2048x2048_S2048x2048_0_0).trans (read_put i arg1 harg1 arg12 harg12 x0 S)))
  isplitl [H8]
  · iexists _; isplitr; swap; · iexact H8
    ipureintro; exact (View.read_writes_full arg8.view _ inb_S1x256_S1x256_0_0 _ []).trans (congrArg₂ k0_pay8 ((View.readAt_full arg2.view _ inb_S256x2048_S256x2048_0_0).trans (harg2.read_unread _)) ((View.readAt_full arg12.view _ inb_S2048x2048_S2048x2048_0_0).trans (read_put i arg1 harg1 arg12 harg12 x0 S)))
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _; isplitr; swap; · iexact H12
    ipureintro; exact read_put i arg1 harg1 arg12 harg12 x0 S
  isplitl [H13]
  · iexists _, _; isplitr; swap; · iexact H13
    ipureintro; rfl
  iexists _, _; isplitr; swap; · iexact H14
  ipureintro; rfl

/-- The scratch buffers as memrefs. -/
abbrev scM0_0 : Memref sig .tc .vmem S2048x2048 .bf16 := Memref.whole cc0_scratch0
/-- The second scratch buffer. -/
abbrev scM0_1 : Memref sig .tc .vmem S2048x2048 .bf16 := Memref.whole cc0_scratch1
/-- The third scratch buffer. -/
abbrev scM0_2 : Memref sig .tc .vmem S2048x2048 .bf16 := Memref.whole cc0_scratch2

/-- The launch's scratch, each buffer at anything. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The step of a row: there are 8 blocks of 256 rows. -/
def stepOf (a : Fin 2048) : Fin cfg0.N := ⟨a.val / 256, by have := a.isLt; show a.val / 256 < grid0.N; rw [N_0]; omega⟩

/-- The high part of the whole of `r`, by blocks of 256 rows. -/
def high (c : Dev nD) : Vec F S2048x2048 .bf16 := fun y =>
  k0_pay21 (iblk m c 0 (stepOf (y 0))) (Fin.cons ⟨(y 0).val % 256, Nat.mod_lt _ (by decide)⟩ (Fin.cons (y 1) finZeroElim))

/-- The codes of the tokens. -/
def codes (c : Dev nD) : Vec F S256x2048 .i8 := k0_pay4 (iblk m c 1 t0_7) (high m c)

/-- The scales of the tokens. -/
def scales (c : Dev nD) : Vec F S1x256 .f32 := k0_pay8 (iblk m c 1 t0_7) (high m c)

/-- The buffer of the high parts before step `n`: the rows of the steps before are those of `high`. -/
def RowsAt (c : Dev nD) (n : ℕ) (S : Vec F S2048x2048 .bf16) : Prop :=
  ∀ y : S2048x2048.Idx, (y 0).val < 256 * n → S y = high m c y

/-- A step's number is its grid coordinate. -/
theorem coords_val : ∀ t : Fin grid0.N, ((grid0.coords t) 0).val = t.val := by decide +kernel

/-- The last step is the one at which the tokens are coded. -/
theorem cond_iff : ∀ t : Fin grid0.N, k0_cond1 (grid0.coords t) = 1#1 ↔ t.val = 7 := by decide +kernel

/-- A step's store makes its rows those of `high`. -/
theorem rowsAt_put (c : Dev nD) (t : Fin cfg0.N) (S : Vec F S2048x2048 .bf16) (h : RowsAt m c t.val S) :
    RowsAt m c (t.val + 1) (put (grid0.coords t) S (iblk m c 0 t)) := by
  intro y hy
  have e := coords_val t
  unfold put VecWindow.put
  by_cases hy' : (y 0).val < 256 * t.val
  · rw [dif_neg (fun hh => by
      have h0 := (hh 0).1
      change 256 * ((grid0.coords t) 0).val ≤ (y 0).val at h0
      omega)]
    exact h y hy'
  · have hs : stepOf (y 0) = t := Fin.ext (by show (y 0).val / 256 = t.val; omega)
    rw [dif_pos (Fin.forall_fin_two.mpr ⟨by
      show 256 * ((grid0.coords t) 0).val ≤ (y 0).val ∧ (y 0).val < 256 * ((grid0.coords t) 0).val + 256
      omega, by
      show 0 ≤ (y 1).val ∧ (y 1).val < 0 + 2048
      have := (y 1).isLt
      change (y 1).val < 2048 at this
      omega⟩)]
    unfold high
    rw [hs]
    refine congrArg _ (funext (Fin.forall_fin_two.mpr ⟨Fin.ext ?_, Fin.ext ?_⟩))
    · show (y 0).val - 256 * ((grid0.coords t) 0).val = (y 0).val % 256
      omega
    · show (y 1).val - 0 = (y 1).val
      omega

/-- Before step 8 the whole buffer is the high part of `r`. -/
theorem rowsAt_all (c : Dev nD) (S : Vec F S2048x2048 .bf16) (h : RowsAt m c 8 S) : S = high m c :=
  funext fun y => h y (by have := (y 0).isLt; change (y 0).val < 2048 at this; omega)

/-- What the body carries from step to step: the high parts of the rows of the steps before, the two other scratch buffers at
    anything, the generator's register at anything. -/
def carried (c : Dev nD) (n : ℕ) : sProp (MT nD τ sig Unit (Elt F) ℕ (UR sig nD τ) ℕ) :=
  iprop(iprop((∃ S, ⌜RowsAt m c n S⌝ ∗ owns (c : Thread nD τ) scM0_0 fullShare S) ∗ (∃ d, owns (c : Thread nD τ) scM0_1 fullShare d) ∗ (∃ d, owns (c : Thread nD τ) scM0_2 fullShare d)) ∗ (∃ r, prngReg c r))

/-- The windows held to a predicate only: the outputs. -/
def fgt0 : Fin 11 → Bool := fun w => decide (2 ≤ w.val)

/-- What is said of the outputs: at the last step, the codes and the scales. -/
def holds0 (c : Dev nD) : (w : Fin cfg0.W) → Fin cfg0.N → ((cfg0.win w).block.Idx → Elt F (cfg0.win w).elt) → Prop
  | ⟨6, _⟩, t, X => t.val = 7 → X = codes m c
  | ⟨7, _⟩, t, X => t.val = 7 → X = scales m c
  | _, _, _ => True

/-- The data of the call: each array as the call finds it, each input's block kept by the step. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => Pipeline.Dat.unnamed (cfg := cfg0) 2 t
    | ⟨3, _⟩ => Pipeline.Dat.unnamed (cfg := cfg0) 3 t
    | ⟨4, _⟩ => Pipeline.Dat.unnamed (cfg := cfg0) 4 t
    | ⟨5, _⟩ => Pipeline.Dat.unnamed (cfg := cfg0) 5 t
    | ⟨6, _⟩ => Pipeline.Dat.unnamed (cfg := cfg0) 6 t
    | ⟨7, _⟩ => Pipeline.Dat.unnamed (cfg := cfg0) 7 t
    | ⟨8, _⟩ => Pipeline.Dat.unnamed (cfg := cfg0) 8 t
    | ⟨9, _⟩ => Pipeline.Dat.unnamed (cfg := cfg0) 9 t
    | ⟨10, _⟩ => Pipeline.Dat.unnamed (cfg := cfg0) 10 t
  Φ t := carried m c t.val
  q _ := fullShare
  owed _ := 0

/-- The data's arrays are those the call finds. -/
theorem A_eq (c : Dev nD) (w : Fin cfg0.W) : (dats m 0 c).A w = V m c (Pipeline.arrRef spec0 w) := by
  dsimp only [dats]

/-- A step keeps input 0's block. -/
theorem after0_0 (c : Dev nD) (t : Fin cfg0.N) : (dats m 0 c).after 0 t = iblk m c 0 t := by dsimp only [dats]
/-- A step keeps input 1's block. -/
theorem after0_1 (c : Dev nD) (t : Fin cfg0.N) : (dats m 0 c).after 1 t = iblk m c 1 t := by dsimp only [dats]
/-- A step finds input 0's block. -/
theorem before0_0 (c : Dev nD) (t : Fin cfg0.N) (d) : (dats m 0 c).before 0 t d = iblk m c 0 t :=
  before0_0_of m (dats m 0 c) (A_eq m c 0) (after0_0 m c) t d
/-- A step finds input 1's block. -/
theorem before0_1 (c : Dev nD) (t : Fin cfg0.N) (d) : (dats m 0 c).before 1 t d = iblk m c 1 t :=
  before0_1_of m (dats m 0 c) (A_eq m c 1) (after0_1 m c) t d

/-- Window 0's current buffer. -/
abbrev ms0_0 (t : Fin cfg0.N) : Memref sig .tc .vmem S256x2048 .f32 := win0_0.stage (cfg0.slots t 0)
/-- Window 1's current buffer. -/
abbrev ms0_1 (t : Fin cfg0.N) : Memref sig .tc .vmem S256x2048 .bf16 := win0_1.stage (cfg0.slots t 1)
/-- Window 2's current buffer. -/
abbrev ms0_2 (t : Fin cfg0.N) : Memref sig .tc .vmem S256x2048 .bf16 := win0_2.stage (cfg0.slots t 2)
/-- Window 3's current buffer. -/
abbrev ms0_3 (t : Fin cfg0.N) : Memref sig .tc .vmem S256x2048 .bf16 := win0_3.stage (cfg0.slots t 3)
/-- Window 4's current buffer. -/
abbrev ms0_4 (t : Fin cfg0.N) : Memref sig .tc .vmem S256x2048 .bf16 := win0_4.stage (cfg0.slots t 4)
/-- Window 5's current buffer. -/
abbrev ms0_5 (t : Fin cfg0.N) : Memref sig .tc .vmem S2048x2048 .f32 := win0_5.stage (cfg0.slots t 5)
/-- Window 6's current buffer. -/
abbrev ms0_6 (t : Fin cfg0.N) : Memref sig .tc .vmem S256x2048 .i8 := win0_6.stage (cfg0.slots t 6)
/-- Window 7's current buffer. -/
abbrev ms0_7 (t : Fin cfg0.N) : Memref sig .tc .vmem S1x256 .f32 := win0_7.stage (cfg0.slots t 7)
/-- Window 8's current buffer. -/
abbrev ms0_8 (t : Fin cfg0.N) : Memref sig .tc .vmem S256x128 .f32 := win0_8.stage (cfg0.slots t 8)
/-- Window 9's current buffer. -/
abbrev ms0_9 (t : Fin cfg0.N) : Memref sig .tc .vmem S256x2048 .bf16 := win0_9.stage (cfg0.slots t 9)
/-- Window 10's current buffer. -/
abbrev ms0_10 (t : Fin cfg0.N) : Memref sig .tc .vmem S2048x256 .bf16 := win0_10.stage (cfg0.slots t 10)

/-- What the body is called with at step `t`. -/
def bodyPre (c : Dev nD) (t : Fin cfg0.N) : sProp (MT nD τ sig Unit (Elt F) ℕ (UR sig nD τ) ℕ) :=
  iprop(carried m c t.val ∗ (dats m 0 c).owesAt () t.castSucc
    ∗ owns (c : Thread nD τ) (ms0_0 t) fullShare (iblk m c 0 t)
    ∗ owns (c : Thread nD τ) (ms0_1 t) fullShare (iblk m c 1 t)
    ∗ (∃ d, owns (c : Thread nD τ) (ms0_2 t) fullShare d)
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

/-- What the body returns at step `t`. -/
def bodyPost (c : Dev nD) (t : Fin cfg0.N) : sProp (MT nD τ sig Unit (Elt F) ℕ (UR sig nD τ) ℕ) :=
  iprop(carried m c (t.val + 1) ∗ (dats m 0 c).owesAt () t.succ
    ∗ owns (c : Thread nD τ) (ms0_0 t) fullShare (iblk m c 0 t)
    ∗ owns (c : Thread nD τ) (ms0_1 t) fullShare (iblk m c 1 t)
    ∗ (∃ X, ⌜holds0 m c 2 t X⌝ ∗ owns (c : Thread nD τ) (ms0_2 t) fullShare X)
    ∗ (∃ X, ⌜holds0 m c 3 t X⌝ ∗ owns (c : Thread nD τ) (ms0_3 t) fullShare X)
    ∗ (∃ X, ⌜holds0 m c 4 t X⌝ ∗ owns (c : Thread nD τ) (ms0_4 t) fullShare X)
    ∗ (∃ X, ⌜holds0 m c 5 t X⌝ ∗ owns (c : Thread nD τ) (ms0_5 t) fullShare X)
    ∗ (∃ X, ⌜holds0 m c 6 t X⌝ ∗ owns (c : Thread nD τ) (ms0_6 t) fullShare X)
    ∗ (∃ X, ⌜holds0 m c 7 t X⌝ ∗ owns (c : Thread nD τ) (ms0_7 t) fullShare X)
    ∗ (∃ X, ⌜holds0 m c 8 t X⌝ ∗ owns (c : Thread nD τ) (ms0_8 t) fullShare X)
    ∗ (∃ X, ⌜holds0 m c 9 t X⌝ ∗ owns (c : Thread nD τ) (ms0_9 t) fullShare X)
    ∗ (∃ X, ⌜holds0 m c 10 t X⌝ ∗ owns (c : Thread nD τ) (ms0_10 t) fullShare X))

set_option maxHeartbeats 1600000 in
/-- The body at a step: the run applies to what the step finds, and leaves what is said of it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl]
  unfold carried
  iintro ⟨⟨⟨⟨%S, %hS, HS0⟩, HS1, HS2⟩, Hg⟩, Ho, H0, H1, H2, H3, H4, H5, H6, H7, H8, H9, H10⟩
  by_cases ht : t.val = 7
  · have hall := rowsAt_put m c t S hS
    rw [ht] at hall
    have hput := rowsAt_all m c _ hall
    have h7 : t = t0_7 := Fin.ext ht
    have hput_codes : k0_pay4 (iblk m c 1 t) (put (grid0.coords t) S (iblk m c 0 t)) = codes m c := by
      rw [hput, h7]; rfl
    have hput_scales : k0_pay8 (iblk m c 1 t) (put (grid0.coords t) S (iblk m c 0 t)) = scales m c := by
      rw [hput, h7]; rfl
    clear hall hput h7
    iapply (run_last c (grid0.coords t) _ _ _ _ _ _ _ _ _ _ _ _ _ _ _ _ _ _ _ _ _ _ _ _ _ _ _ _ (iblk m c 0 t) (iblk m c 1 t) S ((cond_iff t).mpr ht) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    isplitl [HS2]; · iexact HS2
    iintro ⟨H0, H1, ⟨%e2, H2⟩, ⟨%e3, H3⟩, ⟨%e4, H4⟩, ⟨%e5, H5⟩, H6, H7, ⟨%e8, H8⟩, ⟨%e9, H9⟩, ⟨%e10, H10⟩, HS0, HS1, HS2⟩
    isplitl [HS0 HS1 HS2 Hg]
    · isplitl [HS0 HS1 HS2]
      · isplitl [HS0]
        · iexists _; isplitr; swap; · iexact HS0
          ipureintro; exact rowsAt_put m c t S hS
        isplitl [HS1]; · iexact HS1
        iexact HS2
      iexact Hg
    isplitl [Ho]; · iexact Ho
    isplitl [H0]; · iexact H0
    isplitl [H1]; · iexact H1
    isplitl [H2]
    · iexists _; isplitr; swap; · iexact H2
      ipureintro; trivial
    isplitl [H3]
    · iexists _; isplitr; swap; · iexact H3
      ipureintro; trivial
    isplitl [H4]
    · iexists _; isplitr; swap; · iexact H4
      ipureintro; trivial
    isplitl [H5]
    · iexists _; isplitr; swap; · iexact H5
      ipureintro; trivial
    isplitl [H6]
    · iexists _; isplitr; swap; · iexact H6
      ipureintro; exact fun _ => hput_codes
    isplitl [H7]
    · iexists _; isplitr; swap; · iexact H7
      ipureintro; exact fun _ => hput_scales
    isplitl [H8]
    · iexists _; isplitr; swap; · iexact H8
      ipureintro; trivial
    isplitl [H9]
    · iexists _; isplitr; swap; · iexact H9
      ipureintro; trivial
    iexists _; isplitr; swap; · iexact H10
    ipureintro; trivial
  · iapply (run_mid c (grid0.coords t) _ _ _ _ _ _ _ _ _ _ _ _ _ _ _ _ _ _ _ _ _ _ _ _ _ _ _ _ (iblk m c 0 t) (iblk m c 1 t) S (fun h => ht ((cond_iff t).mp h)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    isplitl [HS2]; · iexact HS2
    iintro ⟨H0, H1, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, HS0, HS1, HS2⟩
    isplitl [HS0 HS1 HS2 Hg]
    · isplitl [HS0 HS1 HS2]
      · isplitl [HS0]
        · iexists _; isplitr; swap; · iexact HS0
          ipureintro; exact rowsAt_put m c t S hS
        isplitl [HS1]; · iexact HS1
        iexact HS2
      iexact Hg
    isplitl [Ho]; · iexact Ho
    isplitl [H0]; · iexact H0
    isplitl [H1]; · iexact H1
    isplitl [H2]
    · iexists _; isplitr; swap; · iexact H2
      ipureintro; trivial
    isplitl [H3]
    · iexists _; isplitr; swap; · iexact H3
      ipureintro; trivial
    isplitl [H4]
    · iexists _; isplitr; swap; · iexact H4
      ipureintro; trivial
    isplitl [H5]
    · iexists _; isplitr; swap; · iexact H5
      ipureintro; trivial
    isplitl [H6]
    · iexists _; isplitr; swap; · iexact H6
      ipureintro; exact fun h => absurd h ht
    isplitl [H7]
    · iexists _; isplitr; swap; · iexact H7
      ipureintro; exact fun h => absurd h ht
    isplitl [H8]
    · iexists _; isplitr; swap; · iexact H8
      ipureintro; trivial
    isplitl [H9]
    · iexists _; isplitr; swap; · iexact H9
      ipureintro; trivial
    iexists _; isplitr; swap; · iexact H10
    ipureintro; trivial

/-- The body the launch looks up at a step is the body. -/
theorem defs₀_row (t : Fin cfg0.N) :
    defs₀ (F := F) .tc cfg0.body (cfg0.bodyArgs t (cfg0.slots t)) = bodyAt0 t := by
  unfold defs₀; rw [Defs.onTc_tc]

set_option maxHeartbeats 1600000 in
/-- The body meets its obligation at every step, the outputs held to what is said of them. -/
theorem body_obligation (c : Dev nD) :
    Pipeline.BodyObligationRel (dats (F := F) m 0 c) (defs₀ (F := F)) Variants.none () Set.univ fgt0 (holds0 m c) := fun t => by
  rw [bigSep_W0, bigSep_W0, defs₀_row]
  refine triple_restated (sound_body m c t) rfl ?_ fun _ => .rfl
  show iprop(carried m c t.val ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ Y, ⌜((dats m 0 c).toRRel fgt0 (holds0 m c)).Finds 2 t Y⌝ ∗ owns (c : Thread nD τ) (ms0_2 t) fullShare Y)
    ∗ (∃ Y, ⌜((dats m 0 c).toRRel fgt0 (holds0 m c)).Finds 3 t Y⌝ ∗ owns (c : Thread nD τ) (ms0_3 t) fullShare Y)
    ∗ (∃ Y, ⌜((dats m 0 c).toRRel fgt0 (holds0 m c)).Finds 4 t Y⌝ ∗ owns (c : Thread nD τ) (ms0_4 t) fullShare Y)
    ∗ (∃ Y, ⌜((dats m 0 c).toRRel fgt0 (holds0 m c)).Finds 5 t Y⌝ ∗ owns (c : Thread nD τ) (ms0_5 t) fullShare Y)
    ∗ (∃ Y, ⌜((dats m 0 c).toRRel fgt0 (holds0 m c)).Finds 6 t Y⌝ ∗ owns (c : Thread nD τ) (ms0_6 t) fullShare Y)
    ∗ (∃ Y, ⌜((dats m 0 c).toRRel fgt0 (holds0 m c)).Finds 7 t Y⌝ ∗ owns (c : Thread nD τ) (ms0_7 t) fullShare Y)
    ∗ (∃ Y, ⌜((dats m 0 c).toRRel fgt0 (holds0 m c)).Finds 8 t Y⌝ ∗ owns (c : Thread nD τ) (ms0_8 t) fullShare Y)
    ∗ (∃ Y, ⌜((dats m 0 c).toRRel fgt0 (holds0 m c)).Finds 9 t Y⌝ ∗ owns (c : Thread nD τ) (ms0_9 t) fullShare Y)
    ∗ (∃ Y, ⌜((dats m 0 c).toRRel fgt0 (holds0 m c)).Finds 10 t Y⌝ ∗ owns (c : Thread nD τ) (ms0_10 t) fullShare Y)) ⊢ _
  unfold bodyPre
  iintro ⟨Hc, Ho, ⟨%d0, H0⟩, ⟨%d1, H1⟩, ⟨%d2, -, H2⟩, ⟨%d3, -, H3⟩, ⟨%d4, -, H4⟩, ⟨%d5, -, H5⟩, ⟨%d6, -, H6⟩, ⟨%d7, -, H7⟩, ⟨%d8, -, H8⟩, ⟨%d9, -, H9⟩, ⟨%d10, -, H10⟩⟩
  isplitl [Hc]; · iexact Hc
  isplitl [Ho]; · iexact Ho
  isplitl [H0]; · rw [before0_0]; iexact H0
  isplitl [H1]; · rw [before0_1]; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  iexists _; iexact H10

/-- The relational data of the call. -/
def rdats (c : Dev nD) : RDat τ (Elt F) Unit ℕ (UR sig nD τ) ℕ (cfgs 0) c := (dats m 0 c).toRRel fgt0 (holds0 m c)

set_option backward.isDefEq.respectTransparency.types false in
/-- The kernel runs to the end; every input array is kept, the arrays of the outputs are what the steps may leave, and every
    semaphore ends at zero. -/
theorem run_main_quiescent : θ_run defs (onTc (τ := τ) (main (F := F))) (s₀ m ρ)
    (fun r => Pipeline.RDat.FramePost (cfgs 0) (rdats m) (V m) r ∧ r.2.sem = fun _ => 0) :=
  Pipeline.RDat.θ_run_frame_track (Q' := _) cfgs (0 : Fin 1) launch0 defs₀ Variants.none (rdats m) m ρ main
    (hbody := fun c => (body_obligation m c).toRRel) (hshare := fun c => (dats m 0 c).share_full fun _ => rfl)
    (howed := fun _ _ => rfl) (V := V m) (hmain := hmain m Variants.none) (hA := A_eq m)
    (hin := fun c => by
      show _ ⊢ carried m c 0
      rw [PhiA0_eq]; unfold carried
      iintro ⟨⟨⟨%d, HS0⟩, HS1, HS2⟩, Hg⟩
      isplitl [HS0 HS1 HS2]
      · isplitl [HS0]
        · iexists d; isplitr
          · ipureintro; exact fun y hy => absurd hy (Nat.not_lt_zero _)
          · iexact HS0
        isplitl [HS1]; · iexact HS1
        iexact HS2
      iexact Hg)
    (hout := fun c => by
      show carried m c 8 ⊢ _
      rw [PhiA0_eq]; unfold carried
      iintro ⟨⟨⟨%d, -, HS0⟩, HS1, HS2⟩, Hg⟩
      isplitl [HS0 HS1 HS2]
      · isplitl [HS0]; · iexists d; iexact HS0
        isplitl [HS1]; · iexact HS1
        iexact HS2
      iexact Hg)

variable {m}

/-- Argument 0 is kept. -/
theorem kept0 {r : PUnit × MemSt nD τ sig (Elt F)} (h : Pipeline.RDat.FramePost (cfgs 0) (rdats (F := F) m) (V m) r) (c : Dev nD) :
    r.2.mem ((c : Thread nD τ).loc main_arg0) = m ((c : Thread nD τ).loc main_arg0) :=
  (Pipeline.RDat.FramePost.arr_in h c 0 rfl).trans ((A_eq m c 0).trans (V_main_arg0 m c))

/-- Argument 1 is kept. -/
theorem kept1 {r : PUnit × MemSt nD τ sig (Elt F)} (h : Pipeline.RDat.FramePost (cfgs 0) (rdats (F := F) m) (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- The array of the codes after the run. -/
theorem array6 {r : PUnit × MemSt nD τ sig (Elt F)} (h : Pipeline.RDat.FramePost (cfgs 0) (rdats (F := F) m) (V m) r) (c : Dev nD) :
    r.2.mem ((c : Thread nD τ).loc main_v1_4) = codes m c := by
  obtain ⟨X, hX, e⟩ := ((h c).1 6).emb_eq_of_wholeAt (t₀ := t0_7) (by decide +kernel)
  have hc : X = codes m c := (dats m 0 c).toRRel_leaves (w := 6) rfl hX rfl
  subst hc
  exact funext fun j => e j

/-- The array of the scales after the run. -/
theorem array7 {r : PUnit × MemSt nD τ sig (Elt F)} (h : Pipeline.RDat.FramePost (cfgs 0) (rdats (F := F) m) (V m) r) (c : Dev nD) :
    r.2.mem ((c : Thread nD τ).loc main_v1_5) = scales m c := by
  obtain ⟨X, hX, e⟩ := ((h c).1 7).emb_eq_of_wholeAt (t₀ := t0_7) (by decide +kernel)
  have hc : X = scales m c := (dats m 0 c).toRRel_leaves (w := 7) rfl hX rfl
  subst hc
  exact funext fun j => e j

variable (m)

/-- The kernel runs to the end, every argument is kept, and every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨kept0 h.1 c, kept1 h.1 c⟩, h.2⟩) (run_main_quiescent m ρ)

end Cert.Tokens.Hand

end
-- ==== Proof.TokIdealFrame.lean ====
module

public import proofs.«01_k».proof.Proof.Gen.TokensIdeal.Frame
public import proofs.«01_k».proof.Proof.Gen.TokensIdeal.Loops
public import Idealize.ShloMosaic.Lib.VecWindow
public import Idealize.ShloMosaic.Lib.Pipeline.DatRel
public import Idealize.ShloMosaic.Lib.Pipeline.ArrRel

/-
  The frame of the `prep` call, of which the codes of the tokens and their scales are read. Every step stores the high part of
  its 256 rows of `r` into a buffer that lives through the call; what is carried from step to step is that the rows of the
  steps before are there. At the last step the buffer is whole, and the codes and the scales are computed from it. The other
  outputs and the two other buffers hold something.
-/

@[expose] public section

set_option maxRecDepth 16384

noncomputable section

namespace Cert.TokensIdeal.Hand

open Cert.TokensIdeal Cert.TokensIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

variable (m : (ℓ : Loc nD τ sig) → Buf (Elt F) ℓ) (ρ : Dev nD → PrngReg)

/-- A whole buffer with the step's 256 rows replaced by the high part of the step's block of `r`. -/
def put (i : grid0.Coords) (S : Vec F S2048x2048 .bf16) (x0 : Vec F S256x2048 .f32) : Vec F S2048x2048 .bf16 :=
  VecWindow.put S ![256 * (i 0).val, 0] S256x2048.size (k0_pay21 x0)

/-- The step's store into the buffer of the high parts leaves `put`. -/
theorem read_put (i : grid0.Coords) (arg1 : Memref sig .tc .vmem S256x2048 .f32) (harg1 : arg1.IsWhole)
    (arg12 : Memref sig .tc .vmem S2048x2048 .bf16) (harg12 : arg12.IsWhole) (x0 : Vec F S256x2048 .f32) (S : Vec F S2048x2048 .bf16) :
    arg12.view.read (Elt F) (arg12.view.writes (Elt F) (harg12.unread S)
      [⟨Rect.unit (k0_off1 i) S256x2048.size (k0_off1_inb i),
        k0_pay21 (arg1.view.readAt (Elt F) (Rect.unit (s := S256x2048) ![0, 0] S256x2048.size inb_S256x2048_S256x2048_0_0).toLoadRect (harg1.unread x0))⟩])
      = put i S x0 := by
  rw [View.read_writes_cons_put _ _ _ _ [] (k0_off1_eq i), View.writes_nil, harg12.read_unread]
  unfold put
  rw [View.readAt_full arg1.view _ inb_S256x2048_S256x2048_0_0, harg1.read_unread]

set_option maxHeartbeats 4000000 in
/-- The body at a step that is not the last, from the two inputs at their blocks, the buffer of the high parts at `S` and all else at
    anything: the inputs are as they were, the buffer of the high parts has the step's rows replaced. -/
theorem run_mid (c : Dev nD) (i : grid0.Coords) (arg1 : Memref sig .tc .vmem S256x2048 .f32) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S2048x2048 .f32) (harg6 : arg6.IsWhole) (arg7 : Memref sig .tc .vmem S256x2048 .i8) (harg7 : arg7.IsWhole) (arg8 : Memref sig .tc .vmem S1x256 .f32) (harg8 : arg8.IsWhole) (arg9 : Memref sig .tc .vmem S256x128 .f32) (harg9 : arg9.IsWhole) (arg10 : Memref sig .tc .vmem S256x2048 .bf16) (harg10 : arg10.IsWhole) (arg11 : Memref sig .tc .vmem S2048x256 .bf16) (harg11 : arg11.IsWhole) (arg12 : Memref sig .tc .vmem S2048x2048 .bf16) (harg12 : arg12.IsWhole) (arg13 : Memref sig .tc .vmem S2048x2048 .bf16) (harg13 : arg13.IsWhole) (arg14 : Memref sig .tc .vmem S2048x2048 .bf16) (harg14 : arg14.IsWhole)
    (x0 : Vec F S256x2048 .f32) (x1 : Vec F S256x2048 .bf16) (S : Vec F S2048x2048 .bf16) (hi : k0_cond1 i ≠ 1#1)
    (E : Set ℕ) (K : PUnit → sProp (MT nD τ sig Unit (Elt F) ℕ (UR sig nD τ) ℕ)) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare S ∗ (∃ d, owns (c : Thread nD τ) arg13 fullShare d) ∗ (∃ d, owns (c : Thread nD τ) arg14 fullShare d)
      ∗ (iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare (put i S x0) ∗ (∃ d, owns (c : Thread nD τ) arg13 fullShare d) ∗ (∃ d, owns (c : Thread nD τ) arg14 fullShare d)) -∗ K ⟨⟩))
    ⊢ wp frame (wpE (defs₀ (F := F)) Variants.none c none) E (cc0_prep i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_prep_eq_skeleton]; unfold cc0_prep_skel
  simp only [k0_part3_eq_skeleton]
  unfold owns
  iintro ⟨⟨%f0, %hf0, H1⟩, ⟨%f1, %hf1, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%fs, %hfs, H12⟩, ⟨%d13, %f13, -, H13⟩, ⟨%d14, %f14, -, H14⟩, Hk⟩
  obtain rfl := harg1.eq_unread hf0; obtain rfl := harg2.eq_unread hf1; obtain rfl := harg12.eq_unread hfs
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _; isplitr; swap; · iexact H12
    ipureintro; exact read_put i arg1 harg1 arg12 harg12 x0 S
  isplitl [H13]
  · iexists _, _; isplitr; swap; · iexact H13
    ipureintro; rfl
  iexists _, _; isplitr; swap; · iexact H14
  ipureintro; rfl

set_option maxHeartbeats 4000000 in
/-- The body at the last step: as at the others, and the blocks of the codes and of the scales hold what the tokens and the whole
    buffer of the high parts give. -/
theorem run_last (c : Dev nD) (i : grid0.Coords) (arg1 : Memref sig .tc .vmem S256x2048 .f32) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S2048x2048 .f32) (harg6 : arg6.IsWhole) (arg7 : Memref sig .tc .vmem S256x2048 .i8) (harg7 : arg7.IsWhole) (arg8 : Memref sig .tc .vmem S1x256 .f32) (harg8 : arg8.IsWhole) (arg9 : Memref sig .tc .vmem S256x128 .f32) (harg9 : arg9.IsWhole) (arg10 : Memref sig .tc .vmem S256x2048 .bf16) (harg10 : arg10.IsWhole) (arg11 : Memref sig .tc .vmem S2048x256 .bf16) (harg11 : arg11.IsWhole) (arg12 : Memref sig .tc .vmem S2048x2048 .bf16) (harg12 : arg12.IsWhole) (arg13 : Memref sig .tc .vmem S2048x2048 .bf16) (harg13 : arg13.IsWhole) (arg14 : Memref sig .tc .vmem S2048x2048 .bf16) (harg14 : arg14.IsWhole)
    (x0 : Vec F S256x2048 .f32) (x1 : Vec F S256x2048 .bf16) (S : Vec F S2048x2048 .bf16) (hi : k0_cond1 i = 1#1)
    (E : Set ℕ) (K : PUnit → sProp (MT nD τ sig Unit (Elt F) ℕ (UR sig nD τ) ℕ)) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare S ∗ (∃ d, owns (c : Thread nD τ) arg13 fullShare d) ∗ (∃ d, owns (c : Thread nD τ) arg14 fullShare d)
      ∗ (iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ owns (c : Thread nD τ) arg7 fullShare (k0_pay4 x1 (put i S x0)) ∗ owns (c : Thread nD τ) arg8 fullShare (k0_pay8 x1 (put i S x0)) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare (put i S x0) ∗ (∃ d, owns (c : Thread nD τ) arg13 fullShare d) ∗ (∃ d, owns (c : Thread nD τ) arg14 fullShare d)) -∗ K ⟨⟩))
    ⊢ wp frame (wpE (defs₀ (F := F)) Variants.none c none) E (cc0_prep i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0_prep_eq_skeleton]; unfold cc0_prep_skel
  simp only [k0_part3_eq_skeleton]
  unfold owns
  iintro ⟨⟨%f0, %hf0, H1⟩, ⟨%f1, %hf1, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%fs, %hfs, H12⟩, ⟨%d13, %f13, -, H13⟩, ⟨%d14, %f14, -, H14⟩, Hk⟩
  obtain rfl := harg1.eq_unread hf0; obtain rfl := harg2.eq_unread hf1; obtain rfl := harg12.eq_unread hfs
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _; isplitr; swap; · iexact H7
    ipureintro; exact (View.read_writes_full arg7.view _ inb_S256x2048_S256x2048_0_0 _ []).trans (congrArg₂ k0_pay4 ((View.readAt_full arg2.view _ inb_S256x2048_S256x2048_0_0).trans (harg2.read_unread _)) ((View.readAt_full arg12.view _ inb_S2048x2048_S2048x2048_0_0).trans (read_put i arg1 harg1 arg12 harg12 x0 S)))
  isplitl [H8]
  · iexists _; isplitr; swap; · iexact H8
    ipureintro; exact (View.read_writes_full arg8.view _ inb_S1x256_S1x256_0_0 _ []).trans (congrArg₂ k0_pay8 ((View.readAt_full arg2.view _ inb_S256x2048_S256x2048_0_0).trans (harg2.read_unread _)) ((View.readAt_full arg12.view _ inb_S2048x2048_S2048x2048_0_0).trans (read_put i arg1 harg1 arg12 harg12 x0 S)))
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _; isplitr; swap; · iexact H12
    ipureintro; exact read_put i arg1 harg1 arg12 harg12 x0 S
  isplitl [H13]
  · iexists _, _; isplitr; swap; · iexact H13
    ipureintro; rfl
  iexists _, _; isplitr; swap; · iexact H14
  ipureintro; rfl

/-- The scratch buffers as memrefs. -/
abbrev scM0_0 : Memref sig .tc .vmem S2048x2048 .bf16 := Memref.whole cc0_scratch0
/-- The second scratch buffer. -/
abbrev scM0_1 : Memref sig .tc .vmem S2048x2048 .bf16 := Memref.whole cc0_scratch1
/-- The third scratch buffer. -/
abbrev scM0_2 : Memref sig .tc .vmem S2048x2048 .bf16 := Memref.whole cc0_scratch2

/-- The launch's scratch, each buffer at anything. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The step of a row: there are 8 blocks of 256 rows. -/
def stepOf (a : Fin 2048) : Fin cfg0.N := ⟨a.val / 256, by have := a.isLt; show a.val / 256 < grid0.N; rw [N_0]; omega⟩

/-- The high part of the whole of `r`, by blocks of 256 rows. -/
def high (c : Dev nD) : Vec F S2048x2048 .bf16 := fun y =>
  k0_pay21 (iblk m c 0 (stepOf (y 0))) (Fin.cons ⟨(y 0).val % 256, Nat.mod_lt _ (by decide)⟩ (Fin.cons (y 1) finZeroElim))

/-- The codes of the tokens. -/
def codes (c : Dev nD) : Vec F S256x2048 .i8 := k0_pay4 (iblk m c 1 t0_7) (high m c)

/-- The scales of the tokens. -/
def scales (c : Dev nD) : Vec F S1x256 .f32 := k0_pay8 (iblk m c 1 t0_7) (high m c)

/-- The buffer of the high parts before step `n`: the rows of the steps before are those of `high`. -/
def RowsAt (c : Dev nD) (n : ℕ) (S : Vec F S2048x2048 .bf16) : Prop :=
  ∀ y : S2048x2048.Idx, (y 0).val < 256 * n → S y = high m c y

/-- A step's number is its grid coordinate. -/
theorem coords_val : ∀ t : Fin grid0.N, ((grid0.coords t) 0).val = t.val := by decide +kernel

/-- The last step is the one at which the tokens are coded. -/
theorem cond_iff : ∀ t : Fin grid0.N, k0_cond1 (grid0.coords t) = 1#1 ↔ t.val = 7 := by decide +kernel

/-- A step's store makes its rows those of `high`. -/
theorem rowsAt_put (c : Dev nD) (t : Fin cfg0.N) (S : Vec F S2048x2048 .bf16) (h : RowsAt m c t.val S) :
    RowsAt m c (t.val + 1) (put (grid0.coords t) S (iblk m c 0 t)) := by
  intro y hy
  have e := coords_val t
  unfold put VecWindow.put
  by_cases hy' : (y 0).val < 256 * t.val
  · rw [dif_neg (fun hh => by
      have h0 := (hh 0).1
      change 256 * ((grid0.coords t) 0).val ≤ (y 0).val at h0
      omega)]
    exact h y hy'
  · have hs : stepOf (y 0) = t := Fin.ext (by show (y 0).val / 256 = t.val; omega)
    rw [dif_pos (Fin.forall_fin_two.mpr ⟨by
      show 256 * ((grid0.coords t) 0).val ≤ (y 0).val ∧ (y 0).val < 256 * ((grid0.coords t) 0).val + 256
      omega, by
      show 0 ≤ (y 1).val ∧ (y 1).val < 0 + 2048
      have := (y 1).isLt
      change (y 1).val < 2048 at this
      omega⟩)]
    unfold high
    rw [hs]
    refine congrArg _ (funext (Fin.forall_fin_two.mpr ⟨Fin.ext ?_, Fin.ext ?_⟩))
    · show (y 0).val - 256 * ((grid0.coords t) 0).val = (y 0).val % 256
      omega
    · show (y 1).val - 0 = (y 1).val
      omega

/-- Before step 8 the whole buffer is the high part of `r`. -/
theorem rowsAt_all (c : Dev nD) (S : Vec F S2048x2048 .bf16) (h : RowsAt m c 8 S) : S = high m c :=
  funext fun y => h y (by have := (y 0).isLt; change (y 0).val < 2048 at this; omega)

/-- What the body carries from step to step: the high parts of the rows of the steps before, the two other scratch buffers at
    anything, the generator's register at anything. -/
def carried (c : Dev nD) (n : ℕ) : sProp (MT nD τ sig Unit (Elt F) ℕ (UR sig nD τ) ℕ) :=
  iprop(iprop((∃ S, ⌜RowsAt m c n S⌝ ∗ owns (c : Thread nD τ) scM0_0 fullShare S) ∗ (∃ d, owns (c : Thread nD τ) scM0_1 fullShare d) ∗ (∃ d, owns (c : Thread nD τ) scM0_2 fullShare d)) ∗ (∃ r, prngReg c r))

/-- The windows held to a predicate only: the outputs. -/
def fgt0 : Fin 11 → Bool := fun w => decide (2 ≤ w.val)

/-- What is said of the outputs: at the last step, the codes and the scales. -/
def holds0 (c : Dev nD) : (w : Fin cfg0.W) → Fin cfg0.N → ((cfg0.win w).block.Idx → Elt F (cfg0.win w).elt) → Prop
  | ⟨6, _⟩, t, X => t.val = 7 → X = codes m c
  | ⟨7, _⟩, t, X => t.val = 7 → X = scales m c
  | _, _, _ => True

/-- The data of the call: each array as the call finds it, each input's block kept by the step. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => Pipeline.Dat.unnamed (cfg := cfg0) 2 t
    | ⟨3, _⟩ => Pipeline.Dat.unnamed (cfg := cfg0) 3 t
    | ⟨4, _⟩ => Pipeline.Dat.unnamed (cfg := cfg0) 4 t
    | ⟨5, _⟩ => Pipeline.Dat.unnamed (cfg := cfg0) 5 t
    | ⟨6, _⟩ => Pipeline.Dat.unnamed (cfg := cfg0) 6 t
    | ⟨7, _⟩ => Pipeline.Dat.unnamed (cfg := cfg0) 7 t
    | ⟨8, _⟩ => Pipeline.Dat.unnamed (cfg := cfg0) 8 t
    | ⟨9, _⟩ => Pipeline.Dat.unnamed (cfg := cfg0) 9 t
    | ⟨10, _⟩ => Pipeline.Dat.unnamed (cfg := cfg0) 10 t
  Φ t := carried m c t.val
  q _ := fullShare
  owed _ := 0

/-- The data's arrays are those the call finds. -/
theorem A_eq (c : Dev nD) (w : Fin cfg0.W) : (dats m 0 c).A w = V m c (Pipeline.arrRef spec0 w) := by
  dsimp only [dats]

/-- A step keeps input 0's block. -/
theorem after0_0 (c : Dev nD) (t : Fin cfg0.N) : (dats m 0 c).after 0 t = iblk m c 0 t := by dsimp only [dats]
/-- A step keeps input 1's block. -/
theorem after0_1 (c : Dev nD) (t : Fin cfg0.N) : (dats m 0 c).after 1 t = iblk m c 1 t := by dsimp only [dats]
/-- A step finds input 0's block. -/
theorem before0_0 (c : Dev nD) (t : Fin cfg0.N) (d) : (dats m 0 c).before 0 t d = iblk m c 0 t :=
  before0_0_of m (dats m 0 c) (A_eq m c 0) (after0_0 m c) t d
/-- A step finds input 1's block. -/
theorem before0_1 (c : Dev nD) (t : Fin cfg0.N) (d) : (dats m 0 c).before 1 t d = iblk m c 1 t :=
  before0_1_of m (dats m 0 c) (A_eq m c 1) (after0_1 m c) t d

/-- Window 0's current buffer. -/
abbrev ms0_0 (t : Fin cfg0.N) : Memref sig .tc .vmem S256x2048 .f32 := win0_0.stage (cfg0.slots t 0)
/-- Window 1's current buffer. -/
abbrev ms0_1 (t : Fin cfg0.N) : Memref sig .tc .vmem S256x2048 .bf16 := win0_1.stage (cfg0.slots t 1)
/-- Window 2's current buffer. -/
abbrev ms0_2 (t : Fin cfg0.N) : Memref sig .tc .vmem S256x2048 .bf16 := win0_2.stage (cfg0.slots t 2)
/-- Window 3's current buffer. -/
abbrev ms0_3 (t : Fin cfg0.N) : Memref sig .tc .vmem S256x2048 .bf16 := win0_3.stage (cfg0.slots t 3)
/-- Window 4's current buffer. -/
abbrev ms0_4 (t : Fin cfg0.N) : Memref sig .tc .vmem S256x2048 .bf16 := win0_4.stage (cfg0.slots t 4)
/-- Window 5's current buffer. -/
abbrev ms0_5 (t : Fin cfg0.N) : Memref sig .tc .vmem S2048x2048 .f32 := win0_5.stage (cfg0.slots t 5)
/-- Window 6's current buffer. -/
abbrev ms0_6 (t : Fin cfg0.N) : Memref sig .tc .vmem S256x2048 .i8 := win0_6.stage (cfg0.slots t 6)
/-- Window 7's current buffer. -/
abbrev ms0_7 (t : Fin cfg0.N) : Memref sig .tc .vmem S1x256 .f32 := win0_7.stage (cfg0.slots t 7)
/-- Window 8's current buffer. -/
abbrev ms0_8 (t : Fin cfg0.N) : Memref sig .tc .vmem S256x128 .f32 := win0_8.stage (cfg0.slots t 8)
/-- Window 9's current buffer. -/
abbrev ms0_9 (t : Fin cfg0.N) : Memref sig .tc .vmem S256x2048 .bf16 := win0_9.stage (cfg0.slots t 9)
/-- Window 10's current buffer. -/
abbrev ms0_10 (t : Fin cfg0.N) : Memref sig .tc .vmem S2048x256 .bf16 := win0_10.stage (cfg0.slots t 10)

/-- What the body is called with at step `t`. -/
def bodyPre (c : Dev nD) (t : Fin cfg0.N) : sProp (MT nD τ sig Unit (Elt F) ℕ (UR sig nD τ) ℕ) :=
  iprop(carried m c t.val ∗ (dats m 0 c).owesAt () t.castSucc
    ∗ owns (c : Thread nD τ) (ms0_0 t) fullShare (iblk m c 0 t)
    ∗ owns (c : Thread nD τ) (ms0_1 t) fullShare (iblk m c 1 t)
    ∗ (∃ d, owns (c : Thread nD τ) (ms0_2 t) fullShare d)
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

/-- What the body returns at step `t`. -/
def bodyPost (c : Dev nD) (t : Fin cfg0.N) : sProp (MT nD τ sig Unit (Elt F) ℕ (UR sig nD τ) ℕ) :=
  iprop(carried m c (t.val + 1) ∗ (dats m 0 c).owesAt () t.succ
    ∗ owns (c : Thread nD τ) (ms0_0 t) fullShare (iblk m c 0 t)
    ∗ owns (c : Thread nD τ) (ms0_1 t) fullShare (iblk m c 1 t)
    ∗ (∃ X, ⌜holds0 m c 2 t X⌝ ∗ owns (c : Thread nD τ) (ms0_2 t) fullShare X)
    ∗ (∃ X, ⌜holds0 m c 3 t X⌝ ∗ owns (c : Thread nD τ) (ms0_3 t) fullShare X)
    ∗ (∃ X, ⌜holds0 m c 4 t X⌝ ∗ owns (c : Thread nD τ) (ms0_4 t) fullShare X)
    ∗ (∃ X, ⌜holds0 m c 5 t X⌝ ∗ owns (c : Thread nD τ) (ms0_5 t) fullShare X)
    ∗ (∃ X, ⌜holds0 m c 6 t X⌝ ∗ owns (c : Thread nD τ) (ms0_6 t) fullShare X)
    ∗ (∃ X, ⌜holds0 m c 7 t X⌝ ∗ owns (c : Thread nD τ) (ms0_7 t) fullShare X)
    ∗ (∃ X, ⌜holds0 m c 8 t X⌝ ∗ owns (c : Thread nD τ) (ms0_8 t) fullShare X)
    ∗ (∃ X, ⌜holds0 m c 9 t X⌝ ∗ owns (c : Thread nD τ) (ms0_9 t) fullShare X)
    ∗ (∃ X, ⌜holds0 m c 10 t X⌝ ∗ owns (c : Thread nD τ) (ms0_10 t) fullShare X))

set_option maxHeartbeats 1600000 in
/-- The body at a step: the run applies to what the step finds, and leaves what is said of it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl]
  unfold carried
  iintro ⟨⟨⟨⟨%S, %hS, HS0⟩, HS1, HS2⟩, Hg⟩, Ho, H0, H1, H2, H3, H4, H5, H6, H7, H8, H9, H10⟩
  by_cases ht : t.val = 7
  · have hall := rowsAt_put m c t S hS
    rw [ht] at hall
    have hput := rowsAt_all m c _ hall
    have h7 : t = t0_7 := Fin.ext ht
    have hput_codes : k0_pay4 (iblk m c 1 t) (put (grid0.coords t) S (iblk m c 0 t)) = codes m c := by
      rw [hput, h7]; rfl
    have hput_scales : k0_pay8 (iblk m c 1 t) (put (grid0.coords t) S (iblk m c 0 t)) = scales m c := by
      rw [hput, h7]; rfl
    clear hall hput h7
    iapply (run_last c (grid0.coords t) _ _ _ _ _ _ _ _ _ _ _ _ _ _ _ _ _ _ _ _ _ _ _ _ _ _ _ _ (iblk m c 0 t) (iblk m c 1 t) S ((cond_iff t).mpr ht) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    isplitl [HS2]; · iexact HS2
    iintro ⟨H0, H1, ⟨%e2, H2⟩, ⟨%e3, H3⟩, ⟨%e4, H4⟩, ⟨%e5, H5⟩, H6, H7, ⟨%e8, H8⟩, ⟨%e9, H9⟩, ⟨%e10, H10⟩, HS0, HS1, HS2⟩
    isplitl [HS0 HS1 HS2 Hg]
    · isplitl [HS0 HS1 HS2]
      · isplitl [HS0]
        · iexists _; isplitr; swap; · iexact HS0
          ipureintro; exact rowsAt_put m c t S hS
        isplitl [HS1]; · iexact HS1
        iexact HS2
      iexact Hg
    isplitl [Ho]; · iexact Ho
    isplitl [H0]; · iexact H0
    isplitl [H1]; · iexact H1
    isplitl [H2]
    · iexists _; isplitr; swap; · iexact H2
      ipureintro; trivial
    isplitl [H3]
    · iexists _; isplitr; swap; · iexact H3
      ipureintro; trivial
    isplitl [H4]
    · iexists _; isplitr; swap; · iexact H4
      ipureintro; trivial
    isplitl [H5]
    · iexists _; isplitr; swap; · iexact H5
      ipureintro; trivial
    isplitl [H6]
    · iexists _; isplitr; swap; · iexact H6
      ipureintro; exact fun _ => hput_codes
    isplitl [H7]
    · iexists _; isplitr; swap; · iexact H7
      ipureintro; exact fun _ => hput_scales
    isplitl [H8]
    · iexists _; isplitr; swap; · iexact H8
      ipureintro; trivial
    isplitl [H9]
    · iexists _; isplitr; swap; · iexact H9
      ipureintro; trivial
    iexists _; isplitr; swap; · iexact H10
    ipureintro; trivial
  · iapply (run_mid c (grid0.coords t) _ _ _ _ _ _ _ _ _ _ _ _ _ _ _ _ _ _ _ _ _ _ _ _ _ _ _ _ (iblk m c 0 t) (iblk m c 1 t) S (fun h => ht ((cond_iff t).mp h)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    isplitl [HS2]; · iexact HS2
    iintro ⟨H0, H1, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, HS0, HS1, HS2⟩
    isplitl [HS0 HS1 HS2 Hg]
    · isplitl [HS0 HS1 HS2]
      · isplitl [HS0]
        · iexists _; isplitr; swap; · iexact HS0
          ipureintro; exact rowsAt_put m c t S hS
        isplitl [HS1]; · iexact HS1
        iexact HS2
      iexact Hg
    isplitl [Ho]; · iexact Ho
    isplitl [H0]; · iexact H0
    isplitl [H1]; · iexact H1
    isplitl [H2]
    · iexists _; isplitr; swap; · iexact H2
      ipureintro; trivial
    isplitl [H3]
    · iexists _; isplitr; swap; · iexact H3
      ipureintro; trivial
    isplitl [H4]
    · iexists _; isplitr; swap; · iexact H4
      ipureintro; trivial
    isplitl [H5]
    · iexists _; isplitr; swap; · iexact H5
      ipureintro; trivial
    isplitl [H6]
    · iexists _; isplitr; swap; · iexact H6
      ipureintro; exact fun h => absurd h ht
    isplitl [H7]
    · iexists _; isplitr; swap; · iexact H7
      ipureintro; exact fun h => absurd h ht
    isplitl [H8]
    · iexists _; isplitr; swap; · iexact H8
      ipureintro; trivial
    isplitl [H9]
    · iexists _; isplitr; swap; · iexact H9
      ipureintro; trivial
    iexists _; isplitr; swap; · iexact H10
    ipureintro; trivial

/-- The body the launch looks up at a step is the body. -/
theorem defs₀_row (t : Fin cfg0.N) :
    defs₀ (F := F) .tc cfg0.body (cfg0.bodyArgs t (cfg0.slots t)) = bodyAt0 t := by
  unfold defs₀; rw [Defs.onTc_tc]

set_option maxHeartbeats 1600000 in
/-- The body meets its obligation at every step, the outputs held to what is said of them. -/
theorem body_obligation (c : Dev nD) :
    Pipeline.BodyObligationRel (dats (F := F) m 0 c) (defs₀ (F := F)) Variants.none () Set.univ fgt0 (holds0 m c) := fun t => by
  rw [bigSep_W0, bigSep_W0, defs₀_row]
  refine triple_restated (sound_body m c t) rfl ?_ fun _ => .rfl
  show iprop(carried m c t.val ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ Y, ⌜((dats m 0 c).toRRel fgt0 (holds0 m c)).Finds 2 t Y⌝ ∗ owns (c : Thread nD τ) (ms0_2 t) fullShare Y)
    ∗ (∃ Y, ⌜((dats m 0 c).toRRel fgt0 (holds0 m c)).Finds 3 t Y⌝ ∗ owns (c : Thread nD τ) (ms0_3 t) fullShare Y)
    ∗ (∃ Y, ⌜((dats m 0 c).toRRel fgt0 (holds0 m c)).Finds 4 t Y⌝ ∗ owns (c : Thread nD τ) (ms0_4 t) fullShare Y)
    ∗ (∃ Y, ⌜((dats m 0 c).toRRel fgt0 (holds0 m c)).Finds 5 t Y⌝ ∗ owns (c : Thread nD τ) (ms0_5 t) fullShare Y)
    ∗ (∃ Y, ⌜((dats m 0 c).toRRel fgt0 (holds0 m c)).Finds 6 t Y⌝ ∗ owns (c : Thread nD τ) (ms0_6 t) fullShare Y)
    ∗ (∃ Y, ⌜((dats m 0 c).toRRel fgt0 (holds0 m c)).Finds 7 t Y⌝ ∗ owns (c : Thread nD τ) (ms0_7 t) fullShare Y)
    ∗ (∃ Y, ⌜((dats m 0 c).toRRel fgt0 (holds0 m c)).Finds 8 t Y⌝ ∗ owns (c : Thread nD τ) (ms0_8 t) fullShare Y)
    ∗ (∃ Y, ⌜((dats m 0 c).toRRel fgt0 (holds0 m c)).Finds 9 t Y⌝ ∗ owns (c : Thread nD τ) (ms0_9 t) fullShare Y)
    ∗ (∃ Y, ⌜((dats m 0 c).toRRel fgt0 (holds0 m c)).Finds 10 t Y⌝ ∗ owns (c : Thread nD τ) (ms0_10 t) fullShare Y)) ⊢ _
  unfold bodyPre
  iintro ⟨Hc, Ho, ⟨%d0, H0⟩, ⟨%d1, H1⟩, ⟨%d2, -, H2⟩, ⟨%d3, -, H3⟩, ⟨%d4, -, H4⟩, ⟨%d5, -, H5⟩, ⟨%d6, -, H6⟩, ⟨%d7, -, H7⟩, ⟨%d8, -, H8⟩, ⟨%d9, -, H9⟩, ⟨%d10, -, H10⟩⟩
  isplitl [Hc]; · iexact Hc
  isplitl [Ho]; · iexact Ho
  isplitl [H0]; · rw [before0_0]; iexact H0
  isplitl [H1]; · rw [before0_1]; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  iexists _; iexact H10

/-- The relational data of the call. -/
def rdats (c : Dev nD) : RDat τ (Elt F) Unit ℕ (UR sig nD τ) ℕ (cfgs 0) c := (dats m 0 c).toRRel fgt0 (holds0 m c)

set_option backward.isDefEq.respectTransparency.types false in
/-- The kernel runs to the end; every input array is kept, the arrays of the outputs are what the steps may leave, and every
    semaphore ends at zero. -/
theorem run_main_quiescent : θ_run defs (onTc (τ := τ) (main (F := F))) (s₀ m ρ)
    (fun r => Pipeline.RDat.FramePost (cfgs 0) (rdats m) (V m) r ∧ r.2.sem = fun _ => 0) :=
  Pipeline.RDat.θ_run_frame_track (Q' := _) cfgs (0 : Fin 1) launch0 defs₀ Variants.none (rdats m) m ρ main
    (hbody := fun c => (body_obligation m c).toRRel) (hshare := fun c => (dats m 0 c).share_full fun _ => rfl)
    (howed := fun _ _ => rfl) (V := V m) (hmain := hmain m Variants.none) (hA := A_eq m)
    (hin := fun c => by
      show _ ⊢ carried m c 0
      rw [PhiA0_eq]; unfold carried
      iintro ⟨⟨⟨%d, HS0⟩, HS1, HS2⟩, Hg⟩
      isplitl [HS0 HS1 HS2]
      · isplitl [HS0]
        · iexists d; isplitr
          · ipureintro; exact fun y hy => absurd hy (Nat.not_lt_zero _)
          · iexact HS0
        isplitl [HS1]; · iexact HS1
        iexact HS2
      iexact Hg)
    (hout := fun c => by
      show carried m c 8 ⊢ _
      rw [PhiA0_eq]; unfold carried
      iintro ⟨⟨⟨%d, -, HS0⟩, HS1, HS2⟩, Hg⟩
      isplitl [HS0 HS1 HS2]
      · isplitl [HS0]; · iexists d; iexact HS0
        isplitl [HS1]; · iexact HS1
        iexact HS2
      iexact Hg)

variable {m}

/-- Argument 0 is kept. -/
theorem kept0 {r : PUnit × MemSt nD τ sig (Elt F)} (h : Pipeline.RDat.FramePost (cfgs 0) (rdats (F := F) m) (V m) r) (c : Dev nD) :
    r.2.mem ((c : Thread nD τ).loc main_arg0) = m ((c : Thread nD τ).loc main_arg0) :=
  (Pipeline.RDat.FramePost.arr_in h c 0 rfl).trans ((A_eq m c 0).trans (V_main_arg0 m c))

/-- Argument 1 is kept. -/
theorem kept1 {r : PUnit × MemSt nD τ sig (Elt F)} (h : Pipeline.RDat.FramePost (cfgs 0) (rdats (F := F) m) (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- The array of the codes after the run. -/
theorem array6 {r : PUnit × MemSt nD τ sig (Elt F)} (h : Pipeline.RDat.FramePost (cfgs 0) (rdats (F := F) m) (V m) r) (c : Dev nD) :
    r.2.mem ((c : Thread nD τ).loc main_v1_4) = codes m c := by
  obtain ⟨X, hX, e⟩ := ((h c).1 6).emb_eq_of_wholeAt (t₀ := t0_7) (by decide +kernel)
  have hc : X = codes m c := (dats m 0 c).toRRel_leaves (w := 6) rfl hX rfl
  subst hc
  exact funext fun j => e j

/-- The array of the scales after the run. -/
theorem array7 {r : PUnit × MemSt nD τ sig (Elt F)} (h : Pipeline.RDat.FramePost (cfgs 0) (rdats (F := F) m) (V m) r) (c : Dev nD) :
    r.2.mem ((c : Thread nD τ).loc main_v1_5) = scales m c := by
  obtain ⟨X, hX, e⟩ := ((h c).1 7).emb_eq_of_wholeAt (t₀ := t0_7) (by decide +kernel)
  have hc : X = scales m c := (dats m 0 c).toRRel_leaves (w := 7) rfl hX rfl
  subst hc
  exact funext fun j => e j

variable (m)

/-- The kernel runs to the end, every argument is kept, and every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨kept0 h.1 c, kept1 h.1 c⟩, h.2⟩) (run_main_quiescent m ρ)

end Cert.TokensIdeal.Hand

end
-- ==== Proof.Tok.lean ====
module

public import proofs.«01_k».proof.Proof.TokIdealFrame
public import proofs.«01_k».proof.Proof.Gen.TokensReferenceIdeal.Value
public import Idealize.ShloMosaic.Lib.Pipeline.ValueKit
public import Idealize.ShloMosaic.Lib.Pipeline.ReadBack

/-
  The codes of the tokens and their scales. The kernel gathers the high part of `r` block of rows by block of rows, and codes
  the product at the last step; the reference codes the product with the rounded `r` at once. Both are the same formula.
-/

set_option maxRecDepth 16384

@[expose] public section

noncomputable section

namespace Cert.Spec

open Idealize.ShloMosaic

/-- The tokens as a matrix. -/
def tokMat (X : (⟨3, ![1, 256, 2048]⟩ : Shape).Idx → EReal) : (⟨2, ![256, 2048]⟩ : Shape).Idx → EReal :=
  fun y => X (ix3 0 (y 0) (y 1))

/-- The codes of the tokens, from `r` and the tokens. -/
def tokCodes (R : (⟨2, ![2048, 2048]⟩ : Shape).Idx → EReal) (X : (⟨3, ![1, 256, 2048]⟩ : Shape).Idx → EReal) :
    IVec (⟨2, ![256, 2048]⟩ : Shape) 8 :=
  Cert.TokensReferenceIdeal.Gen.k0_pay3 (F := Ideal) (tokMat X) R

/-- The scales of the tokens, from `r` and the tokens. -/
def tokScales (R : (⟨2, ![2048, 2048]⟩ : Shape).Idx → EReal) (X : (⟨3, ![1, 256, 2048]⟩ : Shape).Idx → EReal) :
    (⟨2, ![1, 256]⟩ : Shape).Idx → EReal :=
  Cert.TokensReferenceIdeal.Gen.k0_pay4 (F := Ideal) (tokMat X) R

/-- The bound 127 as the kernel writes it is the integer 127. -/
theorem top_bound : Scalar.ofBits (F := Ideal) .f32 0x42FE0000#32 = Scalar.sitofp (F := Ideal) .f32 127#32 := by
  show Ideal.ofBits FTy.f32 0x42FE0000#32 = (((127#32 : BitVec 32).toInt : ℝ) : EReal)
  rw [show (127#32 : BitVec 32).toInt = 127 from by decide]
  simp [Ideal.ofBits, Ideal.ieee, -EReal.coe_mul]; norm_num

/-- The bound -127 as the kernel writes it is the integer -127. -/
theorem bottom_bound : Scalar.ofBits (F := Ideal) .f32 0xC2FE0000#32 = Scalar.sitofp (F := Ideal) .f32 4294967169#32 := by
  show Ideal.ofBits FTy.f32 0xC2FE0000#32 = (((4294967169#32 : BitVec 32).toInt : ℝ) : EReal)
  rw [show (4294967169#32 : BitVec 32).toInt = -127 from by decide]
  simp [Ideal.ofBits, Ideal.ieee, -EReal.coe_mul, -EReal.coe_neg]; norm_num

end Cert.Spec

namespace Cert.TokensIdeal.Hand

open Cert.TokensIdeal Cert.TokensIdeal.Gen
open Idealize.ShloMosaic Idealize.ShloMosaic.TcCoe Idealize.ShloMosaic.Tactic
open Idealize.ShloMosaic.Pipeline (Dat Cfg Window)
open Idealize.SL.Sem

variable (m : (ℓ : Loc nD τ sig) → Buf (Elt Ideal) ℓ)

/-- Which block of its array each input holds at step `t`. -/
theorem idx : ∀ t : Fin cfg0.N, win0_0.index t = ![t.val, 0] ∧ win0_1.index t = ![0, 0] ∧ t.val < 8 :=
  (by decide +kernel : ∀ t : Fin grid0.N, _)

/-- The matrix `r`. -/
abbrev aR (c : Dev nD) : Vec Ideal S2048x2048 .f32 := m ((c : Thread nD τ).loc main_arg0)
/-- The tokens. -/
abbrev aX (c : Dev nD) : Vec Ideal S1x256x2048 .bf16 := m ((c : Thread nD τ).loc main_arg1)

/-- The first window holds a block of rows of `r`. -/
theorem blk0 (c : Dev nD) (t : Fin cfg0.N) (i : Fin 256) (l r : Fin 2048) (hr : r.val = 256 * t.val + i.val) :
    (iblk m c 0 t : Vec Ideal S256x2048 .f32) (ix2 i l) = aR m c (ix2 r l) := by
  have ht := (idx t).2.2
  blk_simp [iblk, V, idx t]
  pointwise []
  blk_ext [idx t]

/-- The second window holds the tokens. -/
theorem blk1 (c : Dev nD) (t : Fin cfg0.N) (b : Fin 256) (j : Fin 2048) :
    (iblk m c 1 t : Vec Ideal S256x2048 .bf16) (ix2 b j) = aX m c (ix3 0 b j) := by
  blk_simp [iblk, V, idx t]
  entry_read
  pointwise []
  blk_ext [idx t]

/-- The high part of a block is the block: a change of format is the identity. -/
theorem pay21 (x : Vec Ideal S256x2048 .f32) (i : Fin 256) (l : Fin 2048) : k0_pay21 x (ix2 i l) = x (ix2 i l) := by
  pointwise [k0_pay21, k0_pay17]
  try rfl

/-- The whole of the high parts is `r`. -/
theorem high_eq (c : Dev nD) : high m c = aR m c := by
  funext y
  obtain ⟨a, b, rfl⟩ : ∃ a b : Fin 2048, y = ix2 a b := ⟨y 0, y 1, eq_ix2 y⟩
  have e : (Fin.cons ⟨a.val % 256, Nat.mod_lt _ (by decide)⟩ (Fin.cons b finZeroElim) : S256x2048.Idx)
      = ix2 (⟨a.val % 256, Nat.mod_lt _ (by decide)⟩ : Fin 256) b :=
    funext (Fin.forall_fin_two.mpr ⟨rfl, rfl⟩)
  show k0_pay21 (iblk m c 0 (stepOf a)) (Fin.cons ⟨a.val % 256, Nat.mod_lt _ (by decide)⟩ (Fin.cons b finZeroElim)) = _
  rw [e, pay21]
  exact blk0 m c (stepOf a) _ b a (by show a.val = 256 * (a.val / 256) + a.val % 256; omega)

/-- The second window's block is the tokens as a matrix. -/
theorem tok_eq (c : Dev nD) (t : Fin cfg0.N) : (iblk m c 1 t : Vec Ideal S256x2048 .bf16) = Spec.tokMat (aX m c) := by
  funext y
  obtain ⟨a, b, rfl⟩ : ∃ (a : Fin 256) (b : Fin 2048), y = ix2 a b := ⟨y 0, y 1, eq_ix2 y⟩
  exact blk1 m c t a b

/-- The kernel's product is the reference's. -/
theorem pay1_eq (x : Vec Ideal S256x2048 .bf16) (r : Vec Ideal S2048x2048 .f32) :
    k0_pay1 (F := Ideal) x r = Cert.TokensReferenceIdeal.Gen.k0_pay1 (F := Ideal) x r := rfl

/-- The kernel's column of scales is the reference's. -/
theorem pay2_eq (x : Vec Ideal S256x2048 .bf16) (r : Vec Ideal S2048x2048 .f32) :
    k0_pay2 (F := Ideal) x r = Cert.TokensReferenceIdeal.Gen.k0_pay2 (F := Ideal) x r := rfl

/-- The kernel's codes are the reference's. -/
theorem pay4_eq (x : Vec Ideal S256x2048 .bf16) (r : Vec Ideal S2048x2048 .f32) :
    k0_pay4 (F := Ideal) x r = Cert.TokensReferenceIdeal.Gen.k0_pay3 (F := Ideal) x r := by
  unfold k0_pay4 k0_pay3 Cert.TokensReferenceIdeal.Gen.k0_pay3
  rw [pay1_eq, pay2_eq, ← Spec.top_bound, ← Spec.bottom_bound]

/-- The kernel's row of scales is the reference's. -/
theorem pay8_eq (x : Vec Ideal S256x2048 .bf16) (r : Vec Ideal S2048x2048 .f32) :
    k0_pay8 (F := Ideal) x r = Cert.TokensReferenceIdeal.Gen.k0_pay4 (F := Ideal) x r := by
  funext y
  obtain ⟨a, b, rfl⟩ : ∃ (a : Fin 1) (b : Fin 256), y = ix2 a b := ⟨y 0, y 1, eq_ix2 y⟩
  have e1 : k0_pay8 (F := Ideal) x r (ix2 a b) = k0_pay2 (F := Ideal) x r (ix2 b 0) := by
    pointwise [k0_pay8, k0_pay7]
    try rfl
  have e2 : Cert.TokensReferenceIdeal.Gen.k0_pay4 (F := Ideal) x r (ix2 a b)
      = Cert.TokensReferenceIdeal.Gen.k0_pay2 (F := Ideal) x r (ix2 b 0) := by
    unfold Cert.TokensReferenceIdeal.Gen.k0_pay4
    refine (shapeCast_apply _ _ (ix2 a b) (ix2 b (0 : Fin 1)) (by
      rw [Shape.rowMajor_val_two, Shape.rowMajor_val_two]
      have := a.isLt
      show b.val * 1 + 0 = a.val * 256 + b.val
      omega))
  rw [e1, e2, pay2_eq]

/-- The codes the call gives. -/
theorem codes_eq (c : Dev nD) : codes m c = Spec.tokCodes (aR m c) (aX m c) := by
  unfold codes
  rw [tok_eq, high_eq]
  exact pay4_eq _ _

/-- The scales the call gives. -/
theorem scales_eq (c : Dev nD) : scales m c = Spec.tokScales (aR m c) (aX m c) := by
  unfold scales
  rw [tok_eq, high_eq]
  exact pay8_eq _ _

/-- The kernel runs to the end, its results are the stated functions of its arguments, and the arguments are kept. -/
theorem run_results (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v1_4) = Spec.tokCodes (aR m c) (aX m c)
      ∧ r.2.mem ((c : Thread nD τ).loc main_v1_5) = Spec.tokScales (aR m c) (aX m c)
      ∧ r.2.mem ((c : Thread nD τ).loc main_arg0) = m ((c : Thread nD τ).loc main_arg0)
      ∧ r.2.mem ((c : Thread nD τ).loc main_arg1) = m ((c : Thread nD τ).loc main_arg1) :=
  θ_run_mono (run_main_quiescent m ρ) fun r h c =>
    ⟨(array6 h.1 c).trans (codes_eq m c), (array7 h.1 c).trans (scales_eq m c), kept0 h.1 c, kept1 h.1 c⟩

end Cert.TokensIdeal.Hand

namespace Cert.TokensReferenceIdeal.Hand

open Cert.TokensReferenceIdeal Cert.TokensReferenceIdeal.Gen
open Idealize.ShloMosaic Idealize.ShloMosaic.TcCoe Idealize.ShloMosaic.Tactic
open Idealize.SL.Sem

variable (m : (ℓ : Loc nD τ sig) → Buf (Elt Ideal) ℓ)

/-- The one block of each window is its whole array. -/
theorem idx : ∀ t : Fin cfg0.N, win0_0.index t = ![0, 0] ∧ win0_1.index t = ![0, 0] ∧ win0_2.index t = ![0, 0]
    ∧ win0_3.index t = ![0, 0] :=
  (by decide +kernel : ∀ t : Fin grid0.N, _)

/-- The matrix `r`. -/
abbrev aR (c : Dev nD) : Vec Ideal S2048x2048 .f32 := m ((c : Thread nD τ).loc main_arg0)
/-- The tokens. -/
abbrev aX (c : Dev nD) : Vec Ideal S1x256x2048 .bf16 := m ((c : Thread nD τ).loc main_arg1)

/-- The first window holds `r`. -/
theorem blk0 (c : Dev nD) (t : Fin cfg0.N) : (iblk m c 0 t : Vec Ideal S2048x2048 .f32) = aR m c := by
  funext y
  obtain ⟨a, b, rfl⟩ : ∃ a b : Fin 2048, y = ix2 a b := ⟨y 0, y 1, eq_ix2 y⟩
  blk_simp [iblk, V, idx t]
  pointwise []
  blk_ext [idx t]

/-- The second window holds the tokens. -/
theorem blk1 (c : Dev nD) (t : Fin cfg0.N) : (iblk m c 1 t : Vec Ideal S256x2048 .bf16) = Spec.tokMat (aX m c) := by
  funext y
  obtain ⟨a, b, rfl⟩ : ∃ (a : Fin 256) (b : Fin 2048), y = ix2 a b := ⟨y 0, y 1, eq_ix2 y⟩
  show _ = aX m c (ix3 0 a b)
  blk_simp [iblk, V, idx t]
  entry_read
  pointwise []
  blk_ext [idx t]

/-- The offsets of a whole access. -/
theorem zero2 : (![0, 0] : Fin 2 → ℕ) = fun _ => 0 := funext (Fin.forall_fin_two.mpr ⟨rfl, rfl⟩)

/-- The array of the codes. -/
theorem codes_array (c : Dev nD) : (dats m 0 c).arrAt 2 cfg0.N = Spec.tokCodes (aR m c) (aX m c) := by
  refine (dats m 0 c).arrAt_eq_of_covers 2 _ (by decide +kernel) fun t _ y => ?_
  obtain ⟨a, b, rfl⟩ : ∃ (a : Fin 256) (b : Fin 2048), y = ix2 a b := ⟨y 0, y 1, eq_ix2 y⟩
  have e : out0_2 (iblk m c 0 t) (iblk m c 1 t) = Spec.tokCodes (aR m c) (aX m c) := by
    rw [blk0, blk1]
    unfold out0_2
    rw [View.canon_unit_zero zero2]
    exact congrArg₂ (k0_pay3 (F := Ideal)) (View.ld_unit_zero (S := S256x2048) zero2 _ _) (View.ld_unit_zero (S := S2048x2048) zero2 _ _)
  blk_simp
  rw [after0_2, e]
  refine congrArg (Spec.tokCodes (aR m c) (aX m c)) (funext fun k => Fin.ext ?_)
  match k with
  | ⟨0, _⟩ => blk_simp [idx t]
  | ⟨1, _⟩ => blk_simp [idx t]

/-- The array of the scales. -/
theorem scales_array (c : Dev nD) : (dats m 0 c).arrAt 3 cfg0.N = Spec.tokScales (aR m c) (aX m c) := by
  refine (dats m 0 c).arrAt_eq_of_covers 3 _ (by decide +kernel) fun t _ y => ?_
  obtain ⟨a, b, rfl⟩ : ∃ (a : Fin 1) (b : Fin 256), y = ix2 a b := ⟨y 0, y 1, eq_ix2 y⟩
  have e : out0_3 (iblk m c 0 t) (iblk m c 1 t) = Spec.tokScales (aR m c) (aX m c) := by
    rw [blk0, blk1]
    unfold out0_3
    rw [View.canon_unit_zero zero2]
    exact congrArg₂ (k0_pay4 (F := Ideal)) (View.ld_unit_zero (S := S256x2048) zero2 _ _) (View.ld_unit_zero (S := S2048x2048) zero2 _ _)
  blk_simp
  rw [after0_3, e]
  refine congrArg (Spec.tokScales (aR m c) (aX m c)) (funext fun k => Fin.ext ?_)
  match k with
  | ⟨0, _⟩ => blk_simp [idx t]
  | ⟨1, _⟩ => blk_simp [idx t]

/-- The reference runs to the end, its results are the same functions of its arguments, and the arguments are kept. -/
theorem run_results (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v1_0) = Spec.tokCodes (aR m c) (aX m c)
      ∧ r.2.mem ((c : Thread nD τ).loc main_v1_1) = Spec.tokScales (aR m c) (aX m c)
      ∧ r.2.mem ((c : Thread nD τ).loc main_arg0) = m ((c : Thread nD τ).loc main_arg0)
      ∧ r.2.mem ((c : Thread nD τ).loc main_arg1) = m ((c : Thread nD τ).loc main_arg1) :=
  θ_run_mono (Value.run_blocks (F := Ideal) m ρ) fun r h c =>
    ⟨(h c).1.trans (codes_array m c), (h c).2.1.trans (scales_array m c), (h c).2.2⟩

end Cert.TokensReferenceIdeal.Hand

end
-- ==== Proof.Tiles.lean ====
module

public import proofs.«01_k».proof.Proof.Gen.KernelIdeal.Value
public import Idealize.ShloMosaic.Lib.Pipeline.ValueKit
public import proofs.«01_k».proof.Proof.Math

/-
  One step of the grid, part 1: what the 32-row tiles of a half step put where.

  A half step works on 512 rows of the rotated weights in 16 tiles of 32 rows. The tiles do the same arithmetic; the
  payloads differ only in how the operations are grouped. Here each family of payloads is named as a function of the 512
  rows (`sA`, `qA`, ... for the first half, `sB`, `qB`, ... for the second) and shown equal to one common form.
-/

set_option maxRecDepth 16384

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat Cfg Window)

/-- Rows 0 .. 31 of a half. -/
abbrev tile0 (X : Vec Ideal S512x2048 .f32) : Vec Ideal S32x2048 .f32 :=
  View.ld X (Rect.unit ![0, 0] ![32, 2048] inb_S512x2048_S32x2048_0_0)
/-- Rows 32 .. 63 of a half. -/
abbrev tile32 (X : Vec Ideal S512x2048 .f32) : Vec Ideal S32x2048 .f32 :=
  View.ld X (Rect.unit ![32, 0] ![32, 2048] inb_S512x2048_S32x2048_32_0)
/-- Rows 64 .. 95 of a half. -/
abbrev tile64 (X : Vec Ideal S512x2048 .f32) : Vec Ideal S32x2048 .f32 :=
  View.ld X (Rect.unit ![64, 0] ![32, 2048] inb_S512x2048_S32x2048_64_0)
/-- Rows 96 .. 127 of a half. -/
abbrev tile96 (X : Vec Ideal S512x2048 .f32) : Vec Ideal S32x2048 .f32 :=
  View.ld X (Rect.unit ![96, 0] ![32, 2048] inb_S512x2048_S32x2048_96_0)
/-- Rows 128 .. 159 of a half. -/
abbrev tile128 (X : Vec Ideal S512x2048 .f32) : Vec Ideal S32x2048 .f32 :=
  View.ld X (Rect.unit ![128, 0] ![32, 2048] inb_S512x2048_S32x2048_128_0)
/-- Rows 160 .. 191 of a half. -/
abbrev tile160 (X : Vec Ideal S512x2048 .f32) : Vec Ideal S32x2048 .f32 :=
  View.ld X (Rect.unit ![160, 0] ![32, 2048] inb_S512x2048_S32x2048_160_0)
/-- Rows 192 .. 223 of a half. -/
abbrev tile192 (X : Vec Ideal S512x2048 .f32) : Vec Ideal S32x2048 .f32 :=
  View.ld X (Rect.unit ![192, 0] ![32, 2048] inb_S512x2048_S32x2048_192_0)
/-- Rows 224 .. 255 of a half. -/
abbrev tile224 (X : Vec Ideal S512x2048 .f32) : Vec Ideal S32x2048 .f32 :=
  View.ld X (Rect.unit ![224, 0] ![32, 2048] inb_S512x2048_S32x2048_224_0)
/-- Rows 256 .. 287 of a half. -/
abbrev tile256 (X : Vec Ideal S512x2048 .f32) : Vec Ideal S32x2048 .f32 :=
  View.ld X (Rect.unit ![256, 0] ![32, 2048] inb_S512x2048_S32x2048_256_0)
/-- Rows 288 .. 319 of a half. -/
abbrev tile288 (X : Vec Ideal S512x2048 .f32) : Vec Ideal S32x2048 .f32 :=
  View.ld X (Rect.unit ![288, 0] ![32, 2048] inb_S512x2048_S32x2048_288_0)
/-- Rows 320 .. 351 of a half. -/
abbrev tile320 (X : Vec Ideal S512x2048 .f32) : Vec Ideal S32x2048 .f32 :=
  View.ld X (Rect.unit ![320, 0] ![32, 2048] inb_S512x2048_S32x2048_320_0)
/-- Rows 352 .. 383 of a half. -/
abbrev tile352 (X : Vec Ideal S512x2048 .f32) : Vec Ideal S32x2048 .f32 :=
  View.ld X (Rect.unit ![352, 0] ![32, 2048] inb_S512x2048_S32x2048_352_0)
/-- Rows 384 .. 415 of a half. -/
abbrev tile384 (X : Vec Ideal S512x2048 .f32) : Vec Ideal S32x2048 .f32 :=
  View.ld X (Rect.unit ![384, 0] ![32, 2048] inb_S512x2048_S32x2048_384_0)
/-- Rows 416 .. 447 of a half. -/
abbrev tile416 (X : Vec Ideal S512x2048 .f32) : Vec Ideal S32x2048 .f32 :=
  View.ld X (Rect.unit ![416, 0] ![32, 2048] inb_S512x2048_S32x2048_416_0)
/-- Rows 448 .. 479 of a half. -/
abbrev tile448 (X : Vec Ideal S512x2048 .f32) : Vec Ideal S32x2048 .f32 :=
  View.ld X (Rect.unit ![448, 0] ![32, 2048] inb_S512x2048_S32x2048_448_0)
/-- Rows 480 .. 511 of a half. -/
abbrev tile480 (X : Vec Ideal S512x2048 .f32) : Vec Ideal S32x2048 .f32 :=
  View.ld X (Rect.unit ![480, 0] ![32, 2048] inb_S512x2048_S32x2048_480_0)

/-- The scales of the first half as the row the step uses. -/
def sA (X0 : Vec Ideal S512x2048 .f32) : FVec Ideal S1x512 .f32 :=
    k0_pay139 (k0_pay37 (k0_pay11 (k0_pay6 (tile0 X0))) (k0_pay18 (k0_pay12 (tile32 X0))) (k0_pay29 (k0_pay21 (k0_pay19 (tile64 X0)) k0_pay20))
    (k0_pay30 (tile96 X0))) (k0_pay70 (k0_pay45 (k0_pay39 (tile128 X0))) (k0_pay52 (k0_pay46 (tile160 X0))) (k0_pay62 (k0_pay54 (k0_pay53 (tile192
    X0)))) (k0_pay63 (tile224 X0))) (k0_pay104 (k0_pay77 (k0_pay72 (tile256 X0))) (k0_pay87 (k0_pay79 (tile288 X0)) (k0_pay80 (tile288 X0)) k0_pay81)
    (k0_pay96 (k0_pay88 (tile320 X0))) (k0_pay97 (tile352 X0))) (k0_pay111 (k0_pay106 (tile384 X0))) (k0_pay122 (k0_pay114 (k0_pay112 (tile416 X0))
    (k0_pay113 (tile416 X0)) (FloatOps.ofBits FTy.f32 1088421888#32))) (k0_pay131 (k0_pay123 (tile448 X0))) (k0_pay132 (tile480 X0))

/-- The scales of the second half as the row the step uses. -/
def sB (X1 : Vec Ideal S512x2048 .f32) : FVec Ideal S1x512 .f32 :=
    k0_pay275 (k0_pay183 (k0_pay161 (k0_pay154 (k0_pay153 (tile0 X1)))) (k0_pay169 (k0_pay162 (tile32 X1))) (k0_pay176 (k0_pay170 (tile64 X1)))
    (k0_pay177 (tile96 X1))) (k0_pay213 (k0_pay192 (k0_pay185 (tile128 X1))) (k0_pay200 (k0_pay193 (tile160 X1))) (k0_pay207 (k0_pay201 (tile192 X1)))
    (k0_pay208 (tile224 X1))) (k0_pay244 (k0_pay243 (k0_pay223 (k0_pay216 (tile256 X1))) (k0_pay231 (k0_pay224 (tile288 X1))) (k0_pay237 (k0_pay232
    (tile320 X1))) (k0_pay238 (tile352 X1)))) (k0_pay253 (k0_pay246 (tile384 X1))) (k0_pay260 (k0_pay254 (tile416 X1))) (k0_pay266 (k0_pay261 (tile448
    X1))) (k0_pay270 (k0_pay267 (tile480 X1)) (k0_pay268 (tile480 X1)) k0_pay269)

/-- The scales of the first half as stored. -/
def wsA (X0 : Vec Ideal S512x2048 .f32) : FVec Ideal S1x1x512 .f32 :=
    k0_pay140 (k0_pay37 (k0_pay11 (k0_pay6 (tile0 X0))) (k0_pay18 (k0_pay12 (tile32 X0))) (k0_pay29 (k0_pay21 (k0_pay19 (tile64 X0)) k0_pay20))
    (k0_pay30 (tile96 X0))) (k0_pay70 (k0_pay45 (k0_pay39 (tile128 X0))) (k0_pay52 (k0_pay46 (tile160 X0))) (k0_pay62 (k0_pay54 (k0_pay53 (tile192
    X0)))) (k0_pay63 (tile224 X0))) (k0_pay104 (k0_pay77 (k0_pay72 (tile256 X0))) (k0_pay87 (k0_pay79 (tile288 X0)) (k0_pay80 (tile288 X0)) k0_pay81)
    (k0_pay96 (k0_pay88 (tile320 X0))) (k0_pay97 (tile352 X0))) (k0_pay111 (k0_pay106 (tile384 X0))) (k0_pay122 (k0_pay114 (k0_pay112 (tile416 X0))
    (k0_pay113 (tile416 X0)) (FloatOps.ofBits FTy.f32 1088421888#32))) (k0_pay131 (k0_pay123 (tile448 X0))) (k0_pay132 (tile480 X0))

/-- The scales of the second half as stored. -/
def wsB (X1 : Vec Ideal S512x2048 .f32) : FVec Ideal S1x1x512 .f32 :=
    k0_pay276 (k0_pay183 (k0_pay161 (k0_pay154 (k0_pay153 (tile0 X1)))) (k0_pay169 (k0_pay162 (tile32 X1))) (k0_pay176 (k0_pay170 (tile64 X1)))
    (k0_pay177 (tile96 X1))) (k0_pay213 (k0_pay192 (k0_pay185 (tile128 X1))) (k0_pay200 (k0_pay193 (tile160 X1))) (k0_pay207 (k0_pay201 (tile192 X1)))
    (k0_pay208 (tile224 X1))) (k0_pay244 (k0_pay243 (k0_pay223 (k0_pay216 (tile256 X1))) (k0_pay231 (k0_pay224 (tile288 X1))) (k0_pay237 (k0_pay232
    (tile320 X1))) (k0_pay238 (tile352 X1)))) (k0_pay253 (k0_pay246 (tile384 X1))) (k0_pay260 (k0_pay254 (tile416 X1))) (k0_pay266 (k0_pay261 (tile448
    X1))) (k0_pay270 (k0_pay267 (tile480 X1)) (k0_pay268 (tile480 X1)) k0_pay269)

/-- The squared errors of the first half as stored. -/
def errA (X0 : Vec Ideal S512x2048 .f32) : FVec Ideal S1x1x512 .f32 :=
    k0_pay141 (k0_pay38 (k0_pay10 (tile0 X0) (k0_pay6 (tile0 X0)) (k0_pay7 (tile0 X0))) (k0_pay17 (tile32 X0) (k0_pay12 (tile32 X0)) (FloatOps.ofBits
    FTy.f32 1088421888#32) (k0_pay13 (tile32 X0))) (k0_pay28 (k0_pay25 (tile64 X0) (k0_pay19 (tile64 X0)) k0_pay20) (k0_pay26 (tile64 X0) (k0_pay19
    (tile64 X0)) k0_pay20) (k0_pay27 (tile64 X0) (k0_pay19 (tile64 X0)) k0_pay20)) (k0_pay34 (tile96 X0)) (k0_pay35 (tile96 X0)) (k0_pay36 (tile96
    X0))) (k0_pay71 (k0_pay44 (tile128 X0) (k0_pay39 (tile128 X0)) (k0_pay40 (tile128 X0))) (k0_pay51 (tile160 X0) (k0_pay46 (tile160 X0)) (k0_pay47
    (tile160 X0))) (k0_pay61 (k0_pay58 (tile192 X0) (k0_pay53 (tile192 X0))) (k0_pay59 (tile192 X0) (k0_pay53 (tile192 X0))) (k0_pay60 (tile192 X0)
    (k0_pay53 (tile192 X0)))) (k0_pay67 (tile224 X0)) (k0_pay68 (tile224 X0)) (k0_pay69 (tile224 X0))) (k0_pay105 (k0_pay76 (tile256 X0) (k0_pay72
    (tile256 X0)) (k0_pay73 (tile256 X0))) (k0_pay86 (tile288 X0) (k0_pay79 (tile288 X0)) (k0_pay80 (tile288 X0)) k0_pay81) (k0_pay95 (k0_pay92
    (tile320 X0)) (k0_pay93 (tile320 X0)) (k0_pay94 (tile320 X0))) (k0_pay101 (tile352 X0)) (k0_pay102 (tile352 X0)) (k0_pay103 (tile352 X0)))
    (k0_pay110 (tile384 X0) (k0_pay106 (tile384 X0)) (k0_pay107 (tile384 X0))) (k0_pay121 (k0_pay119 (tile416 X0) (k0_pay112 (tile416 X0)) (k0_pay113
    (tile416 X0)) (FloatOps.ofBits FTy.f32 1088421888#32)) (k0_pay120 (tile416 X0) (k0_pay112 (tile416 X0)) (k0_pay113 (tile416 X0)) (FloatOps.ofBits
    FTy.f32 1088421888#32))) (k0_pay130 (k0_pay127 (tile448 X0)) (k0_pay128 (tile448 X0)) (k0_pay129 (tile448 X0))) (k0_pay136 (tile480 X0)) (k0_pay137
    (tile480 X0)) (k0_pay138 (tile480 X0))

/-- The squared errors of the second half as stored. -/
def errB (X1 : Vec Ideal S512x2048 .f32) : FVec Ideal S1x1x512 .f32 :=
    k0_pay277 (k0_pay184 (k0_pay160 (k0_pay158 (tile0 X1) (k0_pay153 (tile0 X1))) (k0_pay159 (tile0 X1) (k0_pay153 (tile0 X1)))) (k0_pay168 (k0_pay166
    (tile32 X1)) (k0_pay167 (tile32 X1))) (k0_pay175 (tile64 X1) (k0_pay171 (tile64 X1)) (k0_pay174 (tile64 X1))) (tile96 X1) (k0_pay177 (tile96 X1))
    (k0_pay178 (tile96 X1)) k0_pay179) (k0_pay215 (k0_pay214 (k0_pay191 (k0_pay189 (tile128 X1)) (k0_pay190 (tile128 X1))) (k0_pay199 (k0_pay197
    (tile160 X1)) (k0_pay198 (tile160 X1))) (k0_pay206 (tile192 X1) (k0_pay201 (tile192 X1)) (k0_pay202 (tile192 X1))) (tile224 X1) (k0_pay208 (tile224
    X1)) (k0_pay209 (tile224 X1)) (FloatOps.ofBits FTy.f32 3235905536#32))) (k0_pay245 (k0_pay222 (k0_pay220 (tile256 X1)) (k0_pay221 (tile256 X1)))
    (k0_pay230 (k0_pay228 (tile288 X1)) (k0_pay229 (tile288 X1))) (k0_pay236 (tile320 X1) (k0_pay232 (tile320 X1)) (k0_pay233 (tile320 X1))) (k0_pay242
    (tile352 X1) (k0_pay238 (tile352 X1)))) (k0_pay252 (k0_pay250 (tile384 X1)) (k0_pay251 (tile384 X1))) (k0_pay259 (k0_pay258 (tile416 X1)))
    (k0_pay265 (tile448 X1) (k0_pay261 (tile448 X1)) (k0_pay262 (tile448 X1))) (k0_pay274 (tile480 X1) (k0_pay267 (tile480 X1)) (k0_pay268 (tile480
    X1)) k0_pay269)

/-- The residual of the second half. -/
def eB (X1 : Vec Ideal S512x2048 .f32) (SX : Vec Ideal S256x1 .f32) (QX : Vec Ideal S256x2048 .bf16) (QW : Vec Ideal S512x2048 .bf16) (Y : Vec Ideal S1x256x512 .bf16) : FVec Ideal S256x512 .f32 :=
    k0_pay279 (k0_pay183 (k0_pay161 (k0_pay154 (k0_pay153 (tile0 X1)))) (k0_pay169 (k0_pay162 (tile32 X1))) (k0_pay176 (k0_pay170 (tile64 X1)))
    (k0_pay177 (tile96 X1))) (k0_pay213 (k0_pay192 (k0_pay185 (tile128 X1))) (k0_pay200 (k0_pay193 (tile160 X1))) (k0_pay207 (k0_pay201 (tile192 X1)))
    (k0_pay208 (tile224 X1))) (k0_pay244 (k0_pay243 (k0_pay223 (k0_pay216 (tile256 X1))) (k0_pay231 (k0_pay224 (tile288 X1))) (k0_pay237 (k0_pay232
    (tile320 X1))) (k0_pay238 (tile352 X1)))) (k0_pay253 (k0_pay246 (tile384 X1))) (k0_pay260 (k0_pay254 (tile416 X1))) (k0_pay266 (k0_pay261 (tile448
    X1))) (k0_pay270 (k0_pay267 (tile480 X1)) (k0_pay268 (tile480 X1)) k0_pay269) SX QX QW Y

/-- The residual of the second half as stored. -/
def esB (X1 : Vec Ideal S512x2048 .f32) (SX : Vec Ideal S256x1 .f32) (QX : Vec Ideal S256x2048 .bf16) (QW : Vec Ideal S512x2048 .bf16) (Y : Vec Ideal S1x256x512 .bf16) : FVec Ideal S1x256x512 .f32 :=
    k0_pay280 (k0_pay183 (k0_pay161 (k0_pay154 (k0_pay153 (tile0 X1)))) (k0_pay169 (k0_pay162 (tile32 X1))) (k0_pay176 (k0_pay170 (tile64 X1)))
    (k0_pay177 (tile96 X1))) (k0_pay213 (k0_pay192 (k0_pay185 (tile128 X1))) (k0_pay200 (k0_pay193 (tile160 X1))) (k0_pay207 (k0_pay201 (tile192 X1)))
    (k0_pay208 (tile224 X1))) (k0_pay244 (k0_pay243 (k0_pay223 (k0_pay216 (tile256 X1))) (k0_pay231 (k0_pay224 (tile288 X1))) (k0_pay237 (k0_pay232
    (tile320 X1))) (k0_pay238 (tile352 X1)))) (k0_pay253 (k0_pay246 (tile384 X1))) (k0_pay260 (k0_pay254 (tile416 X1))) (k0_pay266 (k0_pay261 (tile448
    X1))) (k0_pay270 (k0_pay267 (tile480 X1)) (k0_pay268 (tile480 X1)) k0_pay269) SX QX QW Y

/-- The stores of the first half's codes, last first. -/
def qpA (X0 : Vec Ideal S512x2048 .f32) : List (View.Piece (Elt Ideal) S512x2048 .bf16) :=
    [⟨Rect.unit ![480, 0] ![32, 2048] inb_S512x2048_S32x2048_480_0, k0_pay135 (tile480 X0)⟩, ⟨Rect.unit ![448, 0] ![32, 2048]
    inb_S512x2048_S32x2048_448_0, k0_pay126 (tile448 X0)⟩, ⟨Rect.unit ![416, 0] ![32, 2048] inb_S512x2048_S32x2048_416_0, k0_pay117 (tile416 X0)
    (k0_pay112 (tile416 X0)) (k0_pay113 (tile416 X0)) (FloatOps.ofBits FTy.f32 1088421888#32)⟩, ⟨Rect.unit ![384, 0] ![32, 2048]
    inb_S512x2048_S32x2048_384_0, k0_pay109 (k0_pay107 (tile384 X0))⟩, ⟨Rect.unit ![352, 0] ![32, 2048] inb_S512x2048_S32x2048_352_0, k0_pay100
    (tile352 X0)⟩, ⟨Rect.unit ![320, 0] ![32, 2048] inb_S512x2048_S32x2048_320_0, k0_pay91 (tile320 X0)⟩, ⟨Rect.unit ![288, 0] ![32, 2048]
    inb_S512x2048_S32x2048_288_0, k0_pay85 (tile288 X0) (k0_pay79 (tile288 X0)) (k0_pay80 (tile288 X0)) k0_pay81⟩, ⟨Rect.unit ![256, 0] ![32, 2048]
    inb_S512x2048_S32x2048_256_0, k0_pay75 (k0_pay73 (tile256 X0))⟩, ⟨Rect.unit ![224, 0] ![32, 2048] inb_S512x2048_S32x2048_224_0, k0_pay66 (tile224
    X0)⟩, ⟨Rect.unit ![192, 0] ![32, 2048] inb_S512x2048_S32x2048_192_0, k0_pay57 (tile192 X0) (k0_pay53 (tile192 X0))⟩, ⟨Rect.unit ![160, 0] ![32,
    2048] inb_S512x2048_S32x2048_160_0, k0_pay50 (k0_pay47 (tile160 X0))⟩, ⟨Rect.unit ![128, 0] ![32, 2048] inb_S512x2048_S32x2048_128_0, k0_pay43
    (k0_pay42 (tile128 X0))⟩, ⟨Rect.unit ![96, 0] ![32, 2048] inb_S512x2048_S32x2048_96_0, k0_pay33 (tile96 X0)⟩, ⟨Rect.unit ![64, 0] ![32, 2048]
    inb_S512x2048_S32x2048_64_0, k0_pay24 (tile64 X0) (k0_pay19 (tile64 X0)) k0_pay20⟩, ⟨Rect.unit ![32, 0] ![32, 2048] inb_S512x2048_S32x2048_32_0,
    k0_pay16 (FloatOps.ofBits FTy.f32 1088421888#32) (k0_pay13 (tile32 X0))⟩, ⟨Rect.unit ![0, 0] ![32, 2048] inb_S512x2048_S32x2048_0_0, k0_pay9 (tile0
    X0)⟩]

/-- The stores of both halves' codes, last first. -/
def qpB (X0 : Vec Ideal S512x2048 .f32) (X1 : Vec Ideal S512x2048 .f32) : List (View.Piece (Elt Ideal) S512x2048 .bf16) :=
    [⟨Rect.unit ![480, 0] ![32, 2048] inb_S512x2048_S32x2048_480_0, k0_pay273 (tile480 X1) (k0_pay267 (tile480 X1)) (k0_pay268 (tile480 X1))
    k0_pay269⟩, ⟨Rect.unit ![448, 0] ![32, 2048] inb_S512x2048_S32x2048_448_0, k0_pay264 (k0_pay262 (tile448 X1))⟩, ⟨Rect.unit ![416, 0] ![32, 2048]
    inb_S512x2048_S32x2048_416_0, k0_pay257 (tile416 X1)⟩, ⟨Rect.unit ![384, 0] ![32, 2048] inb_S512x2048_S32x2048_384_0, k0_pay249 (tile384 X1)⟩,
    ⟨Rect.unit ![352, 0] ![32, 2048] inb_S512x2048_S32x2048_352_0, k0_pay241 (tile352 X1) (k0_pay238 (tile352 X1))⟩, ⟨Rect.unit ![320, 0] ![32, 2048]
    inb_S512x2048_S32x2048_320_0, k0_pay235 (k0_pay233 (tile320 X1))⟩, ⟨Rect.unit ![288, 0] ![32, 2048] inb_S512x2048_S32x2048_288_0, k0_pay227
    (tile288 X1)⟩, ⟨Rect.unit ![256, 0] ![32, 2048] inb_S512x2048_S32x2048_256_0, k0_pay219 (tile256 X1)⟩, ⟨Rect.unit ![224, 0] ![32, 2048]
    inb_S512x2048_S32x2048_224_0, k0_pay212 (k0_pay209 (tile224 X1)) (FloatOps.ofBits FTy.f32 3235905536#32)⟩, ⟨Rect.unit ![192, 0] ![32, 2048]
    inb_S512x2048_S32x2048_192_0, k0_pay205 (k0_pay204 (tile192 X1))⟩, ⟨Rect.unit ![160, 0] ![32, 2048] inb_S512x2048_S32x2048_160_0, k0_pay196
    (tile160 X1)⟩, ⟨Rect.unit ![128, 0] ![32, 2048] inb_S512x2048_S32x2048_128_0, k0_pay188 (tile128 X1)⟩, ⟨Rect.unit ![96, 0] ![32, 2048]
    inb_S512x2048_S32x2048_96_0, k0_pay182 (k0_pay178 (tile96 X1)) k0_pay179⟩, ⟨Rect.unit ![64, 0] ![32, 2048] inb_S512x2048_S32x2048_64_0, k0_pay173
    (tile64 X1)⟩, ⟨Rect.unit ![32, 0] ![32, 2048] inb_S512x2048_S32x2048_32_0, k0_pay165 (tile32 X1)⟩, ⟨Rect.unit ![0, 0] ![32, 2048]
    inb_S512x2048_S32x2048_0_0, k0_pay157 (tile0 X1) (k0_pay153 (tile0 X1))⟩, ⟨Rect.unit ![480, 0] ![32, 2048] inb_S512x2048_S32x2048_480_0, k0_pay135
    (tile480 X0)⟩, ⟨Rect.unit ![448, 0] ![32, 2048] inb_S512x2048_S32x2048_448_0, k0_pay126 (tile448 X0)⟩, ⟨Rect.unit ![416, 0] ![32, 2048]
    inb_S512x2048_S32x2048_416_0, k0_pay117 (tile416 X0) (k0_pay112 (tile416 X0)) (k0_pay113 (tile416 X0)) (FloatOps.ofBits FTy.f32 1088421888#32)⟩,
    ⟨Rect.unit ![384, 0] ![32, 2048] inb_S512x2048_S32x2048_384_0, k0_pay109 (k0_pay107 (tile384 X0))⟩, ⟨Rect.unit ![352, 0] ![32, 2048]
    inb_S512x2048_S32x2048_352_0, k0_pay100 (tile352 X0)⟩, ⟨Rect.unit ![320, 0] ![32, 2048] inb_S512x2048_S32x2048_320_0, k0_pay91 (tile320 X0)⟩,
    ⟨Rect.unit ![288, 0] ![32, 2048] inb_S512x2048_S32x2048_288_0, k0_pay85 (tile288 X0) (k0_pay79 (tile288 X0)) (k0_pay80 (tile288 X0)) k0_pay81⟩,
    ⟨Rect.unit ![256, 0] ![32, 2048] inb_S512x2048_S32x2048_256_0, k0_pay75 (k0_pay73 (tile256 X0))⟩, ⟨Rect.unit ![224, 0] ![32, 2048]
    inb_S512x2048_S32x2048_224_0, k0_pay66 (tile224 X0)⟩, ⟨Rect.unit ![192, 0] ![32, 2048] inb_S512x2048_S32x2048_192_0, k0_pay57 (tile192 X0)
    (k0_pay53 (tile192 X0))⟩, ⟨Rect.unit ![160, 0] ![32, 2048] inb_S512x2048_S32x2048_160_0, k0_pay50 (k0_pay47 (tile160 X0))⟩, ⟨Rect.unit ![128, 0]
    ![32, 2048] inb_S512x2048_S32x2048_128_0, k0_pay43 (k0_pay42 (tile128 X0))⟩, ⟨Rect.unit ![96, 0] ![32, 2048] inb_S512x2048_S32x2048_96_0, k0_pay33
    (tile96 X0)⟩, ⟨Rect.unit ![64, 0] ![32, 2048] inb_S512x2048_S32x2048_64_0, k0_pay24 (tile64 X0) (k0_pay19 (tile64 X0)) k0_pay20⟩, ⟨Rect.unit ![32,
    0] ![32, 2048] inb_S512x2048_S32x2048_32_0, k0_pay16 (FloatOps.ofBits FTy.f32 1088421888#32) (k0_pay13 (tile32 X0))⟩, ⟨Rect.unit ![0, 0] ![32,
    2048] inb_S512x2048_S32x2048_0_0, k0_pay9 (tile0 X0)⟩]

/-- The stores of the codes as integers, last first. -/
def wcp (X0 : Vec Ideal S512x2048 .f32) (X1 : Vec Ideal S512x2048 .f32) : List (View.Piece (Elt Ideal) S1024x2048 .i8) :=
    [⟨Rect.unit ![992, 0] ![32, 2048] inb_S1024x2048_S32x2048_992_0, k0_pay272 (tile480 X1) (k0_pay267 (tile480 X1)) (k0_pay268 (tile480 X1))
    k0_pay269⟩, ⟨Rect.unit ![960, 0] ![32, 2048] inb_S1024x2048_S32x2048_960_0, k0_pay263 (tile448 X1)⟩, ⟨Rect.unit ![928, 0] ![32, 2048]
    inb_S1024x2048_S32x2048_928_0, k0_pay256 (tile416 X1)⟩, ⟨Rect.unit ![896, 0] ![32, 2048] inb_S1024x2048_S32x2048_896_0, k0_pay248 (tile384 X1)⟩,
    ⟨Rect.unit ![864, 0] ![32, 2048] inb_S1024x2048_S32x2048_864_0, k0_pay240 (tile352 X1) (k0_pay238 (tile352 X1))⟩, ⟨Rect.unit ![832, 0] ![32, 2048]
    inb_S1024x2048_S32x2048_832_0, k0_pay234 (tile320 X1)⟩, ⟨Rect.unit ![800, 0] ![32, 2048] inb_S1024x2048_S32x2048_800_0, k0_pay226 (tile288 X1)⟩,
    ⟨Rect.unit ![768, 0] ![32, 2048] inb_S1024x2048_S32x2048_768_0, k0_pay218 (tile256 X1)⟩, ⟨Rect.unit ![736, 0] ![32, 2048]
    inb_S1024x2048_S32x2048_736_0, k0_pay211 (k0_pay209 (tile224 X1)) (FloatOps.ofBits FTy.f32 3235905536#32)⟩, ⟨Rect.unit ![704, 0] ![32, 2048]
    inb_S1024x2048_S32x2048_704_0, k0_pay203 (tile192 X1)⟩, ⟨Rect.unit ![672, 0] ![32, 2048] inb_S1024x2048_S32x2048_672_0, k0_pay195 (tile160 X1)⟩,
    ⟨Rect.unit ![640, 0] ![32, 2048] inb_S1024x2048_S32x2048_640_0, k0_pay187 (tile128 X1)⟩, ⟨Rect.unit ![608, 0] ![32, 2048]
    inb_S1024x2048_S32x2048_608_0, k0_pay181 (k0_pay178 (tile96 X1)) k0_pay179⟩, ⟨Rect.unit ![576, 0] ![32, 2048] inb_S1024x2048_S32x2048_576_0,
    k0_pay172 (tile64 X1)⟩, ⟨Rect.unit ![544, 0] ![32, 2048] inb_S1024x2048_S32x2048_544_0, k0_pay164 (tile32 X1)⟩, ⟨Rect.unit ![512, 0] ![32, 2048]
    inb_S1024x2048_S32x2048_512_0, k0_pay156 (tile0 X1) (k0_pay153 (tile0 X1))⟩, ⟨Rect.unit ![480, 0] ![32, 2048] inb_S1024x2048_S32x2048_480_0,
    k0_pay134 (tile480 X0)⟩, ⟨Rect.unit ![448, 0] ![32, 2048] inb_S1024x2048_S32x2048_448_0, k0_pay125 (tile448 X0)⟩, ⟨Rect.unit ![416, 0] ![32, 2048]
    inb_S1024x2048_S32x2048_416_0, k0_pay116 (tile416 X0) (k0_pay112 (tile416 X0)) (k0_pay113 (tile416 X0)) (FloatOps.ofBits FTy.f32 1088421888#32)⟩,
    ⟨Rect.unit ![384, 0] ![32, 2048] inb_S1024x2048_S32x2048_384_0, k0_pay108 (k0_pay107 (tile384 X0))⟩, ⟨Rect.unit ![352, 0] ![32, 2048]
    inb_S1024x2048_S32x2048_352_0, k0_pay99 (tile352 X0)⟩, ⟨Rect.unit ![320, 0] ![32, 2048] inb_S1024x2048_S32x2048_320_0, k0_pay90 (tile320 X0)⟩,
    ⟨Rect.unit ![288, 0] ![32, 2048] inb_S1024x2048_S32x2048_288_0, k0_pay84 (tile288 X0) (k0_pay79 (tile288 X0)) (k0_pay80 (tile288 X0)) k0_pay81⟩,
    ⟨Rect.unit ![256, 0] ![32, 2048] inb_S1024x2048_S32x2048_256_0, k0_pay74 (tile256 X0)⟩, ⟨Rect.unit ![224, 0] ![32, 2048]
    inb_S1024x2048_S32x2048_224_0, k0_pay65 (tile224 X0)⟩, ⟨Rect.unit ![192, 0] ![32, 2048] inb_S1024x2048_S32x2048_192_0, k0_pay56 (tile192 X0)
    (k0_pay53 (tile192 X0))⟩, ⟨Rect.unit ![160, 0] ![32, 2048] inb_S1024x2048_S32x2048_160_0, k0_pay49 (k0_pay47 (tile160 X0))⟩, ⟨Rect.unit ![128, 0]
    ![32, 2048] inb_S1024x2048_S32x2048_128_0, k0_pay41 (tile128 X0)⟩, ⟨Rect.unit ![96, 0] ![32, 2048] inb_S1024x2048_S32x2048_96_0, k0_pay32 (tile96
    X0)⟩, ⟨Rect.unit ![64, 0] ![32, 2048] inb_S1024x2048_S32x2048_64_0, k0_pay23 (tile64 X0) (k0_pay19 (tile64 X0)) k0_pay20⟩, ⟨Rect.unit ![32, 0]
    ![32, 2048] inb_S1024x2048_S32x2048_32_0, k0_pay15 (FloatOps.ofBits FTy.f32 1088421888#32) (k0_pay13 (tile32 X0))⟩, ⟨Rect.unit ![0, 0] ![32, 2048]
    inb_S1024x2048_S32x2048_0_0, k0_pay8 (tile0 X0)⟩]

/-- The scales of four tiles of 32 rows, as a row of 128. -/
def scales4 (a b c d : Vec Ideal S32x2048 .f32) : FVec Ideal S1x128 .f32 :=
  k0_pay37 (k0_pay11 (k0_pay6 a)) (k0_pay11 (k0_pay6 b)) (k0_pay11 (k0_pay6 c)) (k0_pay6 d)

/-- The squared errors of a tile of 32 rows, folded to 128 lanes. -/
def fold (a : Vec Ideal S32x2048 .f32) : FVec Ideal S32x128 .f32 := k0_pay10 a (k0_pay6 a) (k0_pay7 a)

/-- The squared errors of four tiles of 32 rows, as a row of 128. -/
def errs4 (a b c d : Vec Ideal S32x2048 .f32) : FVec Ideal S1x128 .f32 :=
  shapeCast S1x128 (multiReduction .add [0] S128 (transpose S128x128 [1, 0]
    (concatenate S128x128 0 [⟨S32x128, fold a⟩, ⟨S32x128, fold b⟩, ⟨S32x128, fold c⟩, ⟨S32x128, fold d⟩]
      concatenates_S32x128_S32x128_S32x128_S32x128_S128x128_d0) transposes_S128x128_p1_0_S128x128)
    0x00000000#32 reduces_S128x128_S128 (.inl rfl) rfl) shapeCasts_S128_S1x128

/-- The scales of 512 rows, as a row. -/
def srow (X : Vec Ideal S512x2048 .f32) : FVec Ideal S1x512 .f32 :=
  k0_pay139 (scales4 (tile0 X) (tile32 X) (tile64 X) (tile96 X)) (scales4 (tile128 X) (tile160 X) (tile192 X) (tile224 X))
    (scales4 (tile256 X) (tile288 X) (tile320 X) (tile352 X)) (k0_pay11 (k0_pay6 (tile384 X))) (k0_pay11 (k0_pay6 (tile416 X)))
    (k0_pay11 (k0_pay6 (tile448 X))) (k0_pay6 (tile480 X))

/-- The squared errors of 512 rows, as a row. -/
def erow (X : Vec Ideal S512x2048 .f32) : FVec Ideal S1x512 .f32 :=
  concatenate S1x512 1 [⟨S1x128, errs4 (tile0 X) (tile32 X) (tile64 X) (tile96 X)⟩,
    ⟨S1x128, errs4 (tile128 X) (tile160 X) (tile192 X) (tile224 X)⟩,
    ⟨S1x128, errs4 (tile256 X) (tile288 X) (tile320 X) (tile352 X)⟩,
    ⟨S1x128, errs4 (tile384 X) (tile416 X) (tile448 X) (tile480 X)⟩] concatenates_S1x128_S1x128_S1x128_S1x128_S1x512_d1

/-- The codes of 512 rows as 16 stores, last first. -/
def qp (X : Vec Ideal S512x2048 .f32) : List (View.Piece (Elt Ideal) S512x2048 .bf16) :=
    [⟨Rect.unit ![480, 0] ![32, 2048] inb_S512x2048_S32x2048_480_0, k0_pay9 (tile480 X)⟩, ⟨Rect.unit ![448, 0] ![32, 2048]
    inb_S512x2048_S32x2048_448_0, k0_pay9 (tile448 X)⟩, ⟨Rect.unit ![416, 0] ![32, 2048] inb_S512x2048_S32x2048_416_0, k0_pay9 (tile416 X)⟩, ⟨Rect.unit
    ![384, 0] ![32, 2048] inb_S512x2048_S32x2048_384_0, k0_pay9 (tile384 X)⟩, ⟨Rect.unit ![352, 0] ![32, 2048] inb_S512x2048_S32x2048_352_0, k0_pay9
    (tile352 X)⟩, ⟨Rect.unit ![320, 0] ![32, 2048] inb_S512x2048_S32x2048_320_0, k0_pay9 (tile320 X)⟩, ⟨Rect.unit ![288, 0] ![32, 2048]
    inb_S512x2048_S32x2048_288_0, k0_pay9 (tile288 X)⟩, ⟨Rect.unit ![256, 0] ![32, 2048] inb_S512x2048_S32x2048_256_0, k0_pay9 (tile256 X)⟩, ⟨Rect.unit
    ![224, 0] ![32, 2048] inb_S512x2048_S32x2048_224_0, k0_pay9 (tile224 X)⟩, ⟨Rect.unit ![192, 0] ![32, 2048] inb_S512x2048_S32x2048_192_0, k0_pay9
    (tile192 X)⟩, ⟨Rect.unit ![160, 0] ![32, 2048] inb_S512x2048_S32x2048_160_0, k0_pay9 (tile160 X)⟩, ⟨Rect.unit ![128, 0] ![32, 2048]
    inb_S512x2048_S32x2048_128_0, k0_pay9 (tile128 X)⟩, ⟨Rect.unit ![96, 0] ![32, 2048] inb_S512x2048_S32x2048_96_0, k0_pay9 (tile96 X)⟩, ⟨Rect.unit
    ![64, 0] ![32, 2048] inb_S512x2048_S32x2048_64_0, k0_pay9 (tile64 X)⟩, ⟨Rect.unit ![32, 0] ![32, 2048] inb_S512x2048_S32x2048_32_0, k0_pay9 (tile32
    X)⟩, ⟨Rect.unit ![0, 0] ![32, 2048] inb_S512x2048_S32x2048_0_0, k0_pay9 (tile0 X)⟩]

/-- The integer codes of both halves as 32 stores, last first. -/
def wcp0 (X0 : Vec Ideal S512x2048 .f32) (X1 : Vec Ideal S512x2048 .f32) : List (View.Piece (Elt Ideal) S1024x2048 .i8) :=
    [⟨Rect.unit ![992, 0] ![32, 2048] inb_S1024x2048_S32x2048_992_0, k0_pay8 (tile480 X1)⟩, ⟨Rect.unit ![960, 0] ![32, 2048]
    inb_S1024x2048_S32x2048_960_0, k0_pay8 (tile448 X1)⟩, ⟨Rect.unit ![928, 0] ![32, 2048] inb_S1024x2048_S32x2048_928_0, k0_pay8 (tile416 X1)⟩,
    ⟨Rect.unit ![896, 0] ![32, 2048] inb_S1024x2048_S32x2048_896_0, k0_pay8 (tile384 X1)⟩, ⟨Rect.unit ![864, 0] ![32, 2048]
    inb_S1024x2048_S32x2048_864_0, k0_pay8 (tile352 X1)⟩, ⟨Rect.unit ![832, 0] ![32, 2048] inb_S1024x2048_S32x2048_832_0, k0_pay8 (tile320 X1)⟩,
    ⟨Rect.unit ![800, 0] ![32, 2048] inb_S1024x2048_S32x2048_800_0, k0_pay8 (tile288 X1)⟩, ⟨Rect.unit ![768, 0] ![32, 2048]
    inb_S1024x2048_S32x2048_768_0, k0_pay8 (tile256 X1)⟩, ⟨Rect.unit ![736, 0] ![32, 2048] inb_S1024x2048_S32x2048_736_0, k0_pay8 (tile224 X1)⟩,
    ⟨Rect.unit ![704, 0] ![32, 2048] inb_S1024x2048_S32x2048_704_0, k0_pay8 (tile192 X1)⟩, ⟨Rect.unit ![672, 0] ![32, 2048]
    inb_S1024x2048_S32x2048_672_0, k0_pay8 (tile160 X1)⟩, ⟨Rect.unit ![640, 0] ![32, 2048] inb_S1024x2048_S32x2048_640_0, k0_pay8 (tile128 X1)⟩,
    ⟨Rect.unit ![608, 0] ![32, 2048] inb_S1024x2048_S32x2048_608_0, k0_pay8 (tile96 X1)⟩, ⟨Rect.unit ![576, 0] ![32, 2048]
    inb_S1024x2048_S32x2048_576_0, k0_pay8 (tile64 X1)⟩, ⟨Rect.unit ![544, 0] ![32, 2048] inb_S1024x2048_S32x2048_544_0, k0_pay8 (tile32 X1)⟩,
    ⟨Rect.unit ![512, 0] ![32, 2048] inb_S1024x2048_S32x2048_512_0, k0_pay8 (tile0 X1)⟩, ⟨Rect.unit ![480, 0] ![32, 2048]
    inb_S1024x2048_S32x2048_480_0, k0_pay8 (tile480 X0)⟩, ⟨Rect.unit ![448, 0] ![32, 2048] inb_S1024x2048_S32x2048_448_0, k0_pay8 (tile448 X0)⟩,
    ⟨Rect.unit ![416, 0] ![32, 2048] inb_S1024x2048_S32x2048_416_0, k0_pay8 (tile416 X0)⟩, ⟨Rect.unit ![384, 0] ![32, 2048]
    inb_S1024x2048_S32x2048_384_0, k0_pay8 (tile384 X0)⟩, ⟨Rect.unit ![352, 0] ![32, 2048] inb_S1024x2048_S32x2048_352_0, k0_pay8 (tile352 X0)⟩,
    ⟨Rect.unit ![320, 0] ![32, 2048] inb_S1024x2048_S32x2048_320_0, k0_pay8 (tile320 X0)⟩, ⟨Rect.unit ![288, 0] ![32, 2048]
    inb_S1024x2048_S32x2048_288_0, k0_pay8 (tile288 X0)⟩, ⟨Rect.unit ![256, 0] ![32, 2048] inb_S1024x2048_S32x2048_256_0, k0_pay8 (tile256 X0)⟩,
    ⟨Rect.unit ![224, 0] ![32, 2048] inb_S1024x2048_S32x2048_224_0, k0_pay8 (tile224 X0)⟩, ⟨Rect.unit ![192, 0] ![32, 2048]
    inb_S1024x2048_S32x2048_192_0, k0_pay8 (tile192 X0)⟩, ⟨Rect.unit ![160, 0] ![32, 2048] inb_S1024x2048_S32x2048_160_0, k0_pay8 (tile160 X0)⟩,
    ⟨Rect.unit ![128, 0] ![32, 2048] inb_S1024x2048_S32x2048_128_0, k0_pay8 (tile128 X0)⟩, ⟨Rect.unit ![96, 0] ![32, 2048]
    inb_S1024x2048_S32x2048_96_0, k0_pay8 (tile96 X0)⟩, ⟨Rect.unit ![64, 0] ![32, 2048] inb_S1024x2048_S32x2048_64_0, k0_pay8 (tile64 X0)⟩, ⟨Rect.unit
    ![32, 0] ![32, 2048] inb_S1024x2048_S32x2048_32_0, k0_pay8 (tile32 X0)⟩, ⟨Rect.unit ![0, 0] ![32, 2048] inb_S1024x2048_S32x2048_0_0, k0_pay8 (tile0
    X0)⟩]

/-- The first half's scales are the common form. -/
theorem sA_eq (X : Vec Ideal S512x2048 .f32) : sA X = srow X := rfl
/-- The second half's scales are the common form. -/
theorem sB_eq (X : Vec Ideal S512x2048 .f32) : sB X = srow X := rfl
/-- The first half's stored scales are the common form with two leading axes. -/
theorem wsA_eq (X : Vec Ideal S512x2048 .f32) : wsA X = shapeCast S1x1x512 (srow X) shapeCasts_S1x512_S1x1x512 := rfl
/-- The second half's stored scales are the common form with two leading axes. -/
theorem wsB_eq (X : Vec Ideal S512x2048 .f32) : wsB X = shapeCast S1x1x512 (srow X) shapeCasts_S1x512_S1x1x512 := rfl
/-- The first half's stored errors are the common form with two leading axes. -/
theorem errA_eq (X : Vec Ideal S512x2048 .f32) : errA X = shapeCast S1x1x512 (erow X) shapeCasts_S1x512_S1x1x512 := rfl
/-- The second half's stored errors are the common form with two leading axes. -/
theorem errB_eq (X : Vec Ideal S512x2048 .f32) : errB X = shapeCast S1x1x512 (erow X) shapeCasts_S1x512_S1x1x512 := rfl
/-- The first half's stores of codes. -/
theorem qpA_eq (X : Vec Ideal S512x2048 .f32) : qpA X = qp X := rfl
/-- The stores of codes after the second half: its own, over those of the first half. -/
theorem qpB_eq (X0 X1 : Vec Ideal S512x2048 .f32) : qpB X0 X1 = qp X1 ++ qp X0 := rfl
/-- The step's stores of integer codes. -/
theorem wcp_eq (X0 X1 : Vec Ideal S512x2048 .f32) : wcp X0 X1 = wcp0 X0 X1 := rfl
/-- The second half's residual is the first half's formula. -/
theorem eB_eq (X1 : Vec Ideal S512x2048 .f32) (SX : Vec Ideal S256x1 .f32) (QX : Vec Ideal S256x2048 .bf16)
    (QW : Vec Ideal S512x2048 .bf16) (Y : Vec Ideal S1x256x512 .bf16) :
    eB X1 SX QX QW Y = k0_pay143 (srow X1) (k0_pay142 SX) QX QW Y := rfl
/-- The second half's residual block is the first half's formula. -/
theorem esB_eq (X1 : Vec Ideal S512x2048 .f32) (SX : Vec Ideal S256x1 .f32) (QX : Vec Ideal S256x2048 .bf16)
    (QW : Vec Ideal S512x2048 .bf16) (Y : Vec Ideal S1x256x512 .bf16) :
    esB X1 SX QX QW Y = k0_pay144 (srow X1) (k0_pay142 SX) QX QW Y := rfl

end Cert.KernelIdeal.Hand

end
-- ==== Proof.Half.lean ====
module

public import proofs.«01_k».proof.Proof.Gen.KernelIdeal.Value
public import Idealize.ShloMosaic.Lib.Pipeline.ValueKit
public import Idealize.ShloMosaic.Lib.Pipeline.CanonAppend
public import proofs.«01_k».proof.Proof.Tiles
/-
  One step of the grid, part 2: the tiles of a half step read at an index, in terms of the rows of the half.
-/

set_option maxRecDepth 16384

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat Cfg Window)

open Cert.RowMath

/-- A row of a half. -/
abbrev row512 (X : Vec Ideal S512x2048 .f32) (i : Fin 512) : Fin 2048 → EReal := fun l => X (ix2 i l)

/-- The rows of a 32-row tile are rows of the half. -/
theorem tile_point (n : ℕ) (h : ∀ a, (![n, 0] : Fin 2 → ℕ) a + (![32, 2048] : Fin 2 → ℕ) a ≤ S512x2048.size a)
    (X : Vec Ideal S512x2048 .f32) (a : Fin 32) (i : Fin 512) (hi : i.val = n + a.val) (l : Fin 2048) :
    (View.ld X (Rect.unit ![n, 0] ![32, 2048] h) : Vec Ideal S32x2048 .f32) (ix2 a l) = X (ix2 i l) := by
  rw [View.ld_apply]
  congr 1
  funext k
  refine Fin.ext ?_
  match k with
  | ⟨0, _⟩ => show n + 1 * a.val = i.val; omega
  | ⟨1, _⟩ => show 0 + 1 * l.val = l.val; omega

/-- The scale payload at a row of a tile. -/
theorem pay6_point (v : Vec Ideal S32x2048 .f32) (a : Fin 32) (b : Fin 1) :
    k0_pay6 v (ix2 a b) = scl (fun l => v (ix2 a l)) := by
  pointwise [k0_pay6]
  rfl

/-- The code payload at an element of a tile. -/
theorem pay7_point (v : Vec Ideal S32x2048 .f32) (a : Fin 32) (b : Fin 2048) :
    k0_pay7 v (ix2 a b) = cod (fun l => v (ix2 a l)) b := by
  pointwise [k0_pay7]
  rw [pay6_point]
  rfl

/-- The narrowed codes are the codes. -/
theorem pay9_point (v : Vec Ideal S32x2048 .f32) (a : Fin 32) (b : Fin 2048) :
    k0_pay9 v (ix2 a b) = cod (fun l => v (ix2 a l)) b := by
  pointwise [k0_pay9]
  rw [pay7_point]

/-- The integer codes are the codes converted. -/
theorem pay8_point (v : Vec Ideal S32x2048 .f32) (a : Fin 32) (b : Fin 2048) :
    k0_pay8 v (ix2 a b) = FloatOps.fptosi (F := Ideal) (φ := .f32) 8 (cod (fun l => v (ix2 a l)) b) := by
  pointwise [k0_pay8]
  rw [pay7_point]

/-- The squared errors of a row, folded to 128 lanes, add up to the squared error of the row. -/
theorem sum_fold (v : Vec Ideal S32x2048 .f32) (a : Fin 32) :
    ∑ b : Fin 128, fold v (ix2 a b) = sqerr (fun l => v (ix2 a l)) := by
  unfold sqerr
  rw [← Fin.sum_lanes16]
  refine Finset.sum_congr rfl fun b _ => ?_
  unfold fold
  pointwise [k0_pay10]
  simp only [pay6_point, pay7_point]

attribute [local irreducible] fold

/-- The scales of 128 rows in four tiles. -/
theorem scales4_point (v0 v1 v2 v3 : Vec Ideal S32x2048 .f32) (R : Fin 128 → Fin 2048 → EReal)
    (h0 : ∀ (a : Fin 32) (b : Fin 128), b.val = a.val → ∀ l, v0 (ix2 a l) = R b l)
    (h1 : ∀ (a : Fin 32) (b : Fin 128), b.val = 32 + a.val → ∀ l, v1 (ix2 a l) = R b l)
    (h2 : ∀ (a : Fin 32) (b : Fin 128), b.val = 64 + a.val → ∀ l, v2 (ix2 a l) = R b l)
    (h3 : ∀ (a : Fin 32) (b : Fin 128), b.val = 96 + a.val → ∀ l, v3 (ix2 a l) = R b l)
    (a : Fin 1) (b : Fin 128) : scales4 v0 v1 v2 v3 (ix2 a b) = scl (R b) := by
  unfold scales4
  pointwise [k0_pay37, k0_pay11]
  by_cases c1 : b.val < 32
  · rw [dif_pos c1]
    refine (pay6_point v0 _ _).trans (congrArg scl (funext fun l => h0 _ b (rfl) l))
  rw [dif_neg c1]
  by_cases c2 : b.val - 32 < 32
  · rw [dif_pos c2]
    refine (pay6_point v1 _ _).trans (congrArg scl (funext fun l => h1 _ b (show b.val = 32 + (b.val - 32) by omega) l))
  rw [dif_neg c2]
  by_cases c3 : b.val - 32 - 32 < 32
  · rw [dif_pos c3]
    refine (pay6_point v2 _ _).trans (congrArg scl (funext fun l => h2 _ b (show b.val = 64 + (b.val - 32 - 32) by omega) l))
  rw [dif_neg c3]
  refine (pay6_point v3 _ _).trans (congrArg scl (funext fun l => h3 _ b (show b.val = 96 + (b.val - 32 - 32 - 32) by omega) l))

/-- The squared errors of 128 rows in four tiles. -/
theorem errs4_point (v0 v1 v2 v3 : Vec Ideal S32x2048 .f32) (R : Fin 128 → Fin 2048 → EReal)
    (h0 : ∀ (a : Fin 32) (b : Fin 128), b.val = a.val → ∀ l, v0 (ix2 a l) = R b l)
    (h1 : ∀ (a : Fin 32) (b : Fin 128), b.val = 32 + a.val → ∀ l, v1 (ix2 a l) = R b l)
    (h2 : ∀ (a : Fin 32) (b : Fin 128), b.val = 64 + a.val → ∀ l, v2 (ix2 a l) = R b l)
    (h3 : ∀ (a : Fin 32) (b : Fin 128), b.val = 96 + a.val → ∀ l, v3 (ix2 a l) = R b l)
    (a : Fin 1) (b : Fin 128) : errs4 v0 v1 v2 v3 (ix2 a b) = sqerr (R b) := by
  unfold errs4
  pointwise []
  by_cases c1 : b.val < 32
  · simp only [dif_pos c1]
    refine (sum_fold v0 _).trans (congrArg sqerr (funext fun l => h0 _ b (rfl) l))
  simp only [dif_neg c1]
  by_cases c2 : b.val - 32 < 32
  · simp only [dif_pos c2]
    refine (sum_fold v1 _).trans (congrArg sqerr (funext fun l => h1 _ b (show b.val = 32 + (b.val - 32) by omega) l))
  simp only [dif_neg c2]
  by_cases c3 : b.val - 32 - 32 < 32
  · simp only [dif_pos c3]
    refine (sum_fold v2 _).trans (congrArg sqerr (funext fun l => h2 _ b (show b.val = 64 + (b.val - 32 - 32) by omega) l))
  simp only [dif_neg c3]
  refine (sum_fold v3 _).trans (congrArg sqerr (funext fun l => h3 _ b (show b.val = 96 + (b.val - 32 - 32 - 32) by omega) l))

/-- The row of scales holds the scale of each row of the half. -/
theorem srow_point (X : Vec Ideal S512x2048 .f32) (a : Fin 1) (b : Fin 512) :
    srow X (ix2 a b) = scl (row512 X b) := by
  unfold srow
  pointwise [k0_pay139, k0_pay11]
  have g : ∀ (n : ℕ) (hn : n + 128 ≤ 512) (i : Fin 128), n + i.val < 512 := fun n hn i => by omega
  by_cases c1 : b.val < 128
  · rw [dif_pos c1, scales4_point _ _ _ _ (fun i => row512 X ⟨0 + i.val, g 0 (by decide) i⟩)]
    · exact congrArg (fun i => scl (row512 X i)) (Fin.ext (by dsimp only; omega))
    all_goals exact fun a b hb l => tile_point _ _ X a _ (by dsimp only; omega) l
  rw [dif_neg c1]
  by_cases c2 : b.val - 128 < 128
  · rw [dif_pos c2, scales4_point _ _ _ _ (fun i => row512 X ⟨128 + i.val, g 128 (by decide) i⟩)]
    · exact congrArg (fun i => scl (row512 X i)) (Fin.ext (by dsimp only; omega))
    all_goals exact fun a b hb l => tile_point _ _ X a _ (by dsimp only; omega) l
  rw [dif_neg c2]
  by_cases c3 : b.val - 128 - 128 < 128
  · rw [dif_pos c3, scales4_point _ _ _ _ (fun i => row512 X ⟨256 + i.val, g 256 (by decide) i⟩)]
    · exact congrArg (fun i => scl (row512 X i)) (Fin.ext (by dsimp only; omega))
    all_goals exact fun a b hb l => tile_point _ _ X a _ (by dsimp only; omega) l
  rw [dif_neg c3]
  by_cases c4 : b.val - 128 - 128 - 128 < 32
  · rw [dif_pos c4, pay6_point]
    exact congrArg scl (funext fun l => tile_point _ _ X _ b (by dsimp only; omega) l)
  rw [dif_neg c4]
  by_cases c5 : b.val - 128 - 128 - 128 - 32 < 32
  · rw [dif_pos c5, pay6_point]
    exact congrArg scl (funext fun l => tile_point _ _ X _ b (by dsimp only; omega) l)
  rw [dif_neg c5]
  by_cases c6 : b.val - 128 - 128 - 128 - 32 - 32 < 32
  · rw [dif_pos c6, pay6_point]
    exact congrArg scl (funext fun l => tile_point _ _ X _ b (by dsimp only; omega) l)
  rw [dif_neg c6, pay6_point]
  exact congrArg scl (funext fun l => tile_point _ _ X _ b (by dsimp only; omega) l)

/-- The row of squared errors holds the squared error of each row of the half. -/
theorem erow_point (X : Vec Ideal S512x2048 .f32) (a : Fin 1) (b : Fin 512) :
    erow X (ix2 a b) = sqerr (row512 X b) := by
  unfold erow
  pointwise []
  have g : ∀ (n : ℕ) (hn : n + 128 ≤ 512) (i : Fin 128), n + i.val < 512 := fun n hn i => by omega
  by_cases c1 : b.val < 128
  · rw [dif_pos c1, errs4_point _ _ _ _ (fun i => row512 X ⟨0 + i.val, g 0 (by decide) i⟩)]
    · exact congrArg (fun i => sqerr (row512 X i)) (Fin.ext (by dsimp only; omega))
    all_goals exact fun a b hb l => tile_point _ _ X a _ (by dsimp only; omega) l
  rw [dif_neg c1]
  by_cases c2 : b.val - 128 < 128
  · rw [dif_pos c2, errs4_point _ _ _ _ (fun i => row512 X ⟨128 + i.val, g 128 (by decide) i⟩)]
    · exact congrArg (fun i => sqerr (row512 X i)) (Fin.ext (by dsimp only; omega))
    all_goals exact fun a b hb l => tile_point _ _ X a _ (by dsimp only; omega) l
  rw [dif_neg c2]
  by_cases c3 : b.val - 128 - 128 < 128
  · rw [dif_pos c3, errs4_point _ _ _ _ (fun i => row512 X ⟨256 + i.val, g 256 (by decide) i⟩)]
    · exact congrArg (fun i => sqerr (row512 X i)) (Fin.ext (by dsimp only; omega))
    all_goals exact fun a b hb l => tile_point _ _ X a _ (by dsimp only; omega) l
  rw [dif_neg c3]
  rw [errs4_point _ _ _ _ (fun i => row512 X ⟨384 + i.val, g 384 (by decide) i⟩)]
  · exact congrArg (fun i => sqerr (row512 X i)) (Fin.ext (by dsimp only; omega))
  all_goals exact fun a b hb l => tile_point _ _ X a _ (by dsimp only; omega) l

/-- The codes of a half as one tensor. -/
def codes (X : Vec Ideal S512x2048 .f32) : Vec Ideal S512x2048 .bf16 := fun y => cod (row512 X (y 0)) (y 1)

/-- A store of a tile of codes puts a tile of that tensor. -/
theorem code_piece (n : ℕ) (h : ∀ a, (![n, 0] : Fin 2 → ℕ) a + (![32, 2048] : Fin 2 → ℕ) a ≤ S512x2048.size a)
    (X : Vec Ideal S512x2048 .f32) (x : S32x2048.Idx) :
    k0_pay9 (View.ld X (Rect.unit ![n, 0] ![32, 2048] h)) x
      = codes X ((Rect.unit (s := S512x2048) ![n, 0] ![32, 2048] h).emb x) := by
  obtain ⟨a, l, rfl⟩ : ∃ (a : Fin 32) (l : Fin 2048), x = ix2 a l := ⟨x 0, x 1, eq_ix2 x⟩
  have hn : n + 32 ≤ 512 := h 0
  have e : (Rect.unit (s := S512x2048) ![n, 0] ![32, 2048] h).emb (ix2 a l)
      = (ix2 (⟨n + a.val, by omega⟩ : Fin 512) l : S512x2048.Idx) := by
    funext k
    refine Fin.ext ?_
    match k with
    | ⟨0, _⟩ => show n + 1 * a.val = n + a.val; omega
    | ⟨1, _⟩ => show 0 + 1 * l.val = l.val; omega
  rw [e]
  refine (pay9_point _ a l).trans ?_
  show cod _ l = cod (row512 X ⟨n + a.val, _⟩) l
  exact congrArg (fun v => cod v l) (funext fun k => tile_point n h X a _ rfl k)

/-- Each of the 16 stores of codes puts a tile of that tensor. -/
theorem qp_pieces (X : Vec Ideal S512x2048 .f32) :
    ∀ p ∈ qp X, ∀ x : p.1.shape.Idx, p.2 x = codes X (p.1.emb x) := by
  intro p hp
  simp only [qp, List.mem_cons, List.not_mem_nil, or_false] at hp
  rcases hp with rfl | rfl | rfl | rfl | rfl | rfl | rfl | rfl | rfl | rfl | rfl | rfl | rfl | rfl | rfl | rfl
  all_goals exact fun x => code_piece _ _ X x

/-- The 16 stores of codes cover the half. -/
theorem qp_cover (X : Vec Ideal S512x2048 .f32) (y : S512x2048.Idx) : ∃ p ∈ qp X, y ∈ p.1.set :=
  View.cover_of_tiled _ ![32, 2048] (by rfl) y

/-- What is read back after the first half's stores. -/
theorem canon_qpA (X : Vec Ideal S512x2048 .f32) (y : S512x2048.Idx) : View.canon (qpA X) y = codes X y := by
  rw [qpA_eq]
  exact View.canon_apply_of_pieces (codes X) (qp X) (qp_pieces X) y (qp_cover X y)

/-- What is read back after the second half's stores: the older ones are all overwritten. -/
theorem canon_qpB (X0 X1 : Vec Ideal S512x2048 .f32) (y : S512x2048.Idx) : View.canon (qpB X0 X1) y = codes X1 y := by
  rw [qpB_eq]
  exact View.canon_append_of_pieces (codes X1) (qp X0) (qp X1) (qp_pieces X1) y (qp_cover X1 y)

/-- The row `j` of the two halves of a step. -/
def rows2 (X0 X1 : Vec Ideal S512x2048 .f32) (j : Fin 1024) : Fin 2048 → EReal :=
  if h : j.val < 512 then row512 X0 ⟨j.val, h⟩ else row512 X1 ⟨j.val - 512, by omega⟩

/-- The first 512 rows of a step are the first half's. -/
theorem rows2_lo (X0 X1 : Vec Ideal S512x2048 .f32) (j : Fin 1024) (i : Fin 512) (h : j.val = i.val) :
    rows2 X0 X1 j = row512 X0 i := by
  rw [rows2, dif_pos (by omega)]; exact congrArg (row512 X0) (Fin.ext h)

/-- The last 512 rows of a step are the second half's. -/
theorem rows2_hi (X0 X1 : Vec Ideal S512x2048 .f32) (j : Fin 1024) (i : Fin 512) (h : j.val = 512 + i.val) :
    rows2 X0 X1 j = row512 X1 i := by
  rw [rows2, dif_neg (by omega)]; exact congrArg (row512 X1) (Fin.ext (by dsimp only; omega))

/-- The integer codes of the two halves of a step as one tensor. -/
def icodes (X0 X1 : Vec Ideal S512x2048 .f32) : Vec Ideal S1024x2048 .i8 :=
  fun y => FloatOps.fptosi (F := Ideal) (φ := .f32) 8 (cod (rows2 X0 X1 (y 0)) (y 1))

/-- A store of a tile of integer codes of half `c` puts a tile of that tensor. -/
theorem icode_piece (n o : ℕ) (h : ∀ a, (![n, 0] : Fin 2 → ℕ) a + (![32, 2048] : Fin 2 → ℕ) a ≤ S512x2048.size a)
    (h' : ∀ a, (![o, 0] : Fin 2 → ℕ) a + (![32, 2048] : Fin 2 → ℕ) a ≤ S1024x2048.size a)
    (X0 X1 X : Vec Ideal S512x2048 .f32)
    (hX : ∀ (j : Fin 1024) (i : Fin 512), i.val + o = j.val + n → n ≤ i.val → o ≤ j.val → i.val < n + 32 → rows2 X0 X1 j = row512 X i)
    (x : S32x2048.Idx) :
    k0_pay8 (View.ld X (Rect.unit ![n, 0] ![32, 2048] h)) x
      = icodes X0 X1 ((Rect.unit (s := S1024x2048) ![o, 0] ![32, 2048] h').emb x) := by
  obtain ⟨a, l, rfl⟩ : ∃ (a : Fin 32) (l : Fin 2048), x = ix2 a l := ⟨x 0, x 1, eq_ix2 x⟩
  have hn : n + 32 ≤ 512 := h 0
  have ho : o + 32 ≤ 1024 := h' 0
  have e : (Rect.unit (s := S1024x2048) ![o, 0] ![32, 2048] h').emb (ix2 a l)
      = (ix2 (⟨o + a.val, by omega⟩ : Fin 1024) l : S1024x2048.Idx) := by
    funext k
    refine Fin.ext ?_
    match k with
    | ⟨0, _⟩ => show o + 1 * a.val = o + a.val; omega
    | ⟨1, _⟩ => show 0 + 1 * l.val = l.val; omega
  rw [e]
  refine (pay8_point _ a l).trans ?_
  show FloatOps.fptosi (F := Ideal) (φ := .f32) 8 (cod _ l)
    = FloatOps.fptosi (F := Ideal) (φ := .f32) 8 (cod (rows2 X0 X1 ⟨o + a.val, _⟩) l)
  rw [hX ⟨o + a.val, by omega⟩ ⟨n + a.val, by omega⟩ (by dsimp only; omega) (by dsimp only; omega) (by dsimp only; omega)
    (by dsimp only; omega)]
  exact congrArg (fun v => FloatOps.fptosi (F := Ideal) (φ := .f32) 8 (cod v l))
    (funext fun k => tile_point n h X a _ rfl k)

/-- A store of a tile of the second half's integer codes. -/
theorem icode_hi (n o : ℕ) (h : ∀ a, (![n, 0] : Fin 2 → ℕ) a + (![32, 2048] : Fin 2 → ℕ) a ≤ S512x2048.size a)
    (h' : ∀ a, (![o, 0] : Fin 2 → ℕ) a + (![32, 2048] : Fin 2 → ℕ) a ≤ S1024x2048.size a) (ho : o = n + 512)
    (X0 X1 : Vec Ideal S512x2048 .f32) (x : S32x2048.Idx) :
    k0_pay8 (View.ld X1 (Rect.unit ![n, 0] ![32, 2048] h)) x
      = icodes X0 X1 ((Rect.unit (s := S1024x2048) ![o, 0] ![32, 2048] h').emb x) :=
  icode_piece n o h h' X0 X1 X1 (fun j i e _ _ _ => rows2_hi X0 X1 j i (by omega)) x

/-- A store of a tile of the first half's integer codes. -/
theorem icode_lo (n o : ℕ) (h : ∀ a, (![n, 0] : Fin 2 → ℕ) a + (![32, 2048] : Fin 2 → ℕ) a ≤ S512x2048.size a)
    (h' : ∀ a, (![o, 0] : Fin 2 → ℕ) a + (![32, 2048] : Fin 2 → ℕ) a ≤ S1024x2048.size a) (ho : o = n)
    (X0 X1 : Vec Ideal S512x2048 .f32) (x : S32x2048.Idx) :
    k0_pay8 (View.ld X0 (Rect.unit ![n, 0] ![32, 2048] h)) x
      = icodes X0 X1 ((Rect.unit (s := S1024x2048) ![o, 0] ![32, 2048] h').emb x) :=
  icode_piece n o h h' X0 X1 X0 (fun j i e _ _ _ => rows2_lo X0 X1 j i (by omega)) x

/-- The block of integer codes a step leaves. -/
theorem canon_wcp (X0 X1 : Vec Ideal S512x2048 .f32) (y : S1024x2048.Idx) : View.canon (wcp X0 X1) y = icodes X0 X1 y := by
  rw [wcp_eq]
  refine View.canon_apply_of_pieces (icodes X0 X1) (wcp0 X0 X1) ?_ y (View.cover_of_tiled _ ![32, 2048] (by rfl) y)
  intro p hp
  simp only [wcp0, List.mem_cons, List.not_mem_nil, or_false] at hp
  rcases hp with rfl | rfl | rfl | rfl | rfl | rfl | rfl | rfl | rfl | rfl | rfl | rfl | rfl | rfl | rfl | rfl
    | rfl | rfl | rfl | rfl | rfl | rfl | rfl | rfl | rfl | rfl | rfl | rfl | rfl | rfl | rfl | rfl
  · exact fun x => icode_hi 480 992 inb_S512x2048_S32x2048_480_0 inb_S1024x2048_S32x2048_992_0 rfl X0 X1 x
  · exact fun x => icode_hi 448 960 inb_S512x2048_S32x2048_448_0 inb_S1024x2048_S32x2048_960_0 rfl X0 X1 x
  · exact fun x => icode_hi 416 928 inb_S512x2048_S32x2048_416_0 inb_S1024x2048_S32x2048_928_0 rfl X0 X1 x
  · exact fun x => icode_hi 384 896 inb_S512x2048_S32x2048_384_0 inb_S1024x2048_S32x2048_896_0 rfl X0 X1 x
  · exact fun x => icode_hi 352 864 inb_S512x2048_S32x2048_352_0 inb_S1024x2048_S32x2048_864_0 rfl X0 X1 x
  · exact fun x => icode_hi 320 832 inb_S512x2048_S32x2048_320_0 inb_S1024x2048_S32x2048_832_0 rfl X0 X1 x
  · exact fun x => icode_hi 288 800 inb_S512x2048_S32x2048_288_0 inb_S1024x2048_S32x2048_800_0 rfl X0 X1 x
  · exact fun x => icode_hi 256 768 inb_S512x2048_S32x2048_256_0 inb_S1024x2048_S32x2048_768_0 rfl X0 X1 x
  · exact fun x => icode_hi 224 736 inb_S512x2048_S32x2048_224_0 inb_S1024x2048_S32x2048_736_0 rfl X0 X1 x
  · exact fun x => icode_hi 192 704 inb_S512x2048_S32x2048_192_0 inb_S1024x2048_S32x2048_704_0 rfl X0 X1 x
  · exact fun x => icode_hi 160 672 inb_S512x2048_S32x2048_160_0 inb_S1024x2048_S32x2048_672_0 rfl X0 X1 x
  · exact fun x => icode_hi 128 640 inb_S512x2048_S32x2048_128_0 inb_S1024x2048_S32x2048_640_0 rfl X0 X1 x
  · exact fun x => icode_hi 96 608 inb_S512x2048_S32x2048_96_0 inb_S1024x2048_S32x2048_608_0 rfl X0 X1 x
  · exact fun x => icode_hi 64 576 inb_S512x2048_S32x2048_64_0 inb_S1024x2048_S32x2048_576_0 rfl X0 X1 x
  · exact fun x => icode_hi 32 544 inb_S512x2048_S32x2048_32_0 inb_S1024x2048_S32x2048_544_0 rfl X0 X1 x
  · exact fun x => icode_hi 0 512 inb_S512x2048_S32x2048_0_0 inb_S1024x2048_S32x2048_512_0 rfl X0 X1 x
  · exact fun x => icode_lo 480 480 inb_S512x2048_S32x2048_480_0 inb_S1024x2048_S32x2048_480_0 rfl X0 X1 x
  · exact fun x => icode_lo 448 448 inb_S512x2048_S32x2048_448_0 inb_S1024x2048_S32x2048_448_0 rfl X0 X1 x
  · exact fun x => icode_lo 416 416 inb_S512x2048_S32x2048_416_0 inb_S1024x2048_S32x2048_416_0 rfl X0 X1 x
  · exact fun x => icode_lo 384 384 inb_S512x2048_S32x2048_384_0 inb_S1024x2048_S32x2048_384_0 rfl X0 X1 x
  · exact fun x => icode_lo 352 352 inb_S512x2048_S32x2048_352_0 inb_S1024x2048_S32x2048_352_0 rfl X0 X1 x
  · exact fun x => icode_lo 320 320 inb_S512x2048_S32x2048_320_0 inb_S1024x2048_S32x2048_320_0 rfl X0 X1 x
  · exact fun x => icode_lo 288 288 inb_S512x2048_S32x2048_288_0 inb_S1024x2048_S32x2048_288_0 rfl X0 X1 x
  · exact fun x => icode_lo 256 256 inb_S512x2048_S32x2048_256_0 inb_S1024x2048_S32x2048_256_0 rfl X0 X1 x
  · exact fun x => icode_lo 224 224 inb_S512x2048_S32x2048_224_0 inb_S1024x2048_S32x2048_224_0 rfl X0 X1 x
  · exact fun x => icode_lo 192 192 inb_S512x2048_S32x2048_192_0 inb_S1024x2048_S32x2048_192_0 rfl X0 X1 x
  · exact fun x => icode_lo 160 160 inb_S512x2048_S32x2048_160_0 inb_S1024x2048_S32x2048_160_0 rfl X0 X1 x
  · exact fun x => icode_lo 128 128 inb_S512x2048_S32x2048_128_0 inb_S1024x2048_S32x2048_128_0 rfl X0 X1 x
  · exact fun x => icode_lo 96 96 inb_S512x2048_S32x2048_96_0 inb_S1024x2048_S32x2048_96_0 rfl X0 X1 x
  · exact fun x => icode_lo 64 64 inb_S512x2048_S32x2048_64_0 inb_S1024x2048_S32x2048_64_0 rfl X0 X1 x
  · exact fun x => icode_lo 32 32 inb_S512x2048_S32x2048_32_0 inb_S1024x2048_S32x2048_32_0 rfl X0 X1 x
  · exact fun x => icode_lo 0 0 inb_S512x2048_S32x2048_0_0 inb_S1024x2048_S32x2048_0_0 rfl X0 X1 x

end Cert.KernelIdeal.Hand

end
-- ==== Proof.Step.lean ====
module

public import proofs.«01_k».proof.Proof.Gen.KernelIdeal.Value
public import Idealize.ShloMosaic.Lib.Pipeline.ValueKit
public import Idealize.ShloMosaic.Lib.Pipeline.ReadBack
public import proofs.«01_k».proof.Proof.Half
/-
  One step of the grid, part 3: what a step leaves in each output block and in the two scratches it hands on, in each of the
  three cases of a step (the first, the last, any other).
-/

set_option maxRecDepth 16384

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat Cfg Window)

variable (m : (ℓ : Loc nD τ sig) → Buf (Elt Ideal) ℓ)

/-- The first 512 rows of a step's block of weights. -/
def wlo (W : Vec Ideal S1024x2048 .bf16) : Vec Ideal S512x2048 .bf16 :=
  View.ld W (Rect.unit ![0, 0] ![512, 2048] inb_S1024x2048_S512x2048_0_0)
/-- The last 512 rows of a step's block of weights. -/
def whi (W : Vec Ideal S1024x2048 .bf16) : Vec Ideal S512x2048 .bf16 :=
  View.ld W (Rect.unit ![512, 0] ![512, 2048] inb_S1024x2048_S512x2048_512_0)
/-- The first lane of the token scales. -/
def sx1 (S : Vec Ideal S256x128 .f32) : Vec Ideal S256x1 .f32 :=
  View.ld S (Rect.unit ![0, 0] ![256, 1] inb_S256x128_S256x1_0_0)
/-- The targets of the first 512 rows. -/
def ylo (Y : Vec Ideal S1x256x1024 .bf16) : Vec Ideal S1x256x512 .bf16 :=
  View.ld Y (Rect.unit ![0, 0, 0] ![1, 256, 512] inb_S1x256x1024_S1x256x512_0_0_0)
/-- The targets of the last 512 rows. -/
def yhi (Y : Vec Ideal S1x256x1024 .bf16) : Vec Ideal S1x256x512 .bf16 :=
  View.ld Y (Rect.unit ![0, 0, 512] ![1, 256, 512] inb_S1x256x1024_S1x256x512_0_0_512)

/-- The first half's rotated weights at the first step. -/
def xFirst (c : Dev nD) (t : Fin cfg0.N) : Vec Ideal S512x2048 .f32 := k0_pay1 (wlo (iblk m c 0 t)) (iblk m c 3 t)
/-- The first half's rotated weights at a later step: what the step before handed on. -/
def xPrev (c : Dev nD) (t : Fin cfg0.N) : Vec Ideal S512x2048 .f32 :=
  (outsAt0 m c (t.val - 1) (Nat.lt_of_le_of_lt (Nat.sub_le _ _) t.isLt)).2.2.2.2.2.2.2.1
/-- The second half's rotated weights. -/
def xHi (c : Dev nD) (t : Fin cfg0.N) : Vec Ideal S512x2048 .f32 := k0_pay5 (whi (iblk m c 0 t)) (iblk m c 3 t)

section Forms
variable (X0 X1 : Vec Ideal S512x2048 .f32) (SX : Vec Ideal S256x1 .f32) (QX : Vec Ideal S256x2048 .bf16)
  (QT : Vec Ideal S2048x256 .bf16) (Y0 Y1 : Vec Ideal S1x256x512 .bf16) (W0 W1 : Vec Ideal S512x2048 .bf16)

/-- The block of scales. -/
def wsF : Vec Ideal S1x1x1024 .f32 := View.canon
  [⟨Rect.unit ![0, 0, 512] ![1, 1, 512] inb_S1x1x1024_S1x1x512_0_0_512, wsB X1⟩,
   ⟨Rect.unit ![0, 0, 0] ![1, 1, 512] inb_S1x1x1024_S1x1x512_0_0_0, wsA X0⟩]
/-- The block of squared errors. -/
def errF : Vec Ideal S1x1x1024 .f32 := View.canon
  [⟨Rect.unit ![0, 0, 512] ![1, 1, 512] inb_S1x1x1024_S1x1x512_0_0_512, errB X1⟩,
   ⟨Rect.unit ![0, 0, 0] ![1, 1, 512] inb_S1x1x1024_S1x1x512_0_0_0, errA X0⟩]
/-- The block of integer codes. -/
def wcF : Vec Ideal S1024x2048 .i8 := View.canon (wcp X0 X1)
/-- The block of residuals. -/
def eF : Vec Ideal S1x256x1024 .f32 := View.canon
  [⟨Rect.unit ![0, 0, 512] ![1, 256, 512] inb_S1x256x1024_S1x256x512_0_0_512, esB X1 SX QX (View.canon (qpB X0 X1)) Y1⟩,
   ⟨Rect.unit ![0, 0, 0] ![1, 256, 512] inb_S1x256x1024_S1x256x512_0_0_0,
     k0_pay144 (sA X0) (k0_pay142 SX) QX (View.canon (qpA X0)) Y0⟩]
/-- The running sum of the residuals against the codes, from `prev`. -/
def psF (prev : Vec Ideal S256x2048 .f32) : Vec Ideal S256x2048 .f32 :=
  k0_pay282 (sB X1) (eB X1 SX QX (View.canon (qpB X0 X1)) Y1)
    (k0_pay149 (k0_pay146 (sA X0) (k0_pay142 SX) QX (View.canon (qpA X0)) Y0) (k0_pay148 prev) (View.canon (qpA X0)))
    (View.canon (qpB X0 X1))
/-- The running sum of the gradient, from `prev`. -/
def gtF (prev : Vec Ideal S2048x2048 .f32) : Vec Ideal S2048x2048 .f32 :=
  k0_pay285 (k0_pay284 (k0_pay151 prev
      (k0_pay150 (k0_pay147 (sA X0) (k0_pay142 SX) QX (View.canon (qpA X0)) Y0) QT) W0))
    (k0_pay283 (k0_pay278 SX) (eB X1 SX QX (View.canon (qpB X0 X1)) Y1) QT) W1
/-- The running sum of the squared residuals, from `prev`. -/
def laF (prev : Vec Ideal S8x128 .f32) : Vec Ideal S8x128 .f32 :=
  k0_pay281 (eB X1 SX QX (View.canon (qpB X0 X1)) Y1)
    (k0_pay145 (sA X0) (k0_pay142 SX) QX (View.canon (qpA X0)) Y0 prev)
end Forms

/-- A load of a scratch that was stored whole. -/
theorem readCov_whole {sig : RefSig} {κ : Kind} {sp : Space} (v : View sig κ sp S512x2048 .f32)
    (h : ∀ a, (![0, 0] : Fin 2 → ℕ) a + (![512, 2048] : Fin 2 → ℕ) a ≤ S512x2048.size a)
    (w : Vec Ideal S512x2048 .f32) (r : Rect S512x2048) :
    v.readCov (Val := Elt Ideal) [⟨Rect.unit ![0, 0] ![512, 2048] h, w⟩] r.toLoadRect = View.ld w r := by
  rw [View.readCov_eq_canon']
  have e := View.canon_unit_zero (Val := Elt Ideal) (S := S512x2048) (e := .f32) (off := ![0, 0]) (by funext a; fin_cases a <;> rfl) h w
  rw [e]

/-- A whole load of a scratch that was stored in pieces. -/
theorem readCov_all {sig : RefSig} {κ : Kind} {sp : Space} (v : View sig κ sp S512x2048 .bf16)
    (h : ∀ a, (![0, 0] : Fin 2 → ℕ) a + (![512, 2048] : Fin 2 → ℕ) a ≤ S512x2048.size a)
    (L : List (View.Piece (Elt Ideal) S512x2048 .bf16)) :
    v.readCov (Val := Elt Ideal) L (Rect.unit ![0, 0] ![512, 2048] h).toLoadRect = View.canon L := by
  rw [View.readCov_eq_canon']
  exact View.ld_unit_zero (Val := Elt Ideal) (S := S512x2048) (e := .bf16) (off := ![0, 0]) (by funext a; fin_cases a <;> rfl) h _

set_option maxHeartbeats 2000000 in
/-- The block of integer codes after the first step. -/
theorem wc_A (c : Dev nD) (t : Fin cfg0.N) (h : t.val % 24 = 0) (h' : ¬ t.val % 24 = 23) (y) :
    (outsAt0 m c t.val t.isLt).1 y
      = wcF (xFirst m c t) (xHi m c t) y := by
  rw [outsAt0_A m c t h h']
  frame_out
  simp only [readCov_whole, readCov_all, read_unread_whole]
  rfl

set_option maxHeartbeats 2000000 in
/-- The block of scales after the first step. -/
theorem ws_A (c : Dev nD) (t : Fin cfg0.N) (h : t.val % 24 = 0) (h' : ¬ t.val % 24 = 23) (y) :
    (outsAt0 m c t.val t.isLt).2.1 y
      = wsF (xFirst m c t) (xHi m c t) y := by
  rw [outsAt0_A m c t h h']
  frame_out
  simp only [readCov_whole, readCov_all, read_unread_whole]
  rfl

set_option maxHeartbeats 2000000 in
/-- The block of squared errors after the first step. -/
theorem err_A (c : Dev nD) (t : Fin cfg0.N) (h : t.val % 24 = 0) (h' : ¬ t.val % 24 = 23) (y) :
    (outsAt0 m c t.val t.isLt).2.2.1 y
      = errF (xFirst m c t) (xHi m c t) y := by
  rw [outsAt0_A m c t h h']
  frame_out
  simp only [readCov_whole, readCov_all, read_unread_whole]
  rfl

set_option maxHeartbeats 2000000 in
/-- The block of residuals after the first step. -/
theorem e_A (c : Dev nD) (t : Fin cfg0.N) (h : t.val % 24 = 0) (h' : ¬ t.val % 24 = 23) (y) :
    (outsAt0 m c t.val t.isLt).2.2.2.1 y
      = eF (xFirst m c t) (xHi m c t) (sx1 (iblk m c 6 t)) (iblk m c 4 t) (ylo (iblk m c 2 t)) (yhi (iblk m c 2 t)) y := by
  rw [outsAt0_A m c t h h']
  frame_out
  simp only [readCov_whole, readCov_all, read_unread_whole]
  rfl

set_option maxHeartbeats 2000000 in
/-- The gradient sum after the first step. -/
theorem gt_A (c : Dev nD) (t : Fin cfg0.N) (h : t.val % 24 = 0) (h' : ¬ t.val % 24 = 23) (y) :
    (outsAt0 m c t.val t.isLt).2.2.2.2.1 y
      = gtF (xFirst m c t) (xHi m c t) (sx1 (iblk m c 6 t)) (iblk m c 4 t) (iblk m c 5 t) (ylo (iblk m c 2 t)) (yhi (iblk m c 2 t)) (wlo (iblk m c 0 t)) (whi (iblk m c 0 t)) (k0_pay2 (F := Ideal)) y := by
  rw [outsAt0_A m c t h h']
  frame_out
  simp only [readCov_whole, readCov_all, read_unread_whole]
  rfl

set_option maxHeartbeats 2000000 in
/-- The code-side sum after the first step. -/
theorem ps_A (c : Dev nD) (t : Fin cfg0.N) (h : t.val % 24 = 0) (h' : ¬ t.val % 24 = 23) (y) :
    (outsAt0 m c t.val t.isLt).2.2.2.2.2.1 y
      = psF (xFirst m c t) (xHi m c t) (sx1 (iblk m c 6 t)) (iblk m c 4 t) (ylo (iblk m c 2 t)) (yhi (iblk m c 2 t)) (k0_pay3 (F := Ideal)) y := by
  rw [outsAt0_A m c t h h']
  frame_out
  simp only [readCov_whole, readCov_all, read_unread_whole]
  rfl

set_option maxHeartbeats 2000000 in
/-- The rotated weights handed on after the first step. -/
theorem sa_A (c : Dev nD) (t : Fin cfg0.N) (h : t.val % 24 = 0) (h' : ¬ t.val % 24 = 23) (y) :
    (outsAt0 m c t.val t.isLt).2.2.2.2.2.2.2.1 y
      = k0_pay152 (iblk m c 1 t) (iblk m c 3 t) y := by
  rw [outsAt0_A m c t h h']
  frame_out

set_option maxHeartbeats 2000000 in
/-- The loss sum after the first step. -/
theorem la_A (c : Dev nD) (t : Fin cfg0.N) (h : t.val % 24 = 0) (h' : ¬ t.val % 24 = 23) (y) :
    (outsAt0 m c t.val t.isLt).2.2.2.2.2.2.2.2 y
      = laF (xFirst m c t) (xHi m c t) (sx1 (iblk m c 6 t)) (iblk m c 4 t) (ylo (iblk m c 2 t)) (yhi (iblk m c 2 t)) (k0_pay4 (F := Ideal)) y := by
  rw [outsAt0_A m c t h h']
  frame_out
  simp only [readCov_whole, readCov_all, read_unread_whole]
  rfl

set_option maxHeartbeats 2000000 in
/-- The block of integer codes after the middle step. -/
theorem wc_B (c : Dev nD) (t : Fin cfg0.N) (h : ¬ t.val % 24 = 0) (h' : ¬ t.val % 24 = 23) (y) :
    (outsAt0 m c t.val t.isLt).1 y
      = wcF (xPrev m c t) (xHi m c t) y := by
  rw [outsAt0_B m c t h h']
  frame_out
  simp only [readCov_whole, readCov_all, read_unread_whole]
  rfl

set_option maxHeartbeats 2000000 in
/-- The block of scales after the middle step. -/
theorem ws_B (c : Dev nD) (t : Fin cfg0.N) (h : ¬ t.val % 24 = 0) (h' : ¬ t.val % 24 = 23) (y) :
    (outsAt0 m c t.val t.isLt).2.1 y
      = wsF (xPrev m c t) (xHi m c t) y := by
  rw [outsAt0_B m c t h h']
  frame_out
  simp only [readCov_whole, readCov_all, read_unread_whole]
  rfl

set_option maxHeartbeats 2000000 in
/-- The block of squared errors after the middle step. -/
theorem err_B (c : Dev nD) (t : Fin cfg0.N) (h : ¬ t.val % 24 = 0) (h' : ¬ t.val % 24 = 23) (y) :
    (outsAt0 m c t.val t.isLt).2.2.1 y
      = errF (xPrev m c t) (xHi m c t) y := by
  rw [outsAt0_B m c t h h']
  frame_out
  simp only [readCov_whole, readCov_all, read_unread_whole]
  rfl

set_option maxHeartbeats 2000000 in
/-- The block of residuals after the middle step. -/
theorem e_B (c : Dev nD) (t : Fin cfg0.N) (h : ¬ t.val % 24 = 0) (h' : ¬ t.val % 24 = 23) (y) :
    (outsAt0 m c t.val t.isLt).2.2.2.1 y
      = eF (xPrev m c t) (xHi m c t) (sx1 (iblk m c 6 t)) (iblk m c 4 t) (ylo (iblk m c 2 t)) (yhi (iblk m c 2 t)) y := by
  rw [outsAt0_B m c t h h']
  frame_out
  simp only [readCov_whole, readCov_all, read_unread_whole]
  rfl

set_option maxHeartbeats 2000000 in
/-- The gradient sum after the middle step. -/
theorem gt_B (c : Dev nD) (t : Fin cfg0.N) (h : ¬ t.val % 24 = 0) (h' : ¬ t.val % 24 = 23) (y) :
    (outsAt0 m c t.val t.isLt).2.2.2.2.1 y
      = gtF (xPrev m c t) (xHi m c t) (sx1 (iblk m c 6 t)) (iblk m c 4 t) (iblk m c 5 t) (ylo (iblk m c 2 t)) (yhi (iblk m c 2 t)) (wlo (iblk m c 0 t)) (whi (iblk m c 0 t)) (outsAt0 m c (t.val - 1) (Nat.lt_of_le_of_lt (Nat.sub_le _ _) t.isLt)).2.2.2.2.1 y := by
  rw [outsAt0_B m c t h h']
  frame_out
  simp only [readCov_whole, readCov_all, read_unread_whole]
  rfl

set_option maxHeartbeats 2000000 in
/-- The code-side sum after the middle step. -/
theorem ps_B (c : Dev nD) (t : Fin cfg0.N) (h : ¬ t.val % 24 = 0) (h' : ¬ t.val % 24 = 23) (y) :
    (outsAt0 m c t.val t.isLt).2.2.2.2.2.1 y
      = psF (xPrev m c t) (xHi m c t) (sx1 (iblk m c 6 t)) (iblk m c 4 t) (ylo (iblk m c 2 t)) (yhi (iblk m c 2 t)) (outsAt0 m c (t.val - 1) (Nat.lt_of_le_of_lt (Nat.sub_le _ _) t.isLt)).2.2.2.2.2.1 y := by
  rw [outsAt0_B m c t h h']
  frame_out
  simp only [readCov_whole, readCov_all, read_unread_whole]
  rfl

set_option maxHeartbeats 2000000 in
/-- The rotated weights handed on after the middle step. -/
theorem sa_B (c : Dev nD) (t : Fin cfg0.N) (h : ¬ t.val % 24 = 0) (h' : ¬ t.val % 24 = 23) (y) :
    (outsAt0 m c t.val t.isLt).2.2.2.2.2.2.2.1 y
      = k0_pay152 (iblk m c 1 t) (iblk m c 3 t) y := by
  rw [outsAt0_B m c t h h']
  frame_out

set_option maxHeartbeats 2000000 in
/-- The loss sum after the middle step. -/
theorem la_B (c : Dev nD) (t : Fin cfg0.N) (h : ¬ t.val % 24 = 0) (h' : ¬ t.val % 24 = 23) (y) :
    (outsAt0 m c t.val t.isLt).2.2.2.2.2.2.2.2 y
      = laF (xPrev m c t) (xHi m c t) (sx1 (iblk m c 6 t)) (iblk m c 4 t) (ylo (iblk m c 2 t)) (yhi (iblk m c 2 t)) (outsAt0 m c (t.val - 1) (Nat.lt_of_le_of_lt (Nat.sub_le _ _) t.isLt)).2.2.2.2.2.2.2.2 y := by
  rw [outsAt0_B m c t h h']
  frame_out
  simp only [readCov_whole, readCov_all, read_unread_whole]
  rfl

set_option maxHeartbeats 2000000 in
/-- The block of integer codes after the last step. -/
theorem wc_C (c : Dev nD) (t : Fin cfg0.N) (h : ¬ t.val % 24 = 0) (h' : t.val % 24 = 23) (y) :
    (outsAt0 m c t.val t.isLt).1 y
      = wcF (xPrev m c t) (xHi m c t) y := by
  rw [outsAt0_C m c t h h']
  frame_out
  simp only [readCov_whole, readCov_all, read_unread_whole]
  rfl

set_option maxHeartbeats 2000000 in
/-- The block of scales after the last step. -/
theorem ws_C (c : Dev nD) (t : Fin cfg0.N) (h : ¬ t.val % 24 = 0) (h' : t.val % 24 = 23) (y) :
    (outsAt0 m c t.val t.isLt).2.1 y
      = wsF (xPrev m c t) (xHi m c t) y := by
  rw [outsAt0_C m c t h h']
  frame_out
  simp only [readCov_whole, readCov_all, read_unread_whole]
  rfl

set_option maxHeartbeats 2000000 in
/-- The block of squared errors after the last step. -/
theorem err_C (c : Dev nD) (t : Fin cfg0.N) (h : ¬ t.val % 24 = 0) (h' : t.val % 24 = 23) (y) :
    (outsAt0 m c t.val t.isLt).2.2.1 y
      = errF (xPrev m c t) (xHi m c t) y := by
  rw [outsAt0_C m c t h h']
  frame_out
  simp only [readCov_whole, readCov_all, read_unread_whole]
  rfl

set_option maxHeartbeats 2000000 in
/-- The block of residuals after the last step. -/
theorem e_C (c : Dev nD) (t : Fin cfg0.N) (h : ¬ t.val % 24 = 0) (h' : t.val % 24 = 23) (y) :
    (outsAt0 m c t.val t.isLt).2.2.2.1 y
      = eF (xPrev m c t) (xHi m c t) (sx1 (iblk m c 6 t)) (iblk m c 4 t) (ylo (iblk m c 2 t)) (yhi (iblk m c 2 t)) y := by
  rw [outsAt0_C m c t h h']
  frame_out
  simp only [readCov_whole, readCov_all, read_unread_whole]
  rfl

set_option maxHeartbeats 2000000 in
/-- The gradient sum after the last step. -/
theorem gt_C (c : Dev nD) (t : Fin cfg0.N) (h : ¬ t.val % 24 = 0) (h' : t.val % 24 = 23) (y) :
    (outsAt0 m c t.val t.isLt).2.2.2.2.1 y
      = gtF (xPrev m c t) (xHi m c t) (sx1 (iblk m c 6 t)) (iblk m c 4 t) (iblk m c 5 t) (ylo (iblk m c 2 t)) (yhi (iblk m c 2 t)) (wlo (iblk m c 0 t)) (whi (iblk m c 0 t)) (outsAt0 m c (t.val - 1) (Nat.lt_of_le_of_lt (Nat.sub_le _ _) t.isLt)).2.2.2.2.1 y := by
  rw [outsAt0_C m c t h h']
  frame_out
  simp only [readCov_whole, readCov_all, read_unread_whole]
  rfl

set_option maxHeartbeats 2000000 in
/-- The code-side sum after the last step. -/
theorem ps_C (c : Dev nD) (t : Fin cfg0.N) (h : ¬ t.val % 24 = 0) (h' : t.val % 24 = 23) (y) :
    (outsAt0 m c t.val t.isLt).2.2.2.2.2.1 y
      = psF (xPrev m c t) (xHi m c t) (sx1 (iblk m c 6 t)) (iblk m c 4 t) (ylo (iblk m c 2 t)) (yhi (iblk m c 2 t)) (outsAt0 m c (t.val - 1) (Nat.lt_of_le_of_lt (Nat.sub_le _ _) t.isLt)).2.2.2.2.2.1 y := by
  rw [outsAt0_C m c t h h']
  frame_out
  simp only [readCov_whole, readCov_all, read_unread_whole]
  rfl

set_option maxHeartbeats 2000000 in
/-- The loss after the last step. -/
theorem loss_C (c : Dev nD) (t : Fin cfg0.N) (h : ¬ t.val % 24 = 0) (h' : t.val % 24 = 23) (y) :
    (outsAt0 m c t.val t.isLt).2.2.2.2.2.2.1 y
      = k0_pay286 (laF (xPrev m c t) (xHi m c t) (sx1 (iblk m c 6 t)) (iblk m c 4 t) (ylo (iblk m c 2 t)) (yhi (iblk m c 2 t)) (outsAt0 m c (t.val - 1) (Nat.lt_of_le_of_lt (Nat.sub_le _ _) t.isLt)).2.2.2.2.2.2.2.2) := by
  rw [outsAt0_C m c t h h']
  frame_out
  simp only [readCov_whole, readCov_all, read_unread_whole]
  rfl

set_option maxHeartbeats 2000000 in
/-- The rotated weights handed on after the last step. -/
theorem sa_C (c : Dev nD) (t : Fin cfg0.N) (h : ¬ t.val % 24 = 0) (h' : t.val % 24 = 23) (y) :
    (outsAt0 m c t.val t.isLt).2.2.2.2.2.2.2.1 y
      = k0_pay152 (iblk m c 1 t) (iblk m c 3 t) y := by
  rw [outsAt0_C m c t h h']
  frame_out

set_option maxHeartbeats 2000000 in
/-- The loss sum after the last step. -/
theorem la_C (c : Dev nD) (t : Fin cfg0.N) (h : ¬ t.val % 24 = 0) (h' : t.val % 24 = 23) (y) :
    (outsAt0 m c t.val t.isLt).2.2.2.2.2.2.2.2 y
      = laF (xPrev m c t) (xHi m c t) (sx1 (iblk m c 6 t)) (iblk m c 4 t) (ylo (iblk m c 2 t)) (yhi (iblk m c 2 t)) (outsAt0 m c (t.val - 1) (Nat.lt_of_le_of_lt (Nat.sub_le _ _) t.isLt)).2.2.2.2.2.2.2.2 y := by
  rw [outsAt0_C m c t h h']
  frame_out
  simp only [readCov_whole, readCov_all, read_unread_whole]
  rfl

end Cert.KernelIdeal.Hand

end
-- ==== Proof.Forms.lean ====
module

public import proofs.«01_k».proof.Proof.Gen.KernelIdeal.Value
public import Idealize.ShloMosaic.Lib.Pipeline.ValueKit
public import proofs.«01_k».proof.Proof.Step
/-
  One step of the grid, part 4: what a step leaves, read at an index in terms of the rows of rotated weights.
-/

set_option maxRecDepth 16384

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat Cfg Window)

open Cert.RowMath

/-- The first half's stored tiles read back as the codes, as whole tensors. -/
theorem canonA (X : Vec Ideal S512x2048 .f32) : View.canon (qpA X) = codes X := funext fun y => canon_qpA X y
/-- The second half's stored tiles read back as the codes, as whole tensors. -/
theorem canonB (X0 X1 : Vec Ideal S512x2048 .f32) : View.canon (qpB X0 X1) = codes X1 := funext fun y => canon_qpB X0 X1 y

/-- An element of the codes of a half. -/
theorem codes_point (X : Vec Ideal S512x2048 .f32) (i : Fin 512) (l : Fin 2048) : codes X (ix2 i l) = cod (row512 X i) l := rfl

/-- The residual of a token on a row of a half. -/
theorem resid_point (X : Vec Ideal S512x2048 .f32) (SX : Vec Ideal S256x1 .f32) (QX : Vec Ideal S256x2048 .bf16)
    (Y : Vec Ideal S1x256x512 .bf16) (b : Fin 256) (i : Fin 512) :
    k0_pay143 (srow X) (k0_pay142 SX) QX (codes X) Y (ix2 b i)
      = resid (row512 X i) (fun k => QX (ix2 b k)) (SX (ix2 b 0)) (Y (ix3 0 b i)) := by
  pointwise [k0_pay143, k0_pay142]
  simp only [srow_point, codes_point]
  rfl

/-- An element of the residual block of a half, with its leading axis. -/
theorem resid_point3 (X : Vec Ideal S512x2048 .f32) (SX : Vec Ideal S256x1 .f32) (QX : Vec Ideal S256x2048 .bf16)
    (Y : Vec Ideal S1x256x512 .bf16) (a : Fin 1) (b : Fin 256) (i : Fin 512) :
    k0_pay144 (srow X) (k0_pay142 SX) QX (codes X) Y (ix3 a b i)
      = resid (row512 X i) (fun k => QX (ix2 b k)) (SX (ix2 b 0)) (Y (ix3 0 b i)) := by
  pointwise [k0_pay144, k0_pay143, k0_pay142]
  simp only [srow_point, codes_point]
  rfl

/-- An element of the targets of the first half. -/
theorem ylo_point (Y : Vec Ideal S1x256x1024 .bf16) (b : Fin 256) (i : Fin 512) :
    ylo Y (ix3 0 b i) = Y (ix3 0 b ⟨i.val, by omega⟩) := by
  unfold ylo
  rw [View.ld_apply]
  refine congrArg Y (funext fun k => Fin.ext ?_)
  match k with
  | ⟨0, _⟩ => show 0 + 1 * 0 = 0; rfl
  | ⟨1, _⟩ => show 0 + 1 * b.val = b.val; omega
  | ⟨2, _⟩ => show 0 + 1 * i.val = i.val; omega

/-- An element of the targets of the second half. -/
theorem yhi_point (Y : Vec Ideal S1x256x1024 .bf16) (b : Fin 256) (i : Fin 512) :
    yhi Y (ix3 0 b i) = Y (ix3 0 b ⟨512 + i.val, by omega⟩) := by
  unfold yhi
  rw [View.ld_apply]
  refine congrArg Y (funext fun k => Fin.ext ?_)
  match k with
  | ⟨0, _⟩ => show 0 + 1 * 0 = 0; rfl
  | ⟨1, _⟩ => show 0 + 1 * b.val = b.val; omega
  | ⟨2, _⟩ => show 512 + 1 * i.val = 512 + i.val; omega

/-- An element of the weights of the first half. -/
theorem wlo_point (W : Vec Ideal S1024x2048 .bf16) (i : Fin 512) (k : Fin 2048) :
    wlo W (ix2 i k) = W (ix2 ⟨i.val, by omega⟩ k) := by
  unfold wlo
  rw [View.ld_apply]
  refine congrArg W (funext fun k => Fin.ext ?_)
  match k with
  | ⟨0, _⟩ => show 0 + 1 * i.val = i.val; omega
  | ⟨1, _⟩ => exact (Nat.zero_add _).trans (Nat.one_mul _)

/-- An element of the weights of the second half. -/
theorem whi_point (W : Vec Ideal S1024x2048 .bf16) (i : Fin 512) (k : Fin 2048) :
    whi W (ix2 i k) = W (ix2 ⟨512 + i.val, by omega⟩ k) := by
  unfold whi
  rw [View.ld_apply]
  refine congrArg W (funext fun k => Fin.ext ?_)
  match k with
  | ⟨0, _⟩ => show 512 + 1 * i.val = 512 + i.val; omega
  | ⟨1, _⟩ => exact (Nat.zero_add _).trans (Nat.one_mul _)

/-- The scale of a token is the first lane of its row of scales. -/
theorem sx1_point (S : Vec Ideal S256x128 .f32) (b : Fin 256) : sx1 S (ix2 b 0) = S (ix2 b 0) := by
  unfold sx1
  rw [View.ld_apply]
  refine congrArg S (funext fun k => Fin.ext ?_)
  match k with
  | ⟨0, _⟩ => show 0 + 1 * b.val = b.val; omega
  | ⟨1, _⟩ => rfl

section
variable (X0 X1 : Vec Ideal S512x2048 .f32) (SX : Vec Ideal S256x1 .f32) (QX : Vec Ideal S256x2048 .bf16)
  (QT : Vec Ideal S2048x256 .bf16) (Y : Vec Ideal S1x256x1024 .bf16) (W : Vec Ideal S1024x2048 .bf16)

/-- The residual of a token on a row of a step. -/
def rs (j : Fin 1024) (b : Fin 256) : EReal :=
  resid (rows2 X0 X1 j) (fun k => QX (ix2 b k)) (SX (ix2 b 0)) (Y (ix3 0 b j))

/-- The residual on a row of the first half. -/
theorem rs_lo (b : Fin 256) (i : Fin 512) :
    resid (row512 X0 i) (fun k => QX (ix2 b k)) (SX (ix2 b 0)) (ylo Y (ix3 0 b i)) = rs X0 X1 SX QX Y ⟨i.val, by omega⟩ b := by
  rw [rs, rows2_lo X0 X1 _ i rfl, ylo_point]

/-- The residual on a row of the second half. -/
theorem rs_hi (b : Fin 256) (i : Fin 512) :
    resid (row512 X1 i) (fun k => QX (ix2 b k)) (SX (ix2 b 0)) (yhi Y (ix3 0 b i)) = rs X0 X1 SX QX Y ⟨512 + i.val, by omega⟩ b := by
  rw [rs, rows2_hi X0 X1 _ i rfl, yhi_point]

/-- The block of integer codes of a step. -/
theorem wcF_point (y : S1024x2048.Idx) :
    wcF X0 X1 y = FloatOps.fptosi (F := Ideal) (φ := .f32) 8 (cod (rows2 X0 X1 (y 0)) (y 1)) := canon_wcp X0 X1 y

/-- The block of scales of a step. -/
theorem wsF_point (y : S1x1x1024.Idx) : wsF X0 X1 y = scl (rows2 X0 X1 (y 2)) := by
  unfold wsF
  refine View.canon_apply_of_pieces (Val := Elt Ideal) (S := S1x1x1024) (e := .f32) (fun y => scl (rows2 X0 X1 (y 2))) _ ?_ y
    ?_
  case refine_2 => exact View.cover_of_tiled _ ![1, 1, 512] (by rfl) y
  intro p hp
  simp only [List.mem_cons, List.not_mem_nil, or_false] at hp
  rcases hp with rfl | rfl
  · intro x
    obtain ⟨a, b, i, rfl⟩ : ∃ (a b : Fin 1) (i : Fin 512), x = ix3 a b i := ⟨x 0, x 1, x 2, eq_ix3 x⟩
    refine Eq.trans ?_ (congrArg scl (rows2_hi X0 X1 _ i (show 512 + 1 * i.val = 512 + i.val by omega)).symm)
    show wsB X1 (ix3 a b i) = _
    rw [wsB_eq]
    pointwise []
    rw [srow_point]
  · intro x
    obtain ⟨a, b, i, rfl⟩ : ∃ (a b : Fin 1) (i : Fin 512), x = ix3 a b i := ⟨x 0, x 1, x 2, eq_ix3 x⟩
    refine Eq.trans ?_ (congrArg scl (rows2_lo X0 X1 _ i (show 0 + 1 * i.val = i.val by omega)).symm)
    show wsA X0 (ix3 a b i) = _
    rw [wsA_eq]
    pointwise []
    rw [srow_point]

/-- The block of squared errors of a step. -/
theorem errF_point (y : S1x1x1024.Idx) : errF X0 X1 y = sqerr (rows2 X0 X1 (y 2)) := by
  unfold errF
  refine View.canon_apply_of_pieces (Val := Elt Ideal) (S := S1x1x1024) (e := .f32) (fun y => sqerr (rows2 X0 X1 (y 2))) _ ?_ y
    ?_
  case refine_2 => exact View.cover_of_tiled _ ![1, 1, 512] (by rfl) y
  intro p hp
  simp only [List.mem_cons, List.not_mem_nil, or_false] at hp
  rcases hp with rfl | rfl
  · intro x
    obtain ⟨a, b, i, rfl⟩ : ∃ (a b : Fin 1) (i : Fin 512), x = ix3 a b i := ⟨x 0, x 1, x 2, eq_ix3 x⟩
    refine Eq.trans ?_ (congrArg sqerr (rows2_hi X0 X1 _ i (show 512 + 1 * i.val = 512 + i.val by omega)).symm)
    show errB X1 (ix3 a b i) = _
    rw [errB_eq]
    pointwise []
    rw [erow_point]
  · intro x
    obtain ⟨a, b, i, rfl⟩ : ∃ (a b : Fin 1) (i : Fin 512), x = ix3 a b i := ⟨x 0, x 1, x 2, eq_ix3 x⟩
    refine Eq.trans ?_ (congrArg sqerr (rows2_lo X0 X1 _ i (show 0 + 1 * i.val = i.val by omega)).symm)
    show errA X0 (ix3 a b i) = _
    rw [errA_eq]
    pointwise []
    rw [erow_point]

/-- The block of residuals of a step. -/
theorem eF_point (y : S1x256x1024.Idx) : eF X0 X1 SX QX (ylo Y) (yhi Y) y = rs X0 X1 SX QX Y (y 2) (y 1) := by
  unfold eF
  rw [canonA, canonB]
  refine View.canon_apply_of_pieces (Val := Elt Ideal) (S := S1x256x1024) (e := .f32)
    (fun y => rs X0 X1 SX QX Y (y 2) (y 1)) _ ?_ y ?_
  case refine_2 => exact View.cover_of_tiled _ ![1, 256, 512] (by rfl) y
  intro p hp
  simp only [List.mem_cons, List.not_mem_nil, or_false] at hp
  rcases hp with rfl | rfl
  · intro x
    obtain ⟨a, b, i, rfl⟩ : ∃ (a : Fin 1) (b : Fin 256) (i : Fin 512), x = ix3 a b i := ⟨x 0, x 1, x 2, eq_ix3 x⟩
    show esB X1 SX QX (codes X1) (yhi Y) (ix3 a b i) = _
    rw [esB_eq, resid_point3, rs_hi X0]
    exact congrArg₂ (rs X0 X1 SX QX Y) (Fin.ext (show 512 + i.val = 512 + 1 * i.val by omega))
      (Fin.ext (show b.val = 0 + 1 * b.val by omega))
  · intro x
    obtain ⟨a, b, i, rfl⟩ : ∃ (a : Fin 1) (b : Fin 256) (i : Fin 512), x = ix3 a b i := ⟨x 0, x 1, x 2, eq_ix3 x⟩
    show k0_pay144 (sA X0) (k0_pay142 SX) QX (codes X0) (ylo Y) (ix3 a b i) = _
    rw [sA_eq, resid_point3, rs_lo X0 X1]
    exact congrArg₂ (rs X0 X1 SX QX Y) (Fin.ext (show i.val = 0 + 1 * i.val by omega))
      (Fin.ext (show b.val = 0 + 1 * b.val by omega))

/-- The code-side sum after a step. -/
theorem psF_point (prev : Vec Ideal S256x2048 .f32) (b : Fin 256) (l : Fin 2048) :
    psF X0 X1 SX QX (ylo Y) (yhi Y) prev (ix2 b l)
      = prev (ix2 b l) + ∑ j : Fin 1024, rs X0 X1 SX QX Y j b * scl (rows2 X0 X1 j) * cod (rows2 X0 X1 j) l := by
  unfold psF
  rw [canonA, canonB, sA_eq, sB_eq, eB_eq]
  pointwise [k0_pay282, k0_pay149, k0_pay148, k0_pay146]
  simp only [resid_point, srow_point, codes_point, rs_lo X0 X1, rs_hi X0 X1]
  rw [add_assoc, ← sum_halves]
  refine congrArg (fun z => prev (ix2 b l) + z) (congrArg₂ (· + ·) ?_ ?_)
  · refine Finset.sum_congr rfl fun i _ => ?_
    rw [rows2_lo X0 X1 ⟨i.val, _⟩ i rfl]
  · refine Finset.sum_congr rfl fun i _ => ?_
    rw [rows2_hi X0 X1 ⟨512 + i.val, _⟩ i rfl]

/-- The gradient sum after a step. -/
theorem gtF_point (prev : Vec Ideal S2048x2048 .f32) (i l : Fin 2048) :
    gtF X0 X1 SX QX QT (ylo Y) (yhi Y) (wlo W) (whi W) prev (ix2 i l)
      = prev (ix2 i l) + ∑ j : Fin 1024, (∑ b : Fin 256, QT (ix2 i b) * (rs X0 X1 SX QX Y j b * SX (ix2 b 0))) * W (ix2 j l) := by
  unfold gtF
  rw [canonA, canonB, sA_eq, eB_eq]
  pointwise [k0_pay285, k0_pay284, k0_pay283, k0_pay278, k0_pay151, k0_pay150, k0_pay147, k0_pay142]
  have e : ∀ (X : Vec Ideal S512x2048 .f32) (Y : Vec Ideal S1x256x512 .bf16) (b : Fin 256) (i : Fin 512),
      k0_pay143 (srow X) SX QX (codes X) Y (ix2 b i)
        = resid (row512 X i) (fun k => QX (ix2 b k)) (SX (ix2 b 0)) (Y (ix3 0 b i)) := by
    intro X Y b i
    pointwise [k0_pay143]
    simp only [srow_point, codes_point]
    rfl
  simp only [e, resid_point, rs_lo X0 X1, rs_hi X0 X1, wlo_point, whi_point]
  rw [add_assoc, ← sum_halves]

/-- The loss sum after a step, over all its lanes. -/
theorem laF_sum (prev : Vec Ideal S8x128 .f32) :
    (∑ a : Fin 8, ∑ l : Fin 128, laF X0 X1 SX QX (ylo Y) (yhi Y) prev (ix2 a l))
      = (∑ a : Fin 8, ∑ l : Fin 128, prev (ix2 a l))
        + ∑ j : Fin 1024, ∑ b : Fin 256, rs X0 X1 SX QX Y j b * rs X0 X1 SX QX Y j b := by
  have e : ∀ (E : Vec Ideal S256x512 .f32) (p : Vec Ideal S8x128 .f32),
      (∑ a : Fin 8, ∑ l : Fin 128, k0_pay281 E p (ix2 a l))
        = (∑ a : Fin 8, ∑ l : Fin 128, p (ix2 a l)) + ∑ i : Fin 512, ∑ b : Fin 256, E (ix2 b i) * E (ix2 b i) := by
    intro E p
    rw [Finset.sum_comm (s := (Finset.univ : Finset (Fin 512))),
      ← sum_tile8 (fun b i => E (ix2 b i) * E (ix2 b i)), ← Finset.sum_add_distrib]
    refine Finset.sum_congr rfl fun a _ => ?_
    rw [← Finset.sum_add_distrib]
    refine Finset.sum_congr rfl fun l _ => ?_
    pointwise [k0_pay281]
  unfold laF
  rw [canonA, canonB, sA_eq, eB_eq, e]
  rw [show k0_pay145 (srow X0) (k0_pay142 SX) QX (codes X0) (ylo Y) prev
    = k0_pay281 (k0_pay143 (srow X0) (k0_pay142 SX) QX (codes X0) (ylo Y)) prev from rfl, e]
  simp only [resid_point, rs_lo X0 X1, rs_hi X0 X1]
  rw [add_assoc, ← sum_halves]

end

end Cert.KernelIdeal.Hand

end
-- ==== Proof.Spec.lean ====
module

public import proofs.«01_k».proof.Proof.Math

/-
  The results as formulas over the arguments: the weights `A` (3 layers of 8192 rows), the rotation `B`, the codes `Q` and
  scales `S` of the tokens, the targets `Y`. Both programs are shown equal to these formulas.
-/

set_option maxRecDepth 16384

@[expose] public section

noncomputable section

namespace Cert.Spec

open Idealize.ShloMosaic Cert.RowMath

variable (A : (⟨3, ![3, 8192, 2048]⟩ : Shape).Idx → EReal) (B : (⟨2, ![2048, 2048]⟩ : Shape).Idx → EReal)
  (Q : (⟨3, ![1, 256, 2048]⟩ : Shape).Idx → EReal) (S : (⟨2, ![1, 256]⟩ : Shape).Idx → EReal)
  (Y : (⟨4, ![3, 1, 256, 8192]⟩ : Shape).Idx → EReal)

/-- Element `k` of row `r` of the weights, the layers one after another. -/
def wt (r : Fin 24576) (k : Fin 2048) : EReal := A (ix3 ⟨r.val / 8192, by omega⟩ ⟨r.val % 8192, by omega⟩ k)

/-- Row `r` of the rotated weights. -/
def wrow (r : Fin 24576) : Fin 2048 → EReal := fun l => ∑ k : Fin 2048, wt A r k * B (ix2 k l)

/-- The residual of token `b` on row `r`. -/
def res (r : Fin 24576) (b : Fin 256) : EReal :=
  resid (wrow A B r) (fun k => Q (ix3 0 b k)) (S (ix2 0 b)) (Y (ix4 ⟨r.val / 8192, by omega⟩ 0 b ⟨r.val % 8192, by omega⟩))

/-- The integer codes of the weights. -/
def wc (r : Fin 24576) (l : Fin 2048) : BitVec 8 := FloatOps.fptosi (F := Ideal) (φ := .f32) 8 (cod (wrow A B r) l)

/-- The residuals against the codes, summed over the rows. -/
def ps (b : Fin 256) (l : Fin 2048) : EReal :=
  ∑ r : Fin 24576, res A B Q S Y r b * scl (wrow A B r) * cod (wrow A B r) l

/-- The residuals against the tokens' codes and the weights, summed over the rows. -/
def gt (i l : Fin 2048) : EReal :=
  ∑ r : Fin 24576, (∑ b : Fin 256, Q (ix3 0 b i) * (res A B Q S Y r b * S (ix2 0 b))) * wt A r l

/-- The sum of the squared residuals. -/
def sq : EReal := ∑ r : Fin 24576, ∑ b : Fin 256, res A B Q S Y r b * res A B Q S Y r b

/-- The loss. -/
def loss : EReal := Ideal.div (sq A B Q S Y) (Ideal.ofBits FTy.f32 1241513984#32)

end Cert.Spec

end
-- ==== Proof.Grid.lean ====
module

public import proofs.«01_k».proof.Proof.Gen.KernelIdeal.Value
public import Idealize.ShloMosaic.Lib.Pipeline.ValueKit
public import proofs.«01_k».proof.Proof.Forms
public import proofs.«01_k».proof.Proof.Spec
/-
  The steps in terms of the arguments: which rows of the rotated weights a step holds, and what it leaves.
-/

set_option maxRecDepth 16384

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat Cfg Window)

open Cert.RowMath

variable (m : (ℓ : Loc nD τ sig) → Buf (Elt Ideal) ℓ)

/-- Which block of its array each window holds at step `t`. -/
theorem idx : ∀ t : Fin cfg0.N, win0_0.index t = ![t.val, 0] ∧ win0_1.index t = ![min (2 * t.val + 2) 47, 0]
    ∧ win0_2.index t = ![t.val / 8, 0, t.val % 8] ∧ win0_3.index t = ![0, 0] ∧ win0_4.index t = ![0, 0]
    ∧ win0_5.index t = ![0, 0] ∧ win0_6.index t = ![0, 0] ∧ win0_7.index t = ![t.val, 0]
    ∧ win0_8.index t = ![t.val, 0, 0] ∧ win0_9.index t = ![t.val, 0, 0] ∧ win0_10.index t = ![t.val / 8, 0, t.val % 8]
    ∧ win0_11.index t = ![0, 0] ∧ win0_12.index t = ![0, 0] ∧ win0_13.index t = ![0, 0] ∧ t.val < 24 :=
  (by decide +kernel : ∀ t : Fin grid0.N, _)

/-- There are 24 steps. -/
theorem tlt (t : Fin cfg0.N) : t.val < 24 := (idx t).2.2.2.2.2.2.2.2.2.2.2.2.2.2

/-- The weights. -/
abbrev aA (c : Dev nD) : Vec Ideal S3x8192x2048 .bf16 := m ((c : Thread nD τ).loc main_arg0)
/-- The targets. -/
abbrev aY (c : Dev nD) : Vec Ideal S3x1x256x8192 .bf16 := m ((c : Thread nD τ).loc main_arg1)
/-- The rotation. -/
abbrev aB (c : Dev nD) : Vec Ideal S2048x2048 .f32 := m ((c : Thread nD τ).loc main_arg2)
/-- The codes of the tokens. -/
abbrev aQ (c : Dev nD) : Vec Ideal S1x256x2048 .bf16 := m ((c : Thread nD τ).loc main_arg3)
/-- The scales of the tokens. -/
abbrev aS (c : Dev nD) : Vec Ideal S1x256 .f32 := m ((c : Thread nD τ).loc main_arg4)

/-- Row `1024 t + j`. -/
def rw_ (t : Fin cfg0.N) (j : Fin 1024) : Fin 24576 := ⟨1024 * t.val + j.val, by have := tlt t; omega⟩

/-- The first window holds the weights of the step's rows. -/
theorem blk0 (c : Dev nD) (t : Fin cfg0.N) (i : Fin 1024) (k : Fin 2048) :
    (iblk m c 0 t : Vec Ideal S1024x2048 .bf16) (ix2 i k) = Spec.wt (aA m c) (rw_ t i) k := by
  unfold Spec.wt rw_
  have ht := tlt t
  blk_simp [iblk, V, idx t]
  entry_read
  pointwise []
  blk_ext [idx t]

/-- The second window holds the weights of the first half of the next step (at the last step, of the last half). -/
theorem blk1 (c : Dev nD) (t : Fin cfg0.N) (i : Fin 512) (k : Fin 2048) (r : Fin 24576)
    (hr : r.val = 512 * min (2 * t.val + 2) 47 + i.val) :
    (iblk m c 1 t : Vec Ideal S512x2048 .bf16) (ix2 i k) = Spec.wt (aA m c) r k := by
  unfold Spec.wt
  have ht := tlt t
  blk_simp [iblk, V, idx t]
  entry_read
  pointwise []
  blk_ext [idx t]

/-- The third window holds the targets of the step's rows. -/
theorem blk2 (c : Dev nD) (t : Fin cfg0.N) (b : Fin 256) (j : Fin 1024) :
    (iblk m c 2 t : Vec Ideal S1x256x1024 .bf16) (ix3 0 b j)
      = aY m c (ix4 ⟨(rw_ t j).val / 8192, by omega⟩ 0 b ⟨(rw_ t j).val % 8192, by omega⟩) := by
  unfold rw_
  have ht := tlt t
  blk_simp [iblk, V, idx t]
  entry_read
  pointwise []
  blk_ext [idx t]

/-- The fourth window holds the rotation. -/
theorem blk3 (c : Dev nD) (t : Fin cfg0.N) (i k : Fin 2048) :
    (iblk m c 3 t : Vec Ideal S2048x2048 .bf16) (ix2 i k) = aB m c (ix2 i k) := by
  blk_simp [iblk, V, idx t]
  entry_read
  pointwise []
  blk_ext [idx t]

/-- The fifth window holds the codes of the tokens. -/
theorem blk4 (c : Dev nD) (t : Fin cfg0.N) (b : Fin 256) (k : Fin 2048) :
    (iblk m c 4 t : Vec Ideal S256x2048 .bf16) (ix2 b k) = aQ m c (ix3 0 b k) := by
  blk_simp [iblk, V, idx t]
  entry_read
  pointwise []
  blk_ext [idx t]

/-- The sixth window holds the codes of the tokens, transposed. -/
theorem blk5 (c : Dev nD) (t : Fin cfg0.N) (k : Fin 2048) (b : Fin 256) :
    (iblk m c 5 t : Vec Ideal S2048x256 .bf16) (ix2 k b) = aQ m c (ix3 0 b k) := by
  blk_simp [iblk, V, idx t]
  entry_read
  pointwise []
  blk_ext [idx t]

/-- The seventh window holds the scales of the tokens, repeated over the lanes. -/
theorem blk6 (c : Dev nD) (t : Fin cfg0.N) (b : Fin 256) (k : Fin 128) :
    (iblk m c 6 t : Vec Ideal S256x128 .f32) (ix2 b k) = aS m c (ix2 0 b) := by
  blk_simp [iblk, V, idx t]
  entry_read
  pointwise []
  blk_ext [idx t]

/-- The second half of a step: rows `1024 t + 512 ..`. -/
theorem xHi_row (c : Dev nD) (t : Fin cfg0.N) (i : Fin 512) (r : Fin 24576) (hr : r.val = 1024 * t.val + (512 + i.val)) :
    row512 (xHi m c t) i = Spec.wrow (aA m c) (aB m c) r := by
  funext l
  show xHi m c t (ix2 i l) = _
  unfold xHi Spec.wrow
  pointwise [k0_pay5]
  refine Finset.sum_congr rfl fun k _ => congrArg₂ (· * ·) ?_ (blk3 m c t k l)
  refine (whi_point _ i k).trans ((blk0 m c t _ k).trans ?_)
  exact congrArg (fun r => Spec.wt (aA m c) r k) (Fin.ext hr.symm)

/-- The first half of the first step. -/
theorem xFirst_row (c : Dev nD) (t : Fin cfg0.N) (i : Fin 512) (r : Fin 24576) (hr : r.val = 1024 * t.val + i.val) :
    row512 (xFirst m c t) i = Spec.wrow (aA m c) (aB m c) r := by
  funext l
  show xFirst m c t (ix2 i l) = _
  unfold xFirst Spec.wrow
  pointwise [k0_pay1]
  refine Finset.sum_congr rfl fun k _ => congrArg₂ (· * ·) ?_ (blk3 m c t k l)
  refine (wlo_point _ i k).trans ((blk0 m c t _ k).trans ?_)
  exact congrArg (fun r => Spec.wt (aA m c) r k) (Fin.ext hr.symm)

/-- What any step hands on: the rotated block of weights ahead. -/
theorem sa_all (c : Dev nD) (t : Fin cfg0.N) (y) :
    (outsAt0 m c t.val t.isLt).2.2.2.2.2.2.2.1 y = k0_pay152 (iblk m c 1 t) (iblk m c 3 t) y := by
  by_cases h : t.val % 24 = 0
  · exact sa_A m c t h (by omega) y
  · by_cases h' : t.val % 24 = 23
    · exact sa_C m c t h h' y
    · exact sa_B m c t h h' y

/-- The first half of a later step. -/
theorem xPrev_row (c : Dev nD) (t : Fin cfg0.N) (h : ¬ t.val % 24 = 0) (i : Fin 512) (r : Fin 24576)
    (hr : r.val = 1024 * t.val + i.val) :
    row512 (xPrev m c t) i = Spec.wrow (aA m c) (aB m c) r := by
  funext l
  have ht := tlt t
  refine (sa_all m c ⟨t.val - 1, Nat.lt_of_le_of_lt (Nat.sub_le _ _) t.isLt⟩ (ix2 i l)).trans ?_
  unfold Spec.wrow
  pointwise [k0_pay152]
  refine Finset.sum_congr rfl fun k _ => congrArg₂ (· * ·) ?_ (blk3 m c _ k l)
  exact blk1 m c _ i k r (by dsimp only; omega)

/-- The first half's rotated weights at a step. -/
def xLo (c : Dev nD) (t : Fin cfg0.N) : Vec Ideal S512x2048 .f32 :=
  if t.val % 24 = 0 then xFirst m c t else xPrev m c t

/-- The rows of rotated weights of a step. -/
theorem rows_step (c : Dev nD) (t : Fin cfg0.N) (j : Fin 1024) :
    rows2 (xLo m c t) (xHi m c t) j = Spec.wrow (aA m c) (aB m c) (rw_ t j) := by
  by_cases hj : j.val < 512
  · rw [rows2_lo _ _ j ⟨j.val, hj⟩ rfl]
    unfold xLo
    by_cases h : t.val % 24 = 0
    · rw [if_pos h]; exact xFirst_row m c t _ _ rfl
    · rw [if_neg h]; exact xPrev_row m c t h _ _ rfl
  · rw [rows2_hi _ _ j ⟨j.val - 512, by omega⟩ (by dsimp only; omega)]
    exact xHi_row m c t _ _ (by show 1024 * t.val + j.val = 1024 * t.val + (512 + (j.val - 512)); omega)

/-- The residuals of a step. -/
theorem rs_step (c : Dev nD) (t : Fin cfg0.N) (j : Fin 1024) (b : Fin 256) :
    rs (xLo m c t) (xHi m c t) (sx1 (iblk m c 6 t)) (iblk m c 4 t) (iblk m c 2 t) j b
      = Spec.res (aA m c) (aB m c) (aQ m c) (aS m c) (aY m c) (rw_ t j) b := by
  unfold rs Spec.res
  rw [rows_step]
  refine congr (congr (congrArg _ (funext fun k => blk4 m c t b k)) ?_) (blk2 m c t b j)
  exact (sx1_point _ b).trans (blk6 m c t b 0)

end Cert.KernelIdeal.Hand

end
-- ==== Proof.Arrays.lean ====
module

public import proofs.«01_k».proof.Proof.Gen.KernelIdeal.Value
public import Idealize.ShloMosaic.Lib.Pipeline.ValueKit
public import proofs.«01_k».proof.Proof.Grid
/-
  The result arrays: every block is what its step left; the three sums are the sums over all steps.
-/

set_option maxRecDepth 16384

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat Cfg Window)

open Cert.RowMath

variable (m : (ℓ : Loc nD τ sig) → Buf (Elt Ideal) ℓ)

/-- The block of integer codes a step leaves. -/
theorem wc_step (c : Dev nD) (t : Fin cfg0.N) (y) :
    (outsAt0 m c t.val t.isLt).1 y = wcF (xLo m c t) (xHi m c t) y := by
  unfold xLo
  by_cases h : t.val % 24 = 0
  · rw [if_pos h]; exact wc_A m c t h (by omega) y
  · rw [if_neg h]
    by_cases h' : t.val % 24 = 23
    · exact wc_C m c t h h' y
    · exact wc_B m c t h h' y

/-- The block of scales a step leaves. -/
theorem ws_step (c : Dev nD) (t : Fin cfg0.N) (y) :
    (outsAt0 m c t.val t.isLt).2.1 y = wsF (xLo m c t) (xHi m c t) y := by
  unfold xLo
  by_cases h : t.val % 24 = 0
  · rw [if_pos h]; exact ws_A m c t h (by omega) y
  · rw [if_neg h]
    by_cases h' : t.val % 24 = 23
    · exact ws_C m c t h h' y
    · exact ws_B m c t h h' y

/-- The block of squared errors a step leaves. -/
theorem err_step (c : Dev nD) (t : Fin cfg0.N) (y) :
    (outsAt0 m c t.val t.isLt).2.2.1 y = errF (xLo m c t) (xHi m c t) y := by
  unfold xLo
  by_cases h : t.val % 24 = 0
  · rw [if_pos h]; exact err_A m c t h (by omega) y
  · rw [if_neg h]
    by_cases h' : t.val % 24 = 23
    · exact err_C m c t h h' y
    · exact err_B m c t h h' y

/-- The block of residuals a step leaves. -/
theorem e_step (c : Dev nD) (t : Fin cfg0.N) (y) :
    (outsAt0 m c t.val t.isLt).2.2.2.1 y
      = eF (xLo m c t) (xHi m c t) (sx1 (iblk m c 6 t)) (iblk m c 4 t) (ylo (iblk m c 2 t)) (yhi (iblk m c 2 t)) y := by
  unfold xLo
  by_cases h : t.val % 24 = 0
  · rw [if_pos h]; exact e_A m c t h (by omega) y
  · rw [if_neg h]
    by_cases h' : t.val % 24 = 23
    · exact e_C m c t h h' y
    · exact e_B m c t h h' y

/-- The array of integer codes. -/
theorem wc_array (c : Dev nD) :
    (dats m 0 c).arrAt 7 (cfgs 0).N = (fun i => Spec.wc (aA m c) (aB m c) (i 0) (i 1) : Vec Ideal S24576x2048 .i8) := by
  refine (dats m 0 c).arrAt_eq_of_covers 7 _ (by decide +kernel) fun t _ y => ?_
  have ht := tlt t
  obtain ⟨a, b, rfl⟩ : ∃ (a : Fin 1024) (b : Fin 2048), y = ix2 a b := ⟨y 0, y 1, eq_ix2 y⟩
  blk_simp
  rw [after0_7]
  refine (wc_step m c t _).trans ((wcF_point _ _ _).trans ?_)
  refine (congrArg (fun v => FloatOps.fptosi (F := Ideal) (φ := .f32) 8 (cod v b)) (rows_step m c t a)).trans ?_
  refine congrArg₂ (Spec.wc (aA m c) (aB m c)) (Fin.ext ?_) (Fin.ext ?_)
  · blk_simp [idx t, rw_]
    show 1024 * t.val + a.val = t.val * 1024 + a.val
    omega
  · blk_simp [idx t]
    try omega

/-- The row a block-and-lane index of the scales stands for. -/
def rowOf (i : S24x1x1024.Idx) : Fin 24576 :=
  ⟨1024 * (i 0).val + (i 2).val, by
    have h0 : (i 0).val < 24 := (i 0).isLt
    have h2 : (i 2).val < 1024 := (i 2).isLt
    omega⟩

/-- The array of scales. -/
theorem ws_array (c : Dev nD) :
    (dats m 0 c).arrAt 8 (cfgs 0).N = (fun i => scl (Spec.wrow (aA m c) (aB m c) (rowOf i)) : Vec Ideal S24x1x1024 .f32) := by
  refine (dats m 0 c).arrAt_eq_of_covers 8 _ (by decide +kernel) fun t _ y => ?_
  have ht := tlt t
  obtain ⟨a, b, j, rfl⟩ : ∃ (a b : Fin 1) (j : Fin 1024), y = ix3 a b j := ⟨y 0, y 1, y 2, eq_ix3 y⟩
  blk_simp
  rw [after0_8]
  refine (ws_step m c t _).trans ((wsF_point _ _ _).trans (congrArg scl ((rows_step m c t j).trans ?_)))
  refine congrArg (Spec.wrow (aA m c) (aB m c)) (Fin.ext ?_)
  unfold rowOf
  blk_simp [idx t, rw_]
  try omega

/-- The array of squared errors. -/
theorem err_array (c : Dev nD) :
    (dats m 0 c).arrAt 9 (cfgs 0).N = (fun i => sqerr (Spec.wrow (aA m c) (aB m c) (rowOf i)) : Vec Ideal S24x1x1024 .f32) := by
  refine (dats m 0 c).arrAt_eq_of_covers 9 _ (by decide +kernel) fun t _ y => ?_
  have ht := tlt t
  obtain ⟨a, b, j, rfl⟩ : ∃ (a b : Fin 1) (j : Fin 1024), y = ix3 a b j := ⟨y 0, y 1, y 2, eq_ix3 y⟩
  blk_simp
  rw [after0_9]
  refine (err_step m c t _).trans ((errF_point _ _ _).trans (congrArg sqerr ((rows_step m c t j).trans ?_)))
  refine congrArg (Spec.wrow (aA m c) (aB m c)) (Fin.ext ?_)
  unfold rowOf
  blk_simp [idx t, rw_]
  try omega

/-- The row an index of the residuals stands for. -/
def rowOfE (i : S3x256x8192.Idx) : Fin 24576 :=
  ⟨8192 * (i 0).val + (i 2).val, by
    have h0 : (i 0).val < 3 := (i 0).isLt
    have h2 : (i 2).val < 8192 := (i 2).isLt
    omega⟩

/-- The array of residuals. -/
theorem e_array (c : Dev nD) :
    (dats m 0 c).arrAt 10 (cfgs 0).N
      = (fun i => Spec.res (aA m c) (aB m c) (aQ m c) (aS m c) (aY m c) (rowOfE i) (i 1) : Vec Ideal S3x256x8192 .f32) := by
  refine (dats m 0 c).arrAt_eq_of_covers 10 _ (by decide +kernel) fun t _ y => ?_
  have ht := tlt t
  obtain ⟨a, b, j, rfl⟩ : ∃ (a : Fin 1) (b : Fin 256) (j : Fin 1024), y = ix3 a b j := ⟨y 0, y 1, y 2, eq_ix3 y⟩
  blk_simp
  rw [after0_10]
  refine (e_step m c t _).trans ((eF_point _ _ _ _ _ _).trans ((rs_step m c t j b).trans ?_))
  refine congrArg₂ (Spec.res (aA m c) (aB m c) (aQ m c) (aS m c) (aY m c)) (Fin.ext ?_) (Fin.ext ?_)
  · unfold rowOfE
    blk_simp [idx t, rw_]
    show 1024 * t.val + j.val = 8192 * (t.val / 8) + (t.val % 8 * 1024 + j.val)
    omega
  · blk_simp [idx t]
    try omega

/-- The sum over the rows of a step is the step's block of the sum over all rows. -/
theorem blkSum_step (f : Fin 24576 → EReal) (t : Fin cfg0.N) : ∑ j : Fin 1024, f (rw_ t j) = blkSum f t.val := by
  rw [blkSum, dif_pos (tlt t)]
  rfl

/-- What the code-side sum adds for a row. -/
def psTerm (c : Dev nD) (b : Fin 256) (l : Fin 2048) (r : Fin 24576) : EReal :=
  Spec.res (aA m c) (aB m c) (aQ m c) (aS m c) (aY m c) r b * scl (Spec.wrow (aA m c) (aB m c) r)
    * cod (Spec.wrow (aA m c) (aB m c) r) l

/-- A step's form of the code-side sum adds its block. -/
theorem ps_add (c : Dev nD) (t : Fin cfg0.N) (prev : Vec Ideal S256x2048 .f32) (b : Fin 256) (l : Fin 2048) :
    psF (xLo m c t) (xHi m c t) (sx1 (iblk m c 6 t)) (iblk m c 4 t) (ylo (iblk m c 2 t)) (yhi (iblk m c 2 t)) prev (ix2 b l)
      = prev (ix2 b l) + blkSum (psTerm m c b l) t.val := by
  rw [psF_point, ← blkSum_step]
  refine congrArg (fun z => prev (ix2 b l) + z) (Finset.sum_congr rfl fun j _ => ?_)
  rw [rs_step, rows_step]
  rfl

/-- The code-side sum after step `n`. -/
theorem ps_acc (c : Dev nD) (b : Fin 256) (l : Fin 2048) (n : ℕ) (h : n < cfg0.N) :
    (outsAt0 m c n h).2.2.2.2.2.1 (ix2 b l) = ∑ t ∈ Finset.range (n + 1), blkSum (psTerm m c b l) t := by
  refine acc_blkSum cfg0.N (psTerm m c b l) (fun n h => (outsAt0 m c n h).2.2.2.2.2.1 (ix2 b l)) ?_ ?_ n h
  · intro h0
    have hx : xLo m c ⟨0, h0⟩ = xFirst m c ⟨0, h0⟩ := if_pos rfl
    refine (ps_A m c ⟨0, h0⟩ rfl (show ¬ 0 % 24 = 23 by decide) (ix2 b l)).trans ?_
    rw [← hx, ps_add]
    have e : (k0_pay3 (F := Ideal)) (ix2 b l) = 0 := by pointwise [k0_pay3]
    rw [e, zero_add]
  · intro n hn
    have ht : n + 1 < 24 := tlt ⟨n + 1, hn⟩
    have h0 : ¬ (n + 1) % 24 = 0 := by omega
    have hx : xLo m c ⟨n + 1, hn⟩ = xPrev m c ⟨n + 1, hn⟩ := if_neg h0
    by_cases h' : (n + 1) % 24 = 23
    · refine (ps_C m c ⟨n + 1, hn⟩ h0 h' (ix2 b l)).trans ?_
      rw [← hx, ps_add]
      rfl
    · refine (ps_B m c ⟨n + 1, hn⟩ h0 h' (ix2 b l)).trans ?_
      rw [← hx, ps_add]
      rfl

/-- The array of the code-side sum. -/
theorem ps_array (c : Dev nD) :
    (dats m 0 c).arrAt 12 (cfgs 0).N
      = (fun i => Spec.ps (aA m c) (aB m c) (aQ m c) (aS m c) (aY m c) (i 0) (i 1) : Vec Ideal S256x2048 .f32) := by
  refine (dats m 0 c).arrAt_eq_of_covers 12 _ (by decide +kernel) fun t hf y => ?_
  have ht := (flush0_12 t).mp hf
  have ht' := tlt t
  obtain ⟨b, l, rfl⟩ : ∃ (b : Fin 256) (l : Fin 2048), y = ix2 b l := ⟨y 0, y 1, eq_ix2 y⟩
  blk_simp
  rw [after0_12]
  refine (ps_acc m c b l t.val t.isLt).trans ?_
  rw [show t.val + 1 = 24 by omega, sum_blkSum]
  refine Eq.trans (b := Spec.ps (aA m c) (aB m c) (aQ m c) (aS m c) (aY m c) b l) rfl ?_
  refine congrArg₂ (Spec.ps (aA m c) (aB m c) (aQ m c) (aS m c) (aY m c)) (Fin.ext ?_) (Fin.ext ?_)
  · blk_simp [idx t]
    try omega
  · blk_simp [idx t]
    try omega

/-- What the gradient sum adds for a row. -/
def gtTerm (c : Dev nD) (i l : Fin 2048) (r : Fin 24576) : EReal :=
  (∑ b : Fin 256, aQ m c (ix3 0 b i) * (Spec.res (aA m c) (aB m c) (aQ m c) (aS m c) (aY m c) r b * aS m c (ix2 0 b)))
    * Spec.wt (aA m c) r l

/-- A step's form of the gradient sum adds its block. -/
theorem gt_add (c : Dev nD) (t : Fin cfg0.N) (prev : Vec Ideal S2048x2048 .f32) (i l : Fin 2048) :
    gtF (xLo m c t) (xHi m c t) (sx1 (iblk m c 6 t)) (iblk m c 4 t) (iblk m c 5 t) (ylo (iblk m c 2 t)) (yhi (iblk m c 2 t))
        (wlo (iblk m c 0 t)) (whi (iblk m c 0 t)) prev (ix2 i l)
      = prev (ix2 i l) + blkSum (gtTerm m c i l) t.val := by
  rw [gtF_point, ← blkSum_step]
  refine congrArg (fun z => prev (ix2 i l) + z) (Finset.sum_congr rfl fun j _ => ?_)
  refine congrArg₂ (· * ·) (Finset.sum_congr rfl fun b _ => ?_) (blk0 m c t j l)
  rw [rs_step]
  exact congrArg₂ (· * ·) (blk5 m c t i b) (congrArg _ ((sx1_point _ b).trans (blk6 m c t b 0)))

/-- The gradient sum after step `n`. -/
theorem gt_acc (c : Dev nD) (i l : Fin 2048) (n : ℕ) (h : n < cfg0.N) :
    (outsAt0 m c n h).2.2.2.2.1 (ix2 i l) = ∑ t ∈ Finset.range (n + 1), blkSum (gtTerm m c i l) t := by
  refine acc_blkSum cfg0.N (gtTerm m c i l) (fun n h => (outsAt0 m c n h).2.2.2.2.1 (ix2 i l)) ?_ ?_ n h
  · intro h0
    have hx : xLo m c ⟨0, h0⟩ = xFirst m c ⟨0, h0⟩ := if_pos rfl
    refine (gt_A m c ⟨0, h0⟩ rfl (show ¬ 0 % 24 = 23 by decide) (ix2 i l)).trans ?_
    rw [← hx, gt_add]
    have e : (k0_pay2 (F := Ideal)) (ix2 i l) = 0 := by pointwise [k0_pay2]
    rw [e, zero_add]
  · intro n hn
    have ht : n + 1 < 24 := tlt ⟨n + 1, hn⟩
    have h0 : ¬ (n + 1) % 24 = 0 := by omega
    have hx : xLo m c ⟨n + 1, hn⟩ = xPrev m c ⟨n + 1, hn⟩ := if_neg h0
    by_cases h' : (n + 1) % 24 = 23
    · refine (gt_C m c ⟨n + 1, hn⟩ h0 h' (ix2 i l)).trans ?_
      rw [← hx, gt_add]
      rfl
    · refine (gt_B m c ⟨n + 1, hn⟩ h0 h' (ix2 i l)).trans ?_
      rw [← hx, gt_add]
      rfl

/-- The array of the gradient sum. -/
theorem gt_array (c : Dev nD) :
    (dats m 0 c).arrAt 11 (cfgs 0).N
      = (fun i => Spec.gt (aA m c) (aB m c) (aQ m c) (aS m c) (aY m c) (i 0) (i 1) : Vec Ideal S2048x2048 .f32) := by
  refine (dats m 0 c).arrAt_eq_of_covers 11 _ (by decide +kernel) fun t hf y => ?_
  have ht := (flush0_11 t).mp hf
  have ht' := tlt t
  obtain ⟨i, l, rfl⟩ : ∃ (i l : Fin 2048), y = ix2 i l := ⟨y 0, y 1, eq_ix2 y⟩
  blk_simp
  rw [after0_11]
  refine (gt_acc m c i l t.val t.isLt).trans ?_
  rw [show t.val + 1 = 24 by omega, sum_blkSum]
  refine Eq.trans (b := Spec.gt (aA m c) (aB m c) (aQ m c) (aS m c) (aY m c) i l) rfl ?_
  refine congrArg₂ (Spec.gt (aA m c) (aB m c) (aQ m c) (aS m c) (aY m c)) (Fin.ext ?_) (Fin.ext ?_)
  · blk_simp [idx t]
    try omega
  · blk_simp [idx t]
    try omega

/-- What the loss sum adds for a row. -/
def sqTerm (c : Dev nD) (r : Fin 24576) : EReal :=
  ∑ b : Fin 256, Spec.res (aA m c) (aB m c) (aQ m c) (aS m c) (aY m c) r b
    * Spec.res (aA m c) (aB m c) (aQ m c) (aS m c) (aY m c) r b

/-- A step's form of the loss sum adds its block, over all lanes. -/
theorem la_add (c : Dev nD) (t : Fin cfg0.N) (prev : Vec Ideal S8x128 .f32) :
    (∑ a : Fin 8, ∑ l : Fin 128, laF (xLo m c t) (xHi m c t) (sx1 (iblk m c 6 t)) (iblk m c 4 t) (ylo (iblk m c 2 t))
        (yhi (iblk m c 2 t)) prev (ix2 a l))
      = (∑ a : Fin 8, ∑ l : Fin 128, prev (ix2 a l)) + blkSum (sqTerm m c) t.val := by
  rw [laF_sum, ← blkSum_step]
  refine congrArg (fun z => (∑ a : Fin 8, ∑ l : Fin 128, prev (ix2 a l)) + z) (Finset.sum_congr rfl fun j _ => ?_)
  refine Finset.sum_congr rfl fun b _ => ?_
  rw [rs_step]

/-- The loss sum after step `n`, over all lanes. -/
theorem la_acc (c : Dev nD) (n : ℕ) (h : n < cfg0.N) :
    (∑ a : Fin 8, ∑ l : Fin 128, (outsAt0 m c n h).2.2.2.2.2.2.2.2 (ix2 a l))
      = ∑ t ∈ Finset.range (n + 1), blkSum (sqTerm m c) t := by
  refine acc_blkSum cfg0.N (sqTerm m c)
    (fun n h => ∑ a : Fin 8, ∑ l : Fin 128, (outsAt0 m c n h).2.2.2.2.2.2.2.2 (ix2 a l)) ?_ ?_ n h
  · intro h0
    have hx : xLo m c ⟨0, h0⟩ = xFirst m c ⟨0, h0⟩ := if_pos rfl
    refine (Finset.sum_congr rfl fun a _ => Finset.sum_congr rfl fun l _ =>
      la_A m c ⟨0, h0⟩ rfl (show ¬ 0 % 24 = 23 by decide) (ix2 a l)).trans ?_
    rw [← hx, la_add]
    have e : ∀ (a : Fin 8) (l : Fin 128), (k0_pay4 (F := Ideal)) (ix2 a l) = 0 := by intro a l; pointwise [k0_pay4]
    simp only [e, Finset.sum_const_zero, zero_add]
  · intro n hn
    have ht : n + 1 < 24 := tlt ⟨n + 1, hn⟩
    have h0 : ¬ (n + 1) % 24 = 0 := by omega
    have hx : xLo m c ⟨n + 1, hn⟩ = xPrev m c ⟨n + 1, hn⟩ := if_neg h0
    by_cases h' : (n + 1) % 24 = 23
    · refine (Finset.sum_congr rfl fun a _ => Finset.sum_congr rfl fun l _ =>
        la_C m c ⟨n + 1, hn⟩ h0 h' (ix2 a l)).trans ?_
      rw [← hx, la_add]
      rfl
    · refine (Finset.sum_congr rfl fun a _ => Finset.sum_congr rfl fun l _ =>
        la_B m c ⟨n + 1, hn⟩ h0 h' (ix2 a l)).trans ?_
      rw [← hx, la_add]
      rfl

/-- The array of the loss. -/
theorem loss_array (c : Dev nD) :
    (dats m 0 c).arrAt 13 (cfgs 0).N
      = (fun _ => Spec.loss (aA m c) (aB m c) (aQ m c) (aS m c) (aY m c) : Vec Ideal S1x1 .f32) := by
  refine (dats m 0 c).arrAt_eq_of_covers 13 _ (by decide +kernel) fun t hf y => ?_
  have ht := (flush0_13 t).mp hf
  have ht' := tlt t
  blk_simp
  rw [after0_13]
  refine (loss_C m c t (by omega) ht y).trans ?_
  unfold k0_pay286 Spec.loss
  pointwise []
  refine congrArg (fun z => Ideal.div z _) ?_
  refine (Finset.sum_congr rfl fun a _ => Finset.sum_congr rfl fun l _ =>
    (la_C m c t (by omega) ht (ix2 a l)).symm).trans ((la_acc m c t.val t.isLt).trans ?_)
  rw [show t.val + 1 = 24 by omega, sum_blkSum]
  rfl

end Cert.KernelIdeal.Hand

end
-- ==== Proof.Round.lean ====
module

public import proofs.«01_k».proof.Proof.Math

/-
  Codes are small whole numbers, so storing them as integers loses nothing; a common divisor may be taken out of a sum of squares.
-/

@[expose] public section

noncomputable section

namespace Cert.RowMath

open Idealize.ShloMosaic

/-- The word for seven. -/
theorem seven : Ideal.ofBits FTy.f32 1088421888#32 = ((7 : ℝ) : EReal) := by
  simp [Ideal.ofBits, Ideal.ieee, -EReal.coe_mul]; norm_num

/-- The word for minus seven. -/
theorem neg_seven : Ideal.ofBits FTy.f32 3235905536#32 = ((-7 : ℝ) : EReal) := by
  simp [Ideal.ofBits, Ideal.ieee, -EReal.coe_mul, -EReal.coe_neg]; norm_num

/-- The word for 2097152. -/
theorem two21 : Ideal.ofBits FTy.f32 1241513984#32 = ((2097152 : ℝ) : EReal) := by
  simp [Ideal.ofBits, Ideal.ieee, -EReal.coe_mul]; norm_num

/-- A code is a whole number from -7 to 7. -/
theorem cod_int (v : Fin 2048 → EReal) (l : Fin 2048) : ∃ z : ℤ, -7 ≤ z ∧ z ≤ 7 ∧ cod v l = ((z : ℝ) : EReal) := by
  unfold cod
  rw [seven, neg_seven]
  induction Ideal.div (v l) (scl v) with
  | bot => exact ⟨-7, by norm_num, by norm_num, by
      rw [show Ideal.liftRound Ideal.roundHalfEven ⊥ = ⊥ from rfl, max_eq_left bot_le, min_eq_right (EReal.coe_le_coe_iff.mpr (by norm_num))]; norm_num⟩
  | top => exact ⟨7, by norm_num, by norm_num, by
      rw [show Ideal.liftRound Ideal.roundHalfEven ⊤ = ⊤ from rfl, max_eq_right le_top, min_eq_left le_top]; norm_cast⟩
  | coe r =>
    refine ⟨min 7 (max (-7) (Ideal.roundHalfEven r)), by omega, by omega, ?_⟩
    rw [show Ideal.liftRound Ideal.roundHalfEven (r : EReal) = ((Ideal.roundHalfEven r : ℝ) : EReal) from rfl]
    have mx : ∀ a b : ℝ, ((max a b : ℝ) : EReal) = max (a : EReal) b := fun a b => EReal.coe_strictMono.monotone.map_max
    have mn : ∀ a b : ℝ, ((min a b : ℝ) : EReal) = min (a : EReal) b := fun a b => EReal.coe_strictMono.monotone.map_min
    rw [← mx, ← mn]
    refine congrArg _ ?_
    rw [Int.cast_min, Int.cast_max]
    norm_num

/-- Storing a code as an 8-bit integer and reading it back gives the code. -/
theorem cod_stored (v : Fin 2048 → EReal) (l : Fin 2048) (φ ψ : FTy) :
    FloatOps.sitofp (F := Ideal) φ (FloatOps.fptosi (F := Ideal) (φ := ψ) 8 (cod v l)) = cod v l := by
  obtain ⟨z, h1, h2, h⟩ := cod_int v l
  rw [h]
  show (((BitVec.ofInt 8 (Ideal.toIntClamped _ _ ((z : ℝ) : EReal))).toInt : ℝ) : EReal) = _
  rw [Ideal.toIntClamped_coe]
  have e : (if 0 ≤ (z : ℝ) then ⌊(z : ℝ)⌋ else ⌈(z : ℝ)⌉) = z := by simp
  rw [e]
  have e2 : max (-(((2 ^ (8 - 1) : Nat)) : ℤ)) (min (((2 ^ (8 - 1) : Nat) : ℤ) - 1) z) = z := by
    norm_num
    omega
  rw [e2, BitVec.toInt_ofInt]
  have e3 : z.bmod (2 ^ 8) = z := by
    rw [Int.bmod_eq_of_le] <;> norm_num <;> omega
  rw [e3]

/-- A square is not negative. -/
theorem mul_self_nonneg' (x : EReal) : 0 ≤ x * x := by
  rcases le_total 0 x with h | h
  · exact mul_nonneg h h
  · have := mul_nonneg (EReal.neg_nonneg.mpr h) (EReal.neg_nonneg.mpr h)
    rwa [neg_mul_neg] at this

/-- A sum of three non-negative numbers, each divided by 2097152, is their sum divided by it. -/
theorem sum_div (f : Fin 3 → EReal) (h : ∀ i, 0 ≤ f i) :
    (∑ i : Fin 3, Ideal.div (f i) (Ideal.ofBits FTy.f32 1241513984#32)) = Ideal.div (∑ i : Fin 3, f i) (Ideal.ofBits FTy.f32 1241513984#32) := by
  have n : (2097152 : ℝ) ≠ 0 := by norm_num
  simp only [two21, Ideal.div_coe n, Fin.sum_univ_three]
  rw [EReal.right_distrib_of_nonneg (add_nonneg (h 0) (h 1)) (h 2), EReal.right_distrib_of_nonneg (h 0) (h 1)]

end Cert.RowMath

end
-- ==== Proof.Reference.lean ====
module

public import proofs.«01_k».proof.Proof.Gen.ReferenceIdeal.Frame
public import Idealize.ShloMosaic.Lib.Pipeline.ValueKit
public import proofs.«01_k».proof.Proof.Round
public import proofs.«01_k».proof.Proof.Spec

/-
  What the reference computes from its arrays, read at an index: rows of rotated weights, their scales and codes, and the
  residuals of the tokens.
-/

set_option maxRecDepth 16384

@[expose] public section

noncomputable section

namespace Cert.ReferenceIdeal.Hand

open Cert.ReferenceIdeal Cert.ReferenceIdeal.Gen
open Idealize.ShloMosaic Idealize.ShloMosaic.TcCoe Idealize.ShloMosaic.Tactic
open Idealize.ShloMosaic.Pipeline (Dat Cfg Window)
open Cert.RowMath

variable (W : Vec Ideal S24576x2048 .bf16) (B : Vec Ideal S2048x2048 .f32) (Q : Vec Ideal S256x2048 .bf16)
  (S : Vec Ideal S256x1 .f32) (Y : Vec Ideal S256x24576 .bf16)

/-- Row `r` of the rotated weights. -/
def row (r : Fin 24576) : Fin 2048 → EReal := fun l => ∑ k : Fin 2048, W (ix2 r k) * B (ix2 k l)

/-- The residual of token `b` on row `r`. -/
def rsd (r : Fin 24576) (b : Fin 256) : EReal :=
  resid (row W B r) (fun k => Q (ix2 b k)) (S (ix2 b 0)) (Y (ix2 b r))

/-- The product of weights and rotation. -/
theorem prod_at (r : Fin 24576) (l : Fin 2048) : k0_pay2 W B (ix2 r l) = row W B r l := by
  pointwise [k0_pay2, k0_pay1]
  rfl

/-- A seventh of a column's element, or one where the element is zero. -/
theorem seventh_at (v : FVec Ideal S24576x1 .f32) (r : Fin 24576) (z : Fin 1) :
    select (cmpf .oeq v (broadcast S24576x1 (Scalar.ofBits .f32 0x00000000#32 : Ideal .f32)))
        (broadcast S24576x1 (Scalar.ofBits .f32 0x3F800000#32 : Ideal .f32))
        (divf v (broadcast S24576x1 (Scalar.ofBits .f32 0x40E00000#32 : Ideal .f32))) (ix2 r z)
      = if v (ix2 r z) = 0 then 1 else Ideal.div (v (ix2 r z)) (Ideal.ofBits FTy.f32 1088421888#32) := by
  pointwise []

/-- The largest magnitude of a row. -/
theorem amax_at (v : FVec Ideal S24576x2048 .f32) (r : Fin 24576) (z : Fin 1) :
    shapeCast S24576x1 (multiReduction .maximumf [1] S24576 (absf v) 0xFF800000#32 reduces_S24576x2048_S24576 (.inl rfl) rfl)
        shapeCasts_S24576_S24576x1 (ix2 r z)
      = Finset.fold max (Ideal.ofBits FTy.f32 4286578688#32)
          (fun x => FloatOps.absf (F := Ideal) (φ := .f32) (v (ix2 r x))) Finset.univ := by
  pointwise []

/-- The column of scales. -/
theorem scale_at (r : Fin 24576) (z : Fin 1) : k0_pay3 W B (ix2 r z) = scl (row W B r) := by
  unfold k0_pay3 scl
  refine (seventh_at _ r z).trans ?_
  rw [amax_at]
  simp only [prod_at]

attribute [local irreducible] k0_pay3

/-- The constant 7, as a whole number made a float. -/
theorem seven_int : (FloatOps.sitofp (F := Ideal) .f32 7#32 : EReal) = Ideal.ofBits FTy.f32 1088421888#32 := by
  rw [seven]
  show (((7#32).toInt : ℝ) : EReal) = _
  rw [show (7#32).toInt = 7 by decide]
  norm_num

/-- The constant -7, as a whole number made a float. -/
theorem neg_seven_int : (FloatOps.sitofp (F := Ideal) .f32 4294967289#32 : EReal) = Ideal.ofBits FTy.f32 3235905536#32 := by
  rw [neg_seven]
  show (((4294967289#32).toInt : ℝ) : EReal) = _
  rw [show (4294967289#32).toInt = -7 by decide]
  norm_num

/-- A quotient by a column, rounded, clipped and made an integer. -/
theorem quant_at (X : FVec Ideal S24576x2048 .f32) (v : FVec Ideal S24576x1 .f32) (r : Fin 24576) (l : Fin 2048) :
    fptosi 8 (minimumf (broadcast S24576x2048 (Scalar.sitofp .f32 7#32 : Ideal .f32))
        (maximumf (broadcast S24576x2048 (Scalar.sitofp .f32 4294967289#32 : Ideal .f32))
          (roundeven (divf X (broadcastTo S24576x2048 v broadcasts_S24576x1_S24576x2048))))) (ix2 r l)
      = FloatOps.fptosi (F := Ideal) (φ := .f32) 8 (min (FloatOps.sitofp (F := Ideal) .f32 7#32 : EReal)
          (max (FloatOps.sitofp (F := Ideal) .f32 4294967289#32 : EReal)
            (Ideal.liftRound Ideal.roundHalfEven (Ideal.div (X (ix2 r l)) (v (ix2 r 0)))))) := by
  pointwise []
  rfl

/-- The integer codes. -/
theorem code_at (r : Fin 24576) (l : Fin 2048) :
    k0_pay4 W B (ix2 r l) = FloatOps.fptosi (F := Ideal) (φ := .f32) 8 (cod (row W B r) l) := by
  unfold k0_pay4 cod
  refine (quant_at _ _ r l).trans ?_
  rw [prod_at, scale_at, seven_int, neg_seven_int]

attribute [local irreducible] k0_pay4

/-- The scales, 24 rows of 1024. -/
theorem scales_at (a : Fin 24) (b : Fin 1) (j : Fin 1024) :
    k0_pay5 W B (ix3 a b j) = scl (row W B ⟨a.val * 1024 + j.val, by omega⟩) := by
  pointwise [k0_pay5]
  exact scale_at W B _ _

/-- A sum of squared differences over each row, in 24 rows of 1024. -/
theorem sqsum_at (X : FVec Ideal S24576x2048 .f32) (v : FVec Ideal S24576x1 .f32) (q : FVec Ideal S24576x2048 .f32)
    (a : Fin 24) (b : Fin 1) (j : Fin 1024) :
    shapeCast S24x1x1024 (multiReduction .add [1] S24576
        (mulf (subf X (mulf (broadcastTo S24576x2048 v broadcasts_S24576x1_S24576x2048) q))
          (subf X (mulf (broadcastTo S24576x2048 v broadcasts_S24576x1_S24576x2048) q)))
        0x00000000#32 reduces_S24576x2048_S24576 (.inl rfl) rfl) shapeCasts_S24576_S24x1x1024 (ix3 a b j)
      = ∑ l : Fin 2048,
          (X (ix2 ⟨a.val * 1024 + j.val, by omega⟩ l)
            - v (ix2 ⟨a.val * 1024 + j.val, by omega⟩ 0) * q (ix2 ⟨a.val * 1024 + j.val, by omega⟩ l))
          * (X (ix2 ⟨a.val * 1024 + j.val, by omega⟩ l)
            - v (ix2 ⟨a.val * 1024 + j.val, by omega⟩ 0) * q (ix2 ⟨a.val * 1024 + j.val, by omega⟩ l)) := by
  pointwise []

/-- A code read back from its integer. -/
theorem back_at (r : Fin 24576) (l : Fin 2048) :
    (sitofp .f32 (k0_pay4 W B) : FVec Ideal S24576x2048 .f32) (ix2 r l) = cod (row W B r) l := by
  refine Eq.trans ?_ (cod_stored (row W B r) l .f32 .f32)
  rw [← code_at]
  rfl

/-- The squared errors, 24 rows of 1024. -/
theorem errs_at (a : Fin 24) (b : Fin 1) (j : Fin 1024) :
    k0_pay6 W B (ix3 a b j) = sqerr (row W B ⟨a.val * 1024 + j.val, by omega⟩) := by
  unfold k0_pay6 sqerr
  refine (sqsum_at _ _ _ a b j).trans ?_
  simp only [prod_at, scale_at, back_at]

/-- The residuals. -/
theorem resid_at (b : Fin 256) (r : Fin 24576) :
    k0_pay11 (k0_pay3 W B) (k0_pay4 W B) Q S Y (ix2 b r) = rsd W B Q S Y r b := by
  pointwise [k0_pay11, k0_pay7, k0_pay8, k0_pay9, k0_pay10]
  simp only [scale_at, code_at, cod_stored]
  rfl

attribute [local irreducible] k0_pay11

/-- The residuals, layer by layer. -/
theorem layers_at (h : Fin 3) (b : Fin 256) (n : Fin 8192) :
    k0_pay12 (k0_pay3 W B) (k0_pay4 W B) Q S Y (ix3 h b n) = rsd W B Q S Y ⟨h.val * 8192 + n.val, by omega⟩ b := by
  pointwise [k0_pay12]
  exact resid_at W B Q S Y _ _

attribute [local irreducible] k0_pay12

/-- The loss. -/
theorem loss_at (a b : Fin 1) :
    k0_pay13 (k0_pay3 W B) (k0_pay4 W B) Q S Y (ix2 a b)
      = ∑ h : Fin 3, Ideal.div (∑ b : Fin 256, ∑ n : Fin 8192,
          rsd W B Q S Y ⟨h.val * 8192 + n.val, by omega⟩ b * rsd W B Q S Y ⟨h.val * 8192 + n.val, by omega⟩ b)
            (Ideal.ofBits FTy.f32 1241513984#32) := by
  pointwise [k0_pay13]
  simp only [layers_at]

/-- The sum over the rows of residual times code. -/
theorem ps_at (b : Fin 256) (l : Fin 2048) :
    k0_pay14 (k0_pay3 W B) (k0_pay4 W B) Q S Y (ix2 b l)
      = ∑ r : Fin 24576, rsd W B Q S Y r b * scl (row W B r) * cod (row W B r) l := by
  pointwise [k0_pay14, k0_pay8, k0_pay9]
  simp only [resid_at, scale_at, code_at, cod_stored]

/-- The sum over tokens and rows. -/
theorem gt_at (i l : Fin 2048) :
    k0_pay15 (k0_pay1 W) (k0_pay3 W B) (k0_pay4 W B) Q S Y (ix2 i l)
      = ∑ r : Fin 24576, (∑ b : Fin 256, Q (ix2 b i) * (rsd W B Q S Y r b * S (ix2 b 0))) * W (ix2 r l) := by
  pointwise [k0_pay15, k0_pay7, k0_pay10, k0_pay1]
  simp only [resid_at]
  refine Finset.sum_congr rfl fun r _ => congrArg (· * W (ix2 r l)) ?_
  exact Finset.sum_congr rfl fun b _ => mul_comm _ _

end Cert.ReferenceIdeal.Hand

end
-- ==== Proof.RefArrays.lean ====
module

public import proofs.«01_k».proof.Proof.Reference
public import Idealize.ShloMosaic.Lib.Claim

/-
  The reference's result arrays as the formulas over the arguments.
-/

set_option maxRecDepth 16384

@[expose] public section

noncomputable section

namespace Cert.ReferenceIdeal.Hand

open Cert.ReferenceIdeal Cert.ReferenceIdeal.Gen
open Idealize.ShloMosaic Idealize.ShloMosaic.TcCoe Idealize.ShloMosaic.Tactic
open Idealize.ShloMosaic.Pipeline (Dat Cfg Window)
open Cert.RowMath

section Outs

variable (x0 : Vec Ideal S24576x2048 .bf16) (x1 : Vec Ideal S256x24576 .bf16) (x2 : Vec Ideal S2048x2048 .f32)
  (x3 : Vec Ideal S256x2048 .bf16) (x4 : Vec Ideal S256x1 .f32)

/-- Result 0 holds the integer codes. -/
theorem out5_eq : out0_5 x0 x1 x2 x3 x4 = k0_pay4 x0 x2 := by
  unfold_out out0_5
  frame_out

/-- Result 1 holds the scales. -/
theorem out6_eq : out0_6 x0 x1 x2 x3 x4 = k0_pay5 x0 x2 := by
  unfold_out out0_6
  frame_out

/-- Result 2 holds the squared errors. -/
theorem out7_eq : out0_7 x0 x1 x2 x3 x4 = k0_pay6 x0 x2 := by
  unfold_out out0_7
  frame_out

/-- Result 3 holds the residuals. -/
theorem out8_eq : out0_8 x0 x1 x2 x3 x4 = k0_pay12 (k0_pay3 x0 x2) (k0_pay4 x0 x2) x3 x4 x1 := by
  unfold_out out0_8
  frame_out

/-- Result 4 holds the sum over tokens and rows. -/
theorem out9_eq : out0_9 x0 x1 x2 x3 x4 = k0_pay15 (k0_pay1 x0) (k0_pay3 x0 x2) (k0_pay4 x0 x2) x3 x4 x1 := by
  unfold_out out0_9
  frame_out

/-- Result 5 holds the sum over the rows. -/
theorem out10_eq : out0_10 x0 x1 x2 x3 x4 = k0_pay14 (k0_pay3 x0 x2) (k0_pay4 x0 x2) x3 x4 x1 := by
  unfold_out out0_10
  frame_out

/-- Result 6 holds the loss. -/
theorem out11_eq : out0_11 x0 x1 x2 x3 x4 = k0_pay13 (k0_pay3 x0 x2) (k0_pay4 x0 x2) x3 x4 x1 := by
  unfold_out out0_11
  frame_out

end Outs

variable (m : (ℓ : Loc nD τ sig) → Buf (Elt Ideal) ℓ)

/-- The weights. -/
abbrev aA (c : Dev nD) : Vec Ideal S3x8192x2048 .bf16 := m ((c : Thread nD τ).loc main_arg0)
/-- The targets. -/
abbrev aY (c : Dev nD) : Vec Ideal S3x1x256x8192 .bf16 := m ((c : Thread nD τ).loc main_arg1)
/-- The rotation. -/
abbrev aB (c : Dev nD) : Vec Ideal S2048x2048 .f32 := m ((c : Thread nD τ).loc main_arg2)
/-- The codes of the tokens. -/
abbrev aQ (c : Dev nD) : Vec Ideal S1x256x2048 .bf16 := m ((c : Thread nD τ).loc main_arg3)
/-- The scales of the tokens. -/
abbrev aS (c : Dev nD) : Vec Ideal S1x256 .f32 := m ((c : Thread nD τ).loc main_arg4)

/-- The one point holds each array whole. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0, 0]
    ∧ win0_7.index t = ![0, 0, 0] ∧ win0_8.index t = ![0, 0, 0] ∧ win0_9.index t = ![0, 0] ∧ win0_10.index t = ![0, 0]
    ∧ win0_11.index t = ![0, 0] :=
  (by decide +kernel : ∀ t : Fin grid0.N, _)

/-- The weights, layer after layer. -/
theorem blkW (c : Dev nD) (t : Fin cfg0.N) (r : Fin 24576) (k : Fin 2048) :
    (iblk m c 0 t : Vec Ideal S24576x2048 .bf16) (ix2 r k) = Spec.wt (aA m c) r k := by
  unfold Spec.wt
  blk_simp [iblk, V, idx t]
  entry_read
  pointwise []
  blk_ext [idx t]

/-- The targets, layer after layer. -/
theorem blkY (c : Dev nD) (t : Fin cfg0.N) (b : Fin 256) (r : Fin 24576) :
    (iblk m c 1 t : Vec Ideal S256x24576 .bf16) (ix2 b r)
      = aY m c (ix4 ⟨r.val / 8192, by omega⟩ 0 b ⟨r.val % 8192, by omega⟩) := by
  blk_simp [iblk, V, idx t]
  entry_read
  pointwise []
  blk_ext [idx t]

/-- The rotation. -/
theorem blkB (c : Dev nD) (t : Fin cfg0.N) (i k : Fin 2048) :
    (iblk m c 2 t : Vec Ideal S2048x2048 .f32) (ix2 i k) = aB m c (ix2 i k) := by
  blk_simp [iblk, V, idx t]
  entry_read
  pointwise []
  blk_ext [idx t]

/-- The codes of the tokens. -/
theorem blkQ (c : Dev nD) (t : Fin cfg0.N) (b : Fin 256) (k : Fin 2048) :
    (iblk m c 3 t : Vec Ideal S256x2048 .bf16) (ix2 b k) = aQ m c (ix3 0 b k) := by
  blk_simp [iblk, V, idx t]
  entry_read
  pointwise []
  blk_ext [idx t]

/-- The scales of the tokens. -/
theorem blkS (c : Dev nD) (t : Fin cfg0.N) (b : Fin 256) (k : Fin 1) :
    (iblk m c 4 t : Vec Ideal S256x1 .f32) (ix2 b k) = aS m c (ix2 0 b) := by
  blk_simp [iblk, V, idx t]
  entry_read
  pointwise []
  blk_ext [idx t]

/-- The rows are the rows of the rotated weights. -/
theorem row_eq (c : Dev nD) (t : Fin cfg0.N) (r : Fin 24576) :
    row (iblk m c 0 t) (iblk m c 2 t) r = Spec.wrow (aA m c) (aB m c) r := by
  funext l
  exact Finset.sum_congr rfl fun k _ => congrArg₂ (· * ·) (blkW m c t r k) (blkB m c t k l)

/-- The residuals. -/
theorem rsd_eq (c : Dev nD) (t : Fin cfg0.N) (r : Fin 24576) (b : Fin 256) :
    rsd (iblk m c 0 t) (iblk m c 2 t) (iblk m c 3 t) (iblk m c 4 t) (iblk m c 1 t) r b
      = Spec.res (aA m c) (aB m c) (aQ m c) (aS m c) (aY m c) r b := by
  unfold rsd Spec.res
  rw [row_eq, blkS, blkY]
  exact congrArg (fun q => resid _ q _ _) (funext fun k => blkQ m c t b k)

/-- The array of integer codes. -/
theorem wc_array (c : Dev nD) :
    (dats m 0 c).arrAt 5 (cfgs 0).N = (fun i => Spec.wc (aA m c) (aB m c) (i 0) (i 1) : Vec Ideal S24576x2048 .i8) := by
  refine (dats m 0 c).arrAt_eq_of_covers 5 _ (by decide +kernel) fun t _ y => ?_
  obtain ⟨a, b, rfl⟩ : ∃ (a : Fin 24576) (b : Fin 2048), y = ix2 a b := ⟨y 0, y 1, eq_ix2 y⟩
  blk_simp
  rw [after0_5, out5_eq]
  refine (code_at _ _ a b).trans ?_
  rw [row_eq]
  refine congrArg₂ (Spec.wc (aA m c) (aB m c)) (Fin.ext ?_) (Fin.ext ?_)
  · blk_simp [idx t]
    try omega
  · blk_simp [idx t]
    try omega

/-- The row a block-and-lane index of the scales stands for. -/
def rowOf (i : S24x1x1024.Idx) : Fin 24576 :=
  ⟨1024 * (i 0).val + (i 2).val, by
    have h0 : (i 0).val < 24 := (i 0).isLt
    have h2 : (i 2).val < 1024 := (i 2).isLt
    omega⟩

/-- The array of scales. -/
theorem ws_array (c : Dev nD) :
    (dats m 0 c).arrAt 6 (cfgs 0).N = (fun i => scl (Spec.wrow (aA m c) (aB m c) (rowOf i)) : Vec Ideal S24x1x1024 .f32) := by
  refine (dats m 0 c).arrAt_eq_of_covers 6 _ (by decide +kernel) fun t _ y => ?_
  obtain ⟨a, b, j, rfl⟩ : ∃ (a : Fin 24) (b : Fin 1) (j : Fin 1024), y = ix3 a b j := ⟨y 0, y 1, y 2, eq_ix3 y⟩
  blk_simp
  rw [after0_6, out6_eq]
  refine (scales_at _ _ a b j).trans ?_
  rw [row_eq]
  refine congrArg (fun r => scl (Spec.wrow (aA m c) (aB m c) r)) (Fin.ext ?_)
  unfold rowOf
  blk_simp [idx t]
  show a.val * 1024 + j.val = 1024 * a.val + j.val
  omega

/-- The array of squared errors. -/
theorem err_array (c : Dev nD) :
    (dats m 0 c).arrAt 7 (cfgs 0).N = (fun i => sqerr (Spec.wrow (aA m c) (aB m c) (rowOf i)) : Vec Ideal S24x1x1024 .f32) := by
  refine (dats m 0 c).arrAt_eq_of_covers 7 _ (by decide +kernel) fun t _ y => ?_
  obtain ⟨a, b, j, rfl⟩ : ∃ (a : Fin 24) (b : Fin 1) (j : Fin 1024), y = ix3 a b j := ⟨y 0, y 1, y 2, eq_ix3 y⟩
  blk_simp
  rw [after0_7, out7_eq]
  refine (errs_at _ _ a b j).trans ?_
  rw [row_eq]
  refine congrArg (fun r => sqerr (Spec.wrow (aA m c) (aB m c) r)) (Fin.ext ?_)
  unfold rowOf
  blk_simp [idx t]
  show a.val * 1024 + j.val = 1024 * a.val + j.val
  omega

/-- The row an index of the residuals stands for. -/
def rowOfE (i : S3x256x8192.Idx) : Fin 24576 :=
  ⟨8192 * (i 0).val + (i 2).val, by
    have h0 : (i 0).val < 3 := (i 0).isLt
    have h2 : (i 2).val < 8192 := (i 2).isLt
    omega⟩

/-- The array of residuals. -/
theorem e_array (c : Dev nD) :
    (dats m 0 c).arrAt 8 (cfgs 0).N
      = (fun i => Spec.res (aA m c) (aB m c) (aQ m c) (aS m c) (aY m c) (rowOfE i) (i 1) : Vec Ideal S3x256x8192 .f32) := by
  refine (dats m 0 c).arrAt_eq_of_covers 8 _ (by decide +kernel) fun t _ y => ?_
  obtain ⟨a, b, j, rfl⟩ : ∃ (a : Fin 3) (b : Fin 256) (j : Fin 8192), y = ix3 a b j := ⟨y 0, y 1, y 2, eq_ix3 y⟩
  blk_simp
  rw [after0_8, out8_eq]
  refine (layers_at _ _ _ _ _ a b j).trans ?_
  rw [rsd_eq]
  refine congrArg₂ (Spec.res (aA m c) (aB m c) (aQ m c) (aS m c) (aY m c)) (Fin.ext ?_) (Fin.ext ?_)
  · unfold rowOfE
    blk_simp [idx t]
    show a.val * 8192 + j.val = 8192 * a.val + j.val
    omega
  · blk_simp [idx t]
    try omega

/-- The array of sums over tokens and rows. -/
theorem gt_array (c : Dev nD) :
    (dats m 0 c).arrAt 9 (cfgs 0).N
      = (fun i => Spec.gt (aA m c) (aB m c) (aQ m c) (aS m c) (aY m c) (i 0) (i 1) : Vec Ideal S2048x2048 .f32) := by
  refine (dats m 0 c).arrAt_eq_of_covers 9 _ (by decide +kernel) fun t hf y => ?_
  obtain ⟨i, l, rfl⟩ : ∃ (i l : Fin 2048), y = ix2 i l := ⟨y 0, y 1, eq_ix2 y⟩
  blk_simp
  rw [after0_9, out9_eq]
  refine (gt_at _ _ _ _ _ i l).trans ?_
  simp only [rsd_eq, blkS, blkQ, blkW]
  refine congrArg₂ (Spec.gt (aA m c) (aB m c) (aQ m c) (aS m c) (aY m c)) (Fin.ext ?_) (Fin.ext ?_)
  · blk_simp [idx t]
    try omega
  · blk_simp [idx t]
    try omega

/-- The array of sums over the rows. -/
theorem ps_array (c : Dev nD) :
    (dats m 0 c).arrAt 10 (cfgs 0).N
      = (fun i => Spec.ps (aA m c) (aB m c) (aQ m c) (aS m c) (aY m c) (i 0) (i 1) : Vec Ideal S256x2048 .f32) := by
  refine (dats m 0 c).arrAt_eq_of_covers 10 _ (by decide +kernel) fun t hf y => ?_
  obtain ⟨b, l, rfl⟩ : ∃ (b : Fin 256) (l : Fin 2048), y = ix2 b l := ⟨y 0, y 1, eq_ix2 y⟩
  blk_simp
  rw [after0_10, out10_eq]
  refine (ps_at _ _ _ _ _ b l).trans ?_
  simp only [rsd_eq, row_eq]
  refine congrArg₂ (Spec.ps (aA m c) (aB m c) (aQ m c) (aS m c) (aY m c)) (Fin.ext ?_) (Fin.ext ?_)
  · blk_simp [idx t]
    try omega
  · blk_simp [idx t]
    try omega

/-- The loss is the sum of all squared residuals over the count. -/
theorem loss_sum (f : Fin 24576 → Fin 256 → EReal) :
    (∑ h : Fin 3, Ideal.div (∑ b : Fin 256, ∑ n : Fin 8192,
        f ⟨h.val * 8192 + n.val, by omega⟩ b * f ⟨h.val * 8192 + n.val, by omega⟩ b) (Ideal.ofBits FTy.f32 1241513984#32))
      = Ideal.div (∑ r : Fin 24576, ∑ b : Fin 256, f r b * f r b) (Ideal.ofBits FTy.f32 1241513984#32) := by
  rw [sum_div _ fun h => Finset.sum_nonneg fun b _ => Finset.sum_nonneg fun n _ => mul_self_nonneg' _]
  refine congrArg (fun x => Ideal.div x (Ideal.ofBits FTy.f32 1241513984#32)) ?_
  rw [← sum_layers (fun r => ∑ b : Fin 256, f r b * f r b)]
  refine Finset.sum_congr rfl fun h _ => ?_
  rw [Finset.sum_comm]
  refine Finset.sum_congr rfl fun n _ => Finset.sum_congr rfl fun b _ => ?_
  have e : (⟨h.val * 8192 + n.val, by omega⟩ : Fin 24576) = ⟨8192 * h.val + n.val, by omega⟩ := Fin.ext (by dsimp only; omega)
  rw [e]

/-- The loss. -/
theorem loss_array (c : Dev nD) :
    (dats m 0 c).arrAt 11 (cfgs 0).N
      = (fun _ => Spec.loss (aA m c) (aB m c) (aQ m c) (aS m c) (aY m c) : Vec Ideal S1x1 .f32) := by
  refine (dats m 0 c).arrAt_eq_of_covers 11 _ (by decide +kernel) fun t hf y => ?_
  obtain ⟨a, b, rfl⟩ : ∃ (a b : Fin 1), y = ix2 a b := ⟨y 0, y 1, eq_ix2 y⟩
  blk_simp
  rw [after0_11, out11_eq]
  refine (loss_at _ _ _ _ _ a b).trans ?_
  simp only [rsd_eq]
  exact loss_sum _

end Cert.ReferenceIdeal.Hand

end
-- ==== Proof.Results.lean ====
module

public import proofs.«01_k».proof.Proof.Arrays
public import proofs.«01_k».proof.Proof.RefArrays
public import proofs.«01_k».proof.Proof.Gen.KernelIdeal.Value

/-
  The result arrays as functions of the arguments, and both programs' runs with the results stated as these.
-/

set_option maxRecDepth 16384

@[expose] public section

noncomputable section

namespace Cert.Spec

open Idealize.ShloMosaic Cert.RowMath

variable (A : (⟨3, ![3, 8192, 2048]⟩ : Shape).Idx → EReal) (B : (⟨2, ![2048, 2048]⟩ : Shape).Idx → EReal)
  (Q : (⟨3, ![1, 256, 2048]⟩ : Shape).Idx → EReal) (S : (⟨2, ![1, 256]⟩ : Shape).Idx → EReal)
  (Y : (⟨4, ![3, 1, 256, 8192]⟩ : Shape).Idx → EReal)

/-- The integer codes. -/
def wcArr : (⟨2, ![24576, 2048]⟩ : Shape).Idx → BitVec 8 := fun i => wc A B (i 0) (i 1)

/-- The scales. -/
def wsArr : (⟨3, ![24, 1, 1024]⟩ : Shape).Idx → EReal := fun i => scl (wrow A B (Cert.KernelIdeal.Hand.rowOf i))

/-- The squared errors. -/
def errArr : (⟨3, ![24, 1, 1024]⟩ : Shape).Idx → EReal := fun i => sqerr (wrow A B (Cert.KernelIdeal.Hand.rowOf i))

/-- The residuals. -/
def eArr : (⟨3, ![3, 256, 8192]⟩ : Shape).Idx → EReal :=
  fun i => res A B Q S Y (Cert.KernelIdeal.Hand.rowOfE i) (i 1)

/-- The sums over tokens and rows. -/
def gtArr : (⟨2, ![2048, 2048]⟩ : Shape).Idx → EReal := fun i => gt A B Q S Y (i 0) (i 1)

/-- The sums over the rows. -/
def psArr : (⟨2, ![256, 2048]⟩ : Shape).Idx → EReal := fun i => ps A B Q S Y (i 0) (i 1)

/-- The loss. -/
def lossArr : (⟨2, ![1, 1]⟩ : Shape).Idx → EReal := fun _ => loss A B Q S Y

end Cert.Spec

namespace Cert.KernelIdeal.Hand

open Cert.KernelIdeal Cert.KernelIdeal.Gen
open Idealize.ShloMosaic Idealize.ShloMosaic.TcCoe Idealize.ShloMosaic.Tactic
open Idealize.SL.Sem

/-- The kernel runs to the end, its results are the stated functions of its arguments, and the arguments are kept. -/
theorem run_results (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v8_0) = Spec.wcArr (aA m c) (aB m c)
      ∧ r.2.mem ((c : Thread nD τ).loc main_v8_1) = Spec.wsArr (aA m c) (aB m c)
      ∧ r.2.mem ((c : Thread nD τ).loc main_v8_2) = Spec.errArr (aA m c) (aB m c)
      ∧ r.2.mem ((c : Thread nD τ).loc main_v8_3) = Spec.eArr (aA m c) (aB m c) (aQ m c) (aS m c) (aY m c)
      ∧ r.2.mem ((c : Thread nD τ).loc main_v8_4) = Spec.gtArr (aA m c) (aB m c) (aQ m c) (aS m c) (aY m c)
      ∧ r.2.mem ((c : Thread nD τ).loc main_v8_5) = Spec.psArr (aA m c) (aB m c) (aQ m c) (aS m c) (aY m c)
      ∧ r.2.mem ((c : Thread nD τ).loc main_v8_6) = Spec.lossArr (aA m c) (aB m c) (aQ m c) (aS m c) (aY m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  θ_run_mono (run_main m ρ) fun r h c =>
    ⟨((h c).1 7).trans (wc_array m c), ((h c).1 8).trans (ws_array m c), ((h c).1 9).trans (err_array m c),
     ((h c).1 10).trans (e_array m c), ((h c).1 11).trans (gt_array m c), ((h c).1 12).trans (ps_array m c),
     ((h c).1 13).trans (loss_array m c),
     Value.kept_main_arg0 m r h c, Value.kept_main_arg1 m r h c, Value.kept_main_arg2 m r h c,
     Value.kept_main_arg3 m r h c, Value.kept_main_arg4 m r h c⟩

end Cert.KernelIdeal.Hand

namespace Cert.ReferenceIdeal.Hand

open Cert.ReferenceIdeal Cert.ReferenceIdeal.Gen
open Idealize.ShloMosaic Idealize.ShloMosaic.TcCoe Idealize.ShloMosaic.Tactic
open Idealize.SL.Sem

/-- The reference runs to the end, its results are the same functions of its arguments, and the arguments are kept. -/
theorem run_results (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v6_0) = Spec.wcArr (aA m c) (aB m c)
      ∧ r.2.mem ((c : Thread nD τ).loc main_v6_1) = Spec.wsArr (aA m c) (aB m c)
      ∧ r.2.mem ((c : Thread nD τ).loc main_v6_2) = Spec.errArr (aA m c) (aB m c)
      ∧ r.2.mem ((c : Thread nD τ).loc main_v6_3) = Spec.eArr (aA m c) (aB m c) (aQ m c) (aS m c) (aY m c)
      ∧ r.2.mem ((c : Thread nD τ).loc main_v6_4) = Spec.gtArr (aA m c) (aB m c) (aQ m c) (aS m c) (aY m c)
      ∧ r.2.mem ((c : Thread nD τ).loc main_v6_5) = Spec.psArr (aA m c) (aB m c) (aQ m c) (aS m c) (aY m c)
      ∧ r.2.mem ((c : Thread nD τ).loc main_v6_6) = Spec.lossArr (aA m c) (aB m c) (aQ m c) (aS m c) (aY m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  θ_run_mono (run_main m ρ) fun r h c =>
    ⟨((h c).1 5).trans (wc_array m c), ((h c).1 6).trans (ws_array m c), ((h c).1 7).trans (err_array m c),
     ((h c).1 8).trans (e_array m c), ((h c).1 9).trans (gt_array m c), ((h c).1 10).trans (ps_array m c),
     ((h c).1 11).trans (loss_array m c),
     ((h c).2 main_arg0 (Pipeline.mem_restRefs_of main_arg0 (by decide) (by decide))).trans (V_main_arg0 m c),
     ((h c).2 main_arg1 (Pipeline.mem_restRefs_of main_arg1 (by decide) (by decide))).trans (V_main_arg1 m c),
     ((h c).1 2).trans (((dats m 0 c).arrAt_in 2 rfl _).trans ((A_eq m c 2).trans (V_main_arg2 m c))),
     ((h c).2 main_arg3 (Pipeline.mem_restRefs_of main_arg3 (by decide) (by decide))).trans (V_main_arg3 m c),
     ((h c).2 main_arg4 (Pipeline.mem_restRefs_of main_arg4 (by decide) (by decide))).trans (V_main_arg4 m c)⟩

end Cert.ReferenceIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.Gradient
public import proofs.«01_k».proof.Proof.Gen.Gradient.Skeleton
public import proofs.«01_k».proof.Proof.Gen.Gradient.Launch
public import proofs.«01_k».proof.Proof.Gen.Gradient.Points
public import proofs.«01_k».proof.Proof.Gen.Gradient.Loops
public import proofs.«01_k».proof.Proof.Gen.Gradient.Frame.Runs
public import proofs.«01_k».proof.Proof.Gen.GradientIdeal
public import proofs.«01_k».proof.Proof.Gen.GradientIdeal.Skeleton
public import proofs.«01_k».proof.Proof.Gen.GradientIdeal.Launch
public import proofs.«01_k».proof.Proof.Gen.GradientIdeal.Points
public import proofs.«01_k».proof.Proof.Gen.GradientIdeal.Loops
public import proofs.«01_k».proof.Proof.Gen.GradientIdeal.Frame.Runs
public import proofs.«01_k».proof.Proof.Gen.GradientReferenceIdeal
public import proofs.«01_k».proof.Proof.Gen.GradientReferenceIdeal.Run
public import proofs.«01_k».proof.Proof.GradFrame
public import proofs.«01_k».proof.Proof.GradIdealFrame
public import proofs.«01_k».proof.Proof.Grad
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormReferenceIdeal
public import proofs.«01_k».proof.Proof.Gen.NormReferenceIdeal.Run
public import proofs.«01_k».proof.Proof.Norm
public import proofs.«01_k».proof.Proof.Gen.Tokens
public import proofs.«01_k».proof.Proof.Gen.Tokens.Skeleton
public import proofs.«01_k».proof.Proof.Gen.Tokens.Launch
public import proofs.«01_k».proof.Proof.Gen.Tokens.Points
public import proofs.«01_k».proof.Proof.Gen.Tokens.Loops
public import proofs.«01_k».proof.Proof.Gen.Tokens.Frame
public import proofs.«01_k».proof.Proof.Gen.TokensIdeal
public import proofs.«01_k».proof.Proof.Gen.TokensIdeal.Skeleton
public import proofs.«01_k».proof.Proof.Gen.TokensIdeal.Launch
public import proofs.«01_k».proof.Proof.Gen.TokensIdeal.Points
public import proofs.«01_k».proof.Proof.Gen.TokensIdeal.Loops
public import proofs.«01_k».proof.Proof.Gen.TokensIdeal.Frame
public import proofs.«01_k».proof.Proof.Gen.TokensReferenceIdeal
public import proofs.«01_k».proof.Proof.Gen.TokensReferenceIdeal.Skeleton
public import proofs.«01_k».proof.Proof.Gen.TokensReferenceIdeal.Launch
public import proofs.«01_k».proof.Proof.Gen.TokensReferenceIdeal.Points
public import proofs.«01_k».proof.Proof.Gen.TokensReferenceIdeal.Frame
public import proofs.«01_k».proof.Proof.Gen.TokensReferenceIdeal.Value
public import proofs.«01_k».proof.Proof.TokFrame
public import proofs.«01_k».proof.Proof.TokIdealFrame
public import proofs.«01_k».proof.Proof.Tok
public import proofs.«01_k».proof.Proof.Results
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- Both programs compute the same arrays: each result is the same function of the arguments. -/
theorem algebraic : Cert.algebraic_KernelIdeal_ReferenceIdeal := by
  intro m g m' g' _ hagree
  refine ⟨_, _, _, _, _, _, _, Cert.KernelIdeal.Hand.run_results m g,
    θ_run_mono (Cert.ReferenceIdeal.Hand.run_results m' g') fun r h c => ?_⟩
  obtain ⟨a0, a1, a2, a3, a4⟩ := hagree c
  have hA : Cert.ReferenceIdeal.Hand.aA m' c = Cert.KernelIdeal.Hand.aA m c := a0
  have hY : Cert.ReferenceIdeal.Hand.aY m' c = Cert.KernelIdeal.Hand.aY m c := a1
  have hB : Cert.ReferenceIdeal.Hand.aB m' c = Cert.KernelIdeal.Hand.aB m c := a2
  have hQ : Cert.ReferenceIdeal.Hand.aQ m' c = Cert.KernelIdeal.Hand.aQ m c := a3
  have hS : Cert.ReferenceIdeal.Hand.aS m' c = Cert.KernelIdeal.Hand.aS m c := a4
  obtain ⟨h0, h1, h2, h3, h4, h5, h6, hk⟩ := h c
  rw [hA, hB] at h0 h1 h2
  rw [hA, hB, hQ, hS, hY] at h3 h4 h5 h6
  exact ⟨h0, h1, h2, h3, h4, h5, h6, hk⟩

/-- The codes of the tokens and their scales: both programs give the same functions of `r` and the tokens. -/
theorem algebraic_tokens : Cert.algebraic_TokensIdeal_TokensReferenceIdeal := by
  intro m g m' g' _ hagree
  refine ⟨_, _, Cert.TokensIdeal.Hand.run_results m g,
    θ_run_mono (Cert.TokensReferenceIdeal.Hand.run_results m' g') fun r h c => ?_⟩
  obtain ⟨a0, a1⟩ := hagree c
  have hR : Cert.TokensReferenceIdeal.Hand.aR m' c = Cert.TokensIdeal.Hand.aR m c := a0
  have hX : Cert.TokensReferenceIdeal.Hand.aX m' c = Cert.TokensIdeal.Hand.aX m c := a1
  obtain ⟨h0, h1, hk⟩ := h c
  exact ⟨h0.trans (congrArg₂ Cert.Spec.tokCodes hR hX), h1.trans (congrArg₂ Cert.Spec.tokScales hR hX), hk⟩

/-- The gradient: both programs give the same function of the two sums and the activations. -/
theorem algebraic_gradient : Cert.algebraic_GradientIdeal_GradientReferenceIdeal := by
  intro m g m' g' _ hagree
  refine ⟨_, Cert.GradientIdeal.Hand.run_results m g,
    θ_run_mono (Cert.GradientReferenceIdeal.Hand.run_results m' g') fun r h c => ?_⟩
  obtain ⟨a0, a1, a2, -⟩ := hagree c
  have hG : m' ((c.tc : Thread Cert.GradientReferenceIdeal.nD Cert.GradientReferenceIdeal.τ).loc Cert.GradientReferenceIdeal.main_arg0)
      = Cert.GradientIdeal.Hand.aG m c := a0
  have hP : m' ((c.tc : Thread Cert.GradientReferenceIdeal.nD Cert.GradientReferenceIdeal.τ).loc Cert.GradientReferenceIdeal.main_arg1)
      = Cert.GradientIdeal.Hand.aP m c := a1
  have hX : m' ((c.tc : Thread Cert.GradientReferenceIdeal.nD Cert.GradientReferenceIdeal.τ).loc Cert.GradientReferenceIdeal.main_arg2)
      = Cert.GradientIdeal.Hand.aX m c := a2
  obtain ⟨h0, hk⟩ := h c
  rw [hG, hP, hX] at h0
  exact ⟨h0, hk⟩

/-- The norm and the bound: both programs give the same function of the generator. -/
theorem algebraic_norm : Cert.algebraic_NormIdeal_NormReferenceIdeal := by
  intro m g m' g' _ hagree
  refine ⟨_, _, Cert.NormIdeal.Hand.run_results m g,
    θ_run_mono (Cert.NormReferenceIdeal.Hand.run_results m' g') fun r h c => ?_⟩
  have hW : m' ((c.tc : Thread Cert.NormReferenceIdeal.nD Cert.NormReferenceIdeal.τ).loc Cert.NormReferenceIdeal.main_arg0)
      = Cert.NormIdeal.Hand.aW m c := hagree c
  obtain ⟨h0, h1, hk⟩ := h c
  exact ⟨h0.trans (congrArg Cert.Spec.naArr hW), h1.trans (congrArg Cert.Spec.amaxArr hW), hk⟩

/-- All claims. -/
theorem claim : Cert.Claim := ⟨Cert.Kernel.Gen.facts, Cert.KernelIdeal.Gen.facts, Cert.ReferenceIdeal.Gen.facts,
  Cert.Tokens.Gen.facts, Cert.TokensIdeal.Gen.facts, Cert.TokensReferenceIdeal.Gen.facts,
  Cert.Gradient.Gen.facts, Cert.GradientIdeal.Gen.facts, Cert.GradientReferenceIdeal.Gen.facts,
  Cert.Norm.Gen.facts, Cert.NormIdeal.Gen.facts, Cert.NormReferenceIdeal.Gen.facts,
  fun m ρ _ => Cert.Kernel.Gen.frame m ρ, fun m ρ _ => Cert.KernelIdeal.Gen.frame m ρ,
  fun m ρ _ => Cert.ReferenceIdeal.Gen.frame m ρ,
  fun m ρ _ => Cert.Tokens.Hand.frame m ρ, fun m ρ _ => Cert.TokensIdeal.Hand.frame m ρ,
  fun m ρ _ => Cert.TokensReferenceIdeal.Gen.frame m ρ,
  fun m ρ _ => Cert.Gradient.Hand.frame m ρ, fun m ρ _ => Cert.GradientIdeal.Hand.frame m ρ,
  fun m ρ _ => Cert.GradientReferenceIdeal.Hand.frame m ρ,
  fun m ρ _ => Cert.Norm.Gen.frame m ρ, fun m ρ _ => Cert.NormIdeal.Gen.frame m ρ,
  fun m ρ _ => Cert.NormReferenceIdeal.Hand.frame m ρ, trivial, algebraic, trivial, algebraic_tokens, trivial, algebraic_gradient,
  trivial, algebraic_norm⟩

end Cert.Proof

end
